-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![512, 256]⟩ ⟨2, ![512, 1024]⟩ 1 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![256, 512]⟩ ⟨2, ![1024, 512]⟩ 0 4 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![256, 512]⟩ ⟨2, ![1024, 512]⟩ 0 4 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨2, ![256, 512]⟩ ⟨2, ![1024, 512]⟩ 0 4 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.block ⟨2, ![512, 256]⟩ ⟨2, ![512, 1024]⟩ 1 4 c (m' (((0 : Dev Cert.ReferenceIdeal.nD).tc : Thread Cert.ReferenceIdeal.nD Cert.ReferenceIdeal.τ).loc Cert.ReferenceIdeal.main_arg4))
      ∧ m ((c.tc : Thread Cert.KernelIdeal.nD Cert.KernelIdeal.τ).loc Cert.KernelIdeal.main_arg5) = Layout.block ⟨2, ![512, 256]⟩ ⟨2, ![512, 1024]⟩ 1 4 c (m' (((0 : Dev Cert.ReferenceIdeal.nD).tc : Thread Cert.ReferenceIdeal.nD Cert.ReferenceIdeal.τ).loc Cert.ReferenceIdeal.main_arg5))
      ∧ m ((c.tc : Thread Cert.KernelIdeal.nD Cert.KernelIdeal.τ).loc Cert.KernelIdeal.main_arg6) = Layout.block ⟨2, ![512, 256]⟩ ⟨2, ![512, 1024]⟩ 1 4 c (m' (((0 : Dev Cert.ReferenceIdeal.nD).tc : Thread Cert.ReferenceIdeal.nD Cert.ReferenceIdeal.τ).loc Cert.ReferenceIdeal.main_arg6))) →
    ∃ (v0 : Buf (Elt Ideal) (((0 : Dev Cert.ReferenceIdeal.nD).tc : Thread Cert.ReferenceIdeal.nD Cert.ReferenceIdeal.τ).loc Cert.ReferenceIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![512, 256]⟩ ⟨2, ![512, 1024]⟩ 1 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v11) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4)
          ∧ r.2.mem (((0 : Dev Cert.ReferenceIdeal.nD).tc : Thread Cert.ReferenceIdeal.nD Cert.ReferenceIdeal.τ).loc Cert.ReferenceIdeal.main_arg5) = m' (((0 : Dev Cert.ReferenceIdeal.nD).tc : Thread Cert.ReferenceIdeal.nD Cert.ReferenceIdeal.τ).loc Cert.ReferenceIdeal.main_arg5)
          ∧ r.2.mem (((0 : Dev Cert.ReferenceIdeal.nD).tc : Thread Cert.ReferenceIdeal.nD Cert.ReferenceIdeal.τ).loc Cert.ReferenceIdeal.main_arg6) = m' (((0 : Dev Cert.ReferenceIdeal.nD).tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S512x256 : Shape := ⟨2, ![512, 256]⟩
abbrev S256x512 : Shape := ⟨2, ![256, 512]⟩
abbrev S512x512 : Shape := ⟨2, ![512, 512]⟩
abbrev S2x128x512 : Shape := ⟨3, ![2, 128, 512]⟩
abbrev S24 : Shape := ⟨1, ![24]⟩
abbrev S_ : Shape := ⟨0, ![]⟩
abbrev S128x256 : Shape := ⟨2, ![128, 256]⟩
abbrev S256x128 : Shape := ⟨2, ![256, 128]⟩
abbrev S128x128 : Shape := ⟨2, ![128, 128]⟩
abbrev S1 : Shape := ⟨1, ![1]⟩
abbrev S1x128x512 : Shape := ⟨3, ![1, 128, 512]⟩
abbrev S128x512 : Shape := ⟨2, ![128, 512]⟩
abbrev S1x128x128 : Shape := ⟨3, ![1, 128, 128]⟩

abbrev nBuf : Space → Nat
  | .hbm => 8
  | .vmem => 13
  | .smem => 0
  | _ => 0

abbrev bufTy : (tb : Table) → Fin (tcTables nBuf tb) → BufTy
  | .hbm, ⟨0, _⟩ => ⟨S512x256, .f32⟩
  | .hbm, ⟨1, _⟩ => ⟨S256x512, .f32⟩
  | .hbm, ⟨2, _⟩ => ⟨S256x512, .f32⟩
  | .hbm, ⟨3, _⟩ => ⟨S256x512, .f32⟩
  | .hbm, ⟨4, _⟩ => ⟨S512x256, .f32⟩
  | .hbm, ⟨5, _⟩ => ⟨S512x256, .f32⟩
  | .hbm, ⟨6, _⟩ => ⟨S512x256, .f32⟩
  | .hbm, ⟨7, _⟩ => ⟨S512x256, .f32⟩
  | .local _ .vmem, ⟨0, _⟩ => ⟨S512x256, .f32⟩
  | .local _ .vmem, ⟨1, _⟩ => ⟨S256x512, .f32⟩
  | .local _ .vmem, ⟨2, _⟩ => ⟨S512x256, .f32⟩
  | .local _ .vmem, ⟨3, _⟩ => ⟨S256x512, .f32⟩
  | .local _ .vmem, ⟨4, _⟩ => ⟨S512x256, .f32⟩
  | .local _ .vmem, ⟨5, _⟩ => ⟨S256x512, .f32⟩
  | .local _ .vmem, ⟨6, _⟩ => ⟨S512x256, .f32⟩
  | .local _ .vmem, ⟨7, _⟩ => ⟨S512x256, .f32⟩
  | .local _ .vmem, ⟨8, _⟩ => ⟨S512x512, .f32⟩
  | .local _ .vmem, ⟨9, _⟩ => ⟨S512x512, .f32⟩
  | .local _ .vmem, ⟨10, _⟩ => ⟨S512x256, .f32⟩
  | .local _ .vmem, ⟨11, _⟩ => ⟨S2x128x512, .f32⟩
  | .local _ .vmem, ⟨12, _⟩ => ⟨S2x128x512, .f32⟩
  | _, _ => ⟨S512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 1 → Bool
  | ⟨0, _⟩ => false
  | _ => false

abbrev dmaSemScoped : Fin 56 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | _ => false

abbrev sig : RefSig :=
  (ofTc nBuf bufTy 1 56 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v1 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_scratch4 : Ref sig .tc := ⟨.vmem, 12, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_11 : BitVec 32 := 1#32
  let v18 : BitVec 32 := Scalar.muli v3 c1_i32_11
  let v19 : BitVec 32 := Scalar.addi c0_i32 v18
  v19.toNat
def k0_dev2 (d0 : Dev nD) : Nat :=
  let c0_i32_14 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_13 : BitVec 32 := 1#32
  let v20 : BitVec 32 := Scalar.muli v4 c1_i32_13
  let v21 : BitVec 32 := Scalar.addi c0_i32_14 v20
  v21.toNat
def k0_off1 (d0 : Dev nD) : Fin 2 → Nat :=
  let c1_i32_4 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.shrsi v2 c1_i32_1
  let v6 : BitVec 32 := Scalar.xori v2 v5
  let c1_i32_2 : BitVec 32 := 1#32
  let v7 : BitVec 32 := Scalar.andi v6 c1_i32_2
  let v10 : BitVec 32 := Scalar.subi c1_i32_4 v7
  let c128_i32_5 : BitVec 32 := 128#32
  let v11 : BitVec 32 := Scalar.muli v10 c128_i32_5
  let v22 : Index := Scalar.indexCast v11
  let c0 : Index := 0#32
  ![v22.toNat, 0]
def k0_off2 (d0 : Dev nD) : Fin 2 → Nat :=
  let c1_i32_4 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.shrsi v2 c1_i32_1
  let v6 : BitVec 32 := Scalar.xori v2 v5
  let c1_i32_2 : BitVec 32 := 1#32
  let v7 : BitVec 32 := Scalar.andi v6 c1_i32_2
  let v10 : BitVec 32 := Scalar.subi c1_i32_4 v7
  let c128_i32_5 : BitVec 32 := 128#32
  let v11 : BitVec 32 := Scalar.muli v10 c128_i32_5
  let v28 : Index := Scalar.indexCast v11
  let c0_17 : Index := 0#32
  ![v28.toNat, 0]
def k0_off3 (d0 : Dev nD) : Fin 2 → Nat :=
  let c1_i32_4 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.shrsi v2 c1_i32_1
  let v6 : BitVec 32 := Scalar.xori v2 v5
  let c1_i32_2 : BitVec 32 := 1#32
  let v7 : BitVec 32 := Scalar.andi v6 c1_i32_2
  let v10 : BitVec 32 := Scalar.subi c1_i32_4 v7
  let c128_i32_5 : BitVec 32 := 128#32
  let v11 : BitVec 32 := Scalar.muli v10 c128_i32_5
  let c0_i32_27 : BitVec 32 := 0#32
  ![v11.toNat, 0]
def k0_dev3 (d0 : Dev nD) : Nat :=
  let c0_i32_22 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_21 : BitVec 32 := 1#32
  let v32 : BitVec 32 := Scalar.muli v3 c1_i32_21
  let v33 : BitVec 32 := Scalar.addi c0_i32_22 v32
  v33.toNat
def k0_off4 (d0 : Dev nD) : Fin 2 → Nat :=
  let c256_i32_9 : BitVec 32 := 256#32
  let c1_i32_7 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v8 : BitVec 32 := Scalar.shrsi v2 c1_i32_3
  let v14 : BitVec 32 := Scalar.subi c1_i32_7 v8
  let c128_i32_8 : BitVec 32 := 128#32
  let v15 : BitVec 32 := Scalar.muli v14 c128_i32_8
  let v16 : BitVec 32 := Scalar.addi c256_i32_9 v15
  let v42 : Index := Scalar.indexCast v16
  let c0_28 : Index := 0#32
  ![v42.toNat, 0]
def k0_off5 (d0 : Dev nD) : Fin 2 → Nat :=
  let c256_i32_9 : BitVec 32 := 256#32
  let c1_i32_7 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v8 : BitVec 32 := Scalar.shrsi v2 c1_i32_3
  let v14 : BitVec 32 := Scalar.subi c1_i32_7 v8
  let c128_i32_8 : BitVec 32 := 128#32
  let v15 : BitVec 32 := Scalar.muli v14 c128_i32_8
  let v16 : BitVec 32 := Scalar.addi c256_i32_9 v15
  let v48 : Index := Scalar.indexCast v16
  let c0_32 : Index := 0#32
  ![v48.toNat, 0]
def k0_off6 (d0 : Dev nD) : Fin 2 → Nat :=
  let c256_i32_9 : BitVec 32 := 256#32
  let c1_i32_7 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v8 : BitVec 32 := Scalar.shrsi v2 c1_i32_3
  let v14 : BitVec 32 := Scalar.subi c1_i32_7 v8
  let c128_i32_8 : BitVec 32 := 128#32
  let v15 : BitVec 32 := Scalar.muli v14 c128_i32_8
  let v16 : BitVec 32 := Scalar.addi c256_i32_9 v15
  let c0_i32_42 : BitVec 32 := 0#32
  ![v16.toNat, 0]
def k0_dev4 (d0 : Dev nD) : Nat :=
  let c0_i32_37 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_36 : BitVec 32 := 1#32
  let v52 : BitVec 32 := Scalar.muli v4 c1_i32_36
  let v53 : BitVec 32 := Scalar.addi c0_i32_37 v52
  v53.toNat
def k0_off7 (d0 : Dev nD) : Fin 2 → Nat :=
  let c1_i32_4 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.shrsi v2 c1_i32_1
  let v6 : BitVec 32 := Scalar.xori v2 v5
  let c1_i32_2 : BitVec 32 := 1#32
  let v7 : BitVec 32 := Scalar.andi v6 c1_i32_2
  let v10 : BitVec 32 := Scalar.subi c1_i32_4 v7
  let c128_i32_5 : BitVec 32 := 128#32
  let v11 : BitVec 32 := Scalar.muli v10 c128_i32_5
  let v68 : Index := Scalar.indexCast v11
  let c128_46 : Index := 128#32
  ![v68.toNat, 128]
def k0_off8 (d0 : Dev nD) : Fin 2 → Nat :=
  let c1_i32_4 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.shrsi v2 c1_i32_1
  let v6 : BitVec 32 := Scalar.xori v2 v5
  let c1_i32_2 : BitVec 32 := 1#32
  let v7 : BitVec 32 := Scalar.andi v6 c1_i32_2
  let v10 : BitVec 32 := Scalar.subi c1_i32_4 v7
  let c128_i32_5 : BitVec 32 := 128#32
  let v11 : BitVec 32 := Scalar.muli v10 c128_i32_5
  let c128_i32_56 : BitVec 32 := 128#32
  ![v11.toNat, 128]
def k0_dev5 (d0 : Dev nD) : Nat :=
  let c0_i32_51 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_50 : BitVec 32 := 1#32
  let v72 : BitVec 32 := Scalar.muli v3 c1_i32_50
  let v73 : BitVec 32 := Scalar.addi c0_i32_51 v72
  v73.toNat
def k0_off9 (d0 : Dev nD) : Fin 2 → Nat :=
  let c256_i32_9 : BitVec 32 := 256#32
  let c1_i32_7 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v8 : BitVec 32 := Scalar.shrsi v2 c1_i32_3
  let v14 : BitVec 32 := Scalar.subi c1_i32_7 v8
  let c128_i32_8 : BitVec 32 := 128#32
  let v15 : BitVec 32 := Scalar.muli v14 c128_i32_8
  let v16 : BitVec 32 := Scalar.addi c256_i32_9 v15
  let v88 : Index := Scalar.indexCast v16
  let c128_61 : Index := 128#32
  ![v88.toNat, 128]
def k0_off10 (d0 : Dev nD) : Fin 2 → Nat :=
  let c256_i32_9 : BitVec 32 := 256#32
  let c1_i32_7 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v8 : BitVec 32 := Scalar.shrsi v2 c1_i32_3
  let v14 : BitVec 32 := Scalar.subi c1_i32_7 v8
  let c128_i32_8 : BitVec 32 := 128#32
  let v15 : BitVec 32 := Scalar.muli v14 c128_i32_8
  let v16 : BitVec 32 := Scalar.addi c256_i32_9 v15
  let c128_i32_70 : BitVec 32 := 128#32
  ![v16.toNat, 128]
def k0_dev6 (d0 : Dev nD) : Nat :=
  let c0_i32_65 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_64 : BitVec 32 := 1#32
  let v92 : BitVec 32 := Scalar.muli v4 c1_i32_64
  let v93 : BitVec 32 := Scalar.addi c0_i32_65 v92
  v93.toNat
def k0_off11 (d0 : Dev nD) : Fin 2 → Nat :=
  let c1_i32_4 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.shrsi v2 c1_i32_1
  let v6 : BitVec 32 := Scalar.xori v2 v5
  let c1_i32_2 : BitVec 32 := 1#32
  let v7 : BitVec 32 := Scalar.andi v6 c1_i32_2
  let v10 : BitVec 32 := Scalar.subi c1_i32_4 v7
  let c128_i32_5 : BitVec 32 := 128#32
  let v11 : BitVec 32 := Scalar.muli v10 c128_i32_5
  let v108 : Index := Scalar.indexCast v11
  let c256_74 : Index := 256#32
  ![v108.toNat, 256]
def k0_off12 (d0 : Dev nD) : Fin 2 → Nat :=
  let c1_i32_4 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.shrsi v2 c1_i32_1
  let v6 : BitVec 32 := Scalar.xori v2 v5
  let c1_i32_2 : BitVec 32 := 1#32
  let v7 : BitVec 32 := Scalar.andi v6 c1_i32_2
  let v10 : BitVec 32 := Scalar.subi c1_i32_4 v7
  let c128_i32_5 : BitVec 32 := 128#32
  let v11 : BitVec 32 := Scalar.muli v10 c128_i32_5
  let c256_i32_84 : BitVec 32 := 256#32
  ![v11.toNat, 256]
def k0_dev7 (d0 : Dev nD) : Nat :=
  let c0_i32_79 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_78 : BitVec 32 := 1#32
  let v112 : BitVec 32 := Scalar.muli v3 c1_i32_78
  let v113 : BitVec 32 := Scalar.addi c0_i32_79 v112
  v113.toNat
def k0_off13 (d0 : Dev nD) : Fin 2 → Nat :=
  let c256_i32_9 : BitVec 32 := 256#32
  let c1_i32_7 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v8 : BitVec 32 := Scalar.shrsi v2 c1_i32_3
  let v14 : BitVec 32 := Scalar.subi c1_i32_7 v8
  let c128_i32_8 : BitVec 32 := 128#32
  let v15 : BitVec 32 := Scalar.muli v14 c128_i32_8
  let v16 : BitVec 32 := Scalar.addi c256_i32_9 v15
  let v128 : Index := Scalar.indexCast v16
  let c256_89 : Index := 256#32
  ![v128.toNat, 256]
def k0_off14 (d0 : Dev nD) : Fin 2 → Nat :=
  let c256_i32_9 : BitVec 32 := 256#32
  let c1_i32_7 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v8 : BitVec 32 := Scalar.shrsi v2 c1_i32_3
  let v14 : BitVec 32 := Scalar.subi c1_i32_7 v8
  let c128_i32_8 : BitVec 32 := 128#32
  let v15 : BitVec 32 := Scalar.muli v14 c128_i32_8
  let v16 : BitVec 32 := Scalar.addi c256_i32_9 v15
  let c256_i32_98 : BitVec 32 := 256#32
  ![v16.toNat, 256]
def k0_dev8 (d0 : Dev nD) : Nat :=
  let c0_i32_93 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_92 : BitVec 32 := 1#32
  let v132 : BitVec 32 := Scalar.muli v4 c1_i32_92
  let v133 : BitVec 32 := Scalar.addi c0_i32_93 v132
  v133.toNat
def k0_off15 (d0 : Dev nD) : Fin 2 → Nat :=
  let c1_i32_4 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.shrsi v2 c1_i32_1
  let v6 : BitVec 32 := Scalar.xori v2 v5
  let c1_i32_2 : BitVec 32 := 1#32
  let v7 : BitVec 32 := Scalar.andi v6 c1_i32_2
  let v10 : BitVec 32 := Scalar.subi c1_i32_4 v7
  let c128_i32_5 : BitVec 32 := 128#32
  let v11 : BitVec 32 := Scalar.muli v10 c128_i32_5
  let v148 : Index := Scalar.indexCast v11
  let c384_102 : Index := 384#32
  ![v148.toNat, 384]
def k0_off16 (d0 : Dev nD) : Fin 2 → Nat :=
  let c1_i32_4 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.shrsi v2 c1_i32_1
  let v6 : BitVec 32 := Scalar.xori v2 v5
  let c1_i32_2 : BitVec 32 := 1#32
  let v7 : BitVec 32 := Scalar.andi v6 c1_i32_2
  let v10 : BitVec 32 := Scalar.subi c1_i32_4 v7
  let c128_i32_5 : BitVec 32 := 128#32
  let v11 : BitVec 32 := Scalar.muli v10 c128_i32_5
  let c384_i32_111 : BitVec 32 := 384#32
  ![v11.toNat, 384]
def k0_dev9 (d0 : Dev nD) : Nat :=
  let c0_i32_107 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_106 : BitVec 32 := 1#32
  let v152 : BitVec 32 := Scalar.muli v3 c1_i32_106
  let v153 : BitVec 32 := Scalar.addi c0_i32_107 v152
  v153.toNat
def k0_off17 (d0 : Dev nD) : Fin 2 → Nat :=
  let c256_i32_9 : BitVec 32 := 256#32
  let c1_i32_7 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v8 : BitVec 32 := Scalar.shrsi v2 c1_i32_3
  let v14 : BitVec 32 := Scalar.subi c1_i32_7 v8
  let c128_i32_8 : BitVec 32 := 128#32
  let v15 : BitVec 32 := Scalar.muli v14 c128_i32_8
  let v16 : BitVec 32 := Scalar.addi c256_i32_9 v15
  let v168 : Index := Scalar.indexCast v16
  let c384_116 : Index := 384#32
  ![v168.toNat, 384]
def k0_off18 (d0 : Dev nD) : Fin 2 → Nat :=
  let c256_i32_9 : BitVec 32 := 256#32
  let c1_i32_7 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v8 : BitVec 32 := Scalar.shrsi v2 c1_i32_3
  let v14 : BitVec 32 := Scalar.subi c1_i32_7 v8
  let c128_i32_8 : BitVec 32 := 128#32
  let v15 : BitVec 32 := Scalar.muli v14 c128_i32_8
  let v16 : BitVec 32 := Scalar.addi c256_i32_9 v15
  let c384_i32_125 : BitVec 32 := 384#32
  ![v16.toNat, 384]
def k0_dev10 (d0 : Dev nD) : Nat :=
  let c0_i32_120 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_119 : BitVec 32 := 1#32
  let v172 : BitVec 32 := Scalar.muli v4 c1_i32_119
  let v173 : BitVec 32 := Scalar.addi c0_i32_120 v172
  v173.toNat
def k0_off19 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.shrsi v2 c1_i32_1
  let v6 : BitVec 32 := Scalar.xori v2 v5
  let c1_i32_2 : BitVec 32 := 1#32
  let v7 : BitVec 32 := Scalar.andi v6 c1_i32_2
  let c128_i32 : BitVec 32 := 128#32
  let v9 : BitVec 32 := Scalar.muli v7 c128_i32
  let v182 : Index := Scalar.indexCast v9
  let c0_126 : Index := 0#32
  ![v182.toNat, 0]
def k0_off20 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.shrsi v2 c1_i32_1
  let v6 : BitVec 32 := Scalar.xori v2 v5
  let c1_i32_2 : BitVec 32 := 1#32
  let v7 : BitVec 32 := Scalar.andi v6 c1_i32_2
  let c128_i32 : BitVec 32 := 128#32
  let v9 : BitVec 32 := Scalar.muli v7 c128_i32
  let v188 : Index := Scalar.indexCast v9
  let c0_130 : Index := 0#32
  ![v188.toNat, 0]
def k0_off21 (d0 : Dev nD) : Fin 2 → Nat :=
  let c256_i32 : BitVec 32 := 256#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v8 : BitVec 32 := Scalar.shrsi v2 c1_i32_3
  let c128_i32_6 : BitVec 32 := 128#32
  let v12 : BitVec 32 := Scalar.muli v8 c128_i32_6
  let v13 : BitVec 32 := Scalar.addi c256_i32 v12
  let v192 : Index := Scalar.indexCast v13
  let c0_131 : Index := 0#32
  ![v192.toNat, 0]
def k0_off22 (d0 : Dev nD) : Fin 2 → Nat :=
  let c256_i32 : BitVec 32 := 256#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v8 : BitVec 32 := Scalar.shrsi v2 c1_i32_3
  let c128_i32_6 : BitVec 32 := 128#32
  let v12 : BitVec 32 := Scalar.muli v8 c128_i32_6
  let v13 : BitVec 32 := Scalar.addi c256_i32 v12
  let v198 : Index := Scalar.indexCast v13
  let c0_135 : Index := 0#32
  ![v198.toNat, 0]
def k0_off23 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.shrsi v2 c1_i32_1
  let v6 : BitVec 32 := Scalar.xori v2 v5
  let c1_i32_2 : BitVec 32 := 1#32
  let v7 : BitVec 32 := Scalar.andi v6 c1_i32_2
  let c128_i32 : BitVec 32 := 128#32
  let v9 : BitVec 32 := Scalar.muli v7 c128_i32
  let v208 : Index := Scalar.indexCast v9
  let c128_140 : Index := 128#32
  ![v208.toNat, 128]
def k0_off24 (d0 : Dev nD) : Fin 2 → Nat :=
  let c256_i32 : BitVec 32 := 256#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v8 : BitVec 32 := Scalar.shrsi v2 c1_i32_3
  let c128_i32_6 : BitVec 32 := 128#32
  let v12 : BitVec 32 := Scalar.muli v8 c128_i32_6
  let v13 : BitVec 32 := Scalar.addi c256_i32 v12
  let v218 : Index := Scalar.indexCast v13
  let c128_145 : Index := 128#32
  ![v218.toNat, 128]
def k0_off25 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.shrsi v2 c1_i32_1
  let v6 : BitVec 32 := Scalar.xori v2 v5
  let c1_i32_2 : BitVec 32 := 1#32
  let v7 : BitVec 32 := Scalar.andi v6 c1_i32_2
  let c128_i32 : BitVec 32 := 128#32
  let v9 : BitVec 32 := Scalar.muli v7 c128_i32
  let v228 : Index := Scalar.indexCast v9
  let c256_150 : Index := 256#32
  ![v228.toNat, 256]
def k0_off26 (d0 : Dev nD) : Fin 2 → Nat :=
  let c256_i32 : BitVec 32 := 256#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v8 : BitVec 32 := Scalar.shrsi v2 c1_i32_3
  let c128_i32_6 : BitVec 32 := 128#32
  let v12 : BitVec 32 := Scalar.muli v8 c128_i32_6
  let v13 : BitVec 32 := Scalar.addi c256_i32 v12
  let v238 : Index := Scalar.indexCast v13
  let c256_155 : Index := 256#32
  ![v238.toNat, 256]
def k0_off27 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.shrsi v2 c1_i32_1
  let v6 : BitVec 32 := Scalar.xori v2 v5
  let c1_i32_2 : BitVec 32 := 1#32
  let v7 : BitVec 32 := Scalar.andi v6 c1_i32_2
  let c128_i32 : BitVec 32 := 128#32
  let v9 : BitVec 32 := Scalar.muli v7 c128_i32
  let v248 : Index := Scalar.indexCast v9
  let c384_160 : Index := 384#32
  ![v248.toNat, 384]
def k0_off28 (d0 : Dev nD) : Fin 2 → Nat :=
  let c256_i32 : BitVec 32 := 256#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v8 : BitVec 32 := Scalar.shrsi v2 c1_i32_3
  let c128_i32_6 : BitVec 32 := 128#32
  let v12 : BitVec 32 := Scalar.muli v8 c128_i32_6
  let v13 : BitVec 32 := Scalar.addi c256_i32 v12
  let v258 : Index := Scalar.indexCast v13
  let c384_165 : Index := 384#32
  ![v258.toNat, 384]
def k0_off29 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.shrsi v2 c1_i32_1
  let v6 : BitVec 32 := Scalar.xori v2 v5
  let c1_i32_2 : BitVec 32 := 1#32
  let v7 : BitVec 32 := Scalar.andi v6 c1_i32_2
  let c128_i32 : BitVec 32 := 128#32
  let v9 : BitVec 32 := Scalar.muli v7 c128_i32
  let c0_i32_189 : BitVec 32 := 0#32
  ![v9.toNat, 0]
def k0_dev11 (d0 : Dev nD) : Nat :=
  let c0_i32_184 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_183 : BitVec 32 := 1#32
  let v279 : BitVec 32 := Scalar.muli v4 c1_i32_183
  let v280 : BitVec 32 := Scalar.addi c0_i32_184 v279
  v280.toNat
def k0_off30 (d0 : Dev nD) : Fin 2 → Nat :=
  let c256_i32 : BitVec 32 := 256#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v8 : BitVec 32 := Scalar.shrsi v2 c1_i32_3
  let c128_i32_6 : BitVec 32 := 128#32
  let v12 : BitVec 32 := Scalar.muli v8 c128_i32_6
  let v13 : BitVec 32 := Scalar.addi c256_i32 v12
  let c0_i32_212 : BitVec 32 := 0#32
  ![v13.toNat, 0]
def k0_dev12 (d0 : Dev nD) : Nat :=
  let c0_i32_207 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_206 : BitVec 32 := 1#32
  let v306 : BitVec 32 := Scalar.muli v3 c1_i32_206
  let v307 : BitVec 32 := Scalar.addi c0_i32_207 v306
  v307.toNat
def k0_off31 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.shrsi v2 c1_i32_1
  let v6 : BitVec 32 := Scalar.xori v2 v5
  let c1_i32_2 : BitVec 32 := 1#32
  let v7 : BitVec 32 := Scalar.andi v6 c1_i32_2
  let c128_i32 : BitVec 32 := 128#32
  let v9 : BitVec 32 := Scalar.muli v7 c128_i32
  let c128_i32_236 : BitVec 32 := 128#32
  ![v9.toNat, 128]
def k0_dev13 (d0 : Dev nD) : Nat :=
  let c0_i32_231 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_230 : BitVec 32 := 1#32
  let v333 : BitVec 32 := Scalar.muli v4 c1_i32_230
  let v334 : BitVec 32 := Scalar.addi c0_i32_231 v333
  v334.toNat
def k0_off32 (d0 : Dev nD) : Fin 2 → Nat :=
  let c256_i32 : BitVec 32 := 256#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v8 : BitVec 32 := Scalar.shrsi v2 c1_i32_3
  let c128_i32_6 : BitVec 32 := 128#32
  let v12 : BitVec 32 := Scalar.muli v8 c128_i32_6
  let v13 : BitVec 32 := Scalar.addi c256_i32 v12
  let c128_i32_260 : BitVec 32 := 128#32
  ![v13.toNat, 128]
def k0_dev14 (d0 : Dev nD) : Nat :=
  let c0_i32_255 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_254 : BitVec 32 := 1#32
  let v360 : BitVec 32 := Scalar.muli v3 c1_i32_254
  let v361 : BitVec 32 := Scalar.addi c0_i32_255 v360
  v361.toNat
def k0_off33 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.shrsi v2 c1_i32_1
  let v6 : BitVec 32 := Scalar.xori v2 v5
  let c1_i32_2 : BitVec 32 := 1#32
  let v7 : BitVec 32 := Scalar.andi v6 c1_i32_2
  let c128_i32 : BitVec 32 := 128#32
  let v9 : BitVec 32 := Scalar.muli v7 c128_i32
  let c256_i32_284 : BitVec 32 := 256#32
  ![v9.toNat, 256]
def k0_dev15 (d0 : Dev nD) : Nat :=
  let c0_i32_279 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_278 : BitVec 32 := 1#32
  let v387 : BitVec 32 := Scalar.muli v4 c1_i32_278
  let v388 : BitVec 32 := Scalar.addi c0_i32_279 v387
  v388.toNat
def k0_off34 (d0 : Dev nD) : Fin 2 → Nat :=
  let c256_i32 : BitVec 32 := 256#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v8 : BitVec 32 := Scalar.shrsi v2 c1_i32_3
  let c128_i32_6 : BitVec 32 := 128#32
  let v12 : BitVec 32 := Scalar.muli v8 c128_i32_6
  let v13 : BitVec 32 := Scalar.addi c256_i32 v12
  let c256_i32_308 : BitVec 32 := 256#32
  ![v13.toNat, 256]
def k0_dev16 (d0 : Dev nD) : Nat :=
  let c0_i32_303 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_302 : BitVec 32 := 1#32
  let v414 : BitVec 32 := Scalar.muli v3 c1_i32_302
  let v415 : BitVec 32 := Scalar.addi c0_i32_303 v414
  v415.toNat
def k0_off35 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.shrsi v2 c1_i32_1
  let v6 : BitVec 32 := Scalar.xori v2 v5
  let c1_i32_2 : BitVec 32 := 1#32
  let v7 : BitVec 32 := Scalar.andi v6 c1_i32_2
  let c128_i32 : BitVec 32 := 128#32
  let v9 : BitVec 32 := Scalar.muli v7 c128_i32
  let c384_i32_332 : BitVec 32 := 384#32
  ![v9.toNat, 384]
def k0_dev17 (d0 : Dev nD) : Nat :=
  let c0_i32_327 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_326 : BitVec 32 := 1#32
  let v441 : BitVec 32 := Scalar.muli v4 c1_i32_326
  let v442 : BitVec 32 := Scalar.addi c0_i32_327 v441
  v442.toNat
def k0_off36 (d0 : Dev nD) : Fin 2 → Nat :=
  let c256_i32 : BitVec 32 := 256#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v8 : BitVec 32 := Scalar.shrsi v2 c1_i32_3
  let c128_i32_6 : BitVec 32 := 128#32
  let v12 : BitVec 32 := Scalar.muli v8 c128_i32_6
  let v13 : BitVec 32 := Scalar.addi c256_i32 v12
  let c384_i32_356 : BitVec 32 := 384#32
  ![v13.toNat, 384]
def k0_dev18 (d0 : Dev nD) : Nat :=
  let c0_i32_351 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_350 : BitVec 32 := 1#32
  let v468 : BitVec 32 := Scalar.muli v3 c1_i32_350
  let v469 : BitVec 32 := Scalar.addi c0_i32_351 v468
  v469.toNat
def k0_dev19 (d0 : Dev nD) : Nat :=
  let c0_i32_375 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_374 : BitVec 32 := 1#32
  let v497 : BitVec 32 := Scalar.muli v3 c1_i32_374
  let v498 : BitVec 32 := Scalar.addi c0_i32_375 v497
  v498.toNat
def k0_dev20 (d0 : Dev nD) : Nat :=
  let c0_i32_396 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_395 : BitVec 32 := 1#32
  let v524 : BitVec 32 := Scalar.muli v4 c1_i32_395
  let v525 : BitVec 32 := Scalar.addi c0_i32_396 v524
  v525.toNat
def k0_dev21 (d0 : Dev nD) : Nat :=
  let c0_i32_417 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_416 : BitVec 32 := 1#32
  let v551 : BitVec 32 := Scalar.muli v3 c1_i32_416
  let v552 : BitVec 32 := Scalar.addi c0_i32_417 v551
  v552.toNat
def k0_dev22 (d0 : Dev nD) : Nat :=
  let c0_i32_438 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_437 : BitVec 32 := 1#32
  let v578 : BitVec 32 := Scalar.muli v4 c1_i32_437
  let v579 : BitVec 32 := Scalar.addi c0_i32_438 v578
  v579.toNat
def k0_dev23 (d0 : Dev nD) : Nat :=
  let c0_i32_459 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_458 : BitVec 32 := 1#32
  let v605 : BitVec 32 := Scalar.muli v3 c1_i32_458
  let v606 : BitVec 32 := Scalar.addi c0_i32_459 v605
  v606.toNat
def k0_dev24 (d0 : Dev nD) : Nat :=
  let c0_i32_480 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_479 : BitVec 32 := 1#32
  let v632 : BitVec 32 := Scalar.muli v4 c1_i32_479
  let v633 : BitVec 32 := Scalar.addi c0_i32_480 v632
  v633.toNat
def k0_dev25 (d0 : Dev nD) : Nat :=
  let c0_i32_501 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_500 : BitVec 32 := 1#32
  let v659 : BitVec 32 := Scalar.muli v3 c1_i32_500
  let v660 : BitVec 32 := Scalar.addi c0_i32_501 v659
  v660.toNat
def k0_dev26 (d0 : Dev nD) : Nat :=
  let c0_i32_522 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_521 : BitVec 32 := 1#32
  let v686 : BitVec 32 := Scalar.muli v4 c1_i32_521
  let v687 : BitVec 32 := Scalar.addi c0_i32_522 v686
  v687.toNat
def k0_off37 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.shrsi v2 c1_i32_1
  let v6 : BitVec 32 := Scalar.xori v2 v5
  let c1_i32_2 : BitVec 32 := 1#32
  let v7 : BitVec 32 := Scalar.andi v6 c1_i32_2
  let c128_i32 : BitVec 32 := 128#32
  let v9 : BitVec 32 := Scalar.muli v7 c128_i32
  let v694 : Index := Scalar.indexCast v9
  let c0_525 : Index := 0#32
  ![v694.toNat, 0]
def k0_off38 (d0 : Dev nD) : Fin 2 → Nat :=
  let c256_i32 : BitVec 32 := 256#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v8 : BitVec 32 := Scalar.shrsi v2 c1_i32_3
  let c128_i32_6 : BitVec 32 := 128#32
  let v12 : BitVec 32 := Scalar.muli v8 c128_i32_6
  let v13 : BitVec 32 := Scalar.addi c256_i32 v12
  let v703 : Index := Scalar.indexCast v13
  let c0_530 : Index := 0#32
  ![v703.toNat, 0]
def k0_off39 (d0 : Dev nD) : Fin 2 → Nat :=
  let c1_i32_4 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.shrsi v2 c1_i32_1
  let v6 : BitVec 32 := Scalar.xori v2 v5
  let c1_i32_2 : BitVec 32 := 1#32
  let v7 : BitVec 32 := Scalar.andi v6 c1_i32_2
  let v10 : BitVec 32 := Scalar.subi c1_i32_4 v7
  let c128_i32_5 : BitVec 32 := 128#32
  let v11 : BitVec 32 := Scalar.muli v10 c128_i32_5
  let v736 : Index := Scalar.indexCast v11
  let c0_559 : Index := 0#32
  ![v736.toNat, 0]
def k0_off40 (d0 : Dev nD) : Fin 2 → Nat :=
  let c256_i32_9 : BitVec 32 := 256#32
  let c1_i32_7 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v8 : BitVec 32 := Scalar.shrsi v2 c1_i32_3
  let v14 : BitVec 32 := Scalar.subi c1_i32_7 v8
  let c128_i32_8 : BitVec 32 := 128#32
  let v15 : BitVec 32 := Scalar.muli v14 c128_i32_8
  let v16 : BitVec 32 := Scalar.addi c256_i32_9 v15
  let v769 : Index := Scalar.indexCast v16
  let c0_588 : Index := 0#32
  ![v769.toNat, 0]
def k0_dev27 (d0 : Dev nD) : Nat :=
  let c0_i32_786 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_785 : BitVec 32 := 1#32
  let v915 : BitVec 32 := Scalar.muli v3 c1_i32_785
  let v916 : BitVec 32 := Scalar.addi c0_i32_786 v915
  v916.toNat
def k0_dev28 (d0 : Dev nD) : Nat :=
  let c0_i32_801 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_800 : BitVec 32 := 1#32
  let v934 : BitVec 32 := Scalar.muli v4 c1_i32_800
  let v935 : BitVec 32 := Scalar.addi c0_i32_801 v934
  v935.toNat
def k0_dev29 (d0 : Dev nD) : Nat :=
  let c0_i32_816 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_815 : BitVec 32 := 1#32
  let v953 : BitVec 32 := Scalar.muli v3 c1_i32_815
  let v954 : BitVec 32 := Scalar.addi c0_i32_816 v953
  v954.toNat
def k0_dev30 (d0 : Dev nD) : Nat :=
  let c0_i32_831 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_830 : BitVec 32 := 1#32
  let v972 : BitVec 32 := Scalar.muli v4 c1_i32_830
  let v973 : BitVec 32 := Scalar.addi c0_i32_831 v972
  v973.toNat
def k0_dev31 (d0 : Dev nD) : Nat :=
  let c0_i32_846 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_845 : BitVec 32 := 1#32
  let v991 : BitVec 32 := Scalar.muli v3 c1_i32_845
  let v992 : BitVec 32 := Scalar.addi c0_i32_846 v991
  v992.toNat
def k0_dev32 (d0 : Dev nD) : Nat :=
  let c0_i32_861 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_860 : BitVec 32 := 1#32
  let v1010 : BitVec 32 := Scalar.muli v4 c1_i32_860
  let v1011 : BitVec 32 := Scalar.addi c0_i32_861 v1010
  v1011.toNat
def k0_dev33 (d0 : Dev nD) : Nat :=
  let c0_i32_876 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_875 : BitVec 32 := 1#32
  let v1029 : BitVec 32 := Scalar.muli v3 c1_i32_875
  let v1030 : BitVec 32 := Scalar.addi c0_i32_876 v1029
  v1030.toNat
def k0_dev34 (d0 : Dev nD) : Nat :=
  let c0_i32_891 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_890 : BitVec 32 := 1#32
  let v1048 : BitVec 32 := Scalar.muli v4 c1_i32_890
  let v1049 : BitVec 32 := Scalar.addi c0_i32_891 v1048
  v1049.toNat
def k0_dev35 (d0 : Dev nD) : Nat :=
  let c0_i32_956 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_955 : BitVec 32 := 1#32
  let v1147 : BitVec 32 := Scalar.muli v4 c1_i32_955
  let v1148 : BitVec 32 := Scalar.addi c0_i32_956 v1147
  v1148.toNat
def k0_dev36 (d0 : Dev nD) : Nat :=
  let c0_i32_981 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_980 : BitVec 32 := 1#32
  let v1174 : BitVec 32 := Scalar.muli v3 c1_i32_980
  let v1175 : BitVec 32 := Scalar.addi c0_i32_981 v1174
  v1175.toNat
def k0_dev37 (d0 : Dev nD) : Nat :=
  let c0_i32_1006 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_1005 : BitVec 32 := 1#32
  let v1201 : BitVec 32 := Scalar.muli v4 c1_i32_1005
  let v1202 : BitVec 32 := Scalar.addi c0_i32_1006 v1201
  v1202.toNat
def k0_dev38 (d0 : Dev nD) : Nat :=
  let c0_i32_1031 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_1030 : BitVec 32 := 1#32
  let v1228 : BitVec 32 := Scalar.muli v3 c1_i32_1030
  let v1229 : BitVec 32 := Scalar.addi c0_i32_1031 v1228
  v1229.toNat
def k0_dev39 (d0 : Dev nD) : Nat :=
  let c0_i32_1056 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_1055 : BitVec 32 := 1#32
  let v1255 : BitVec 32 := Scalar.muli v4 c1_i32_1055
  let v1256 : BitVec 32 := Scalar.addi c0_i32_1056 v1255
  v1256.toNat
def k0_dev40 (d0 : Dev nD) : Nat :=
  let c0_i32_1081 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_1080 : BitVec 32 := 1#32
  let v1282 : BitVec 32 := Scalar.muli v3 c1_i32_1080
  let v1283 : BitVec 32 := Scalar.addi c0_i32_1081 v1282
  v1283.toNat
def k0_dev41 (d0 : Dev nD) : Nat :=
  let c0_i32_1106 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_1105 : BitVec 32 := 1#32
  let v1309 : BitVec 32 := Scalar.muli v4 c1_i32_1105
  let v1310 : BitVec 32 := Scalar.addi c0_i32_1106 v1309
  v1310.toNat
def k0_dev42 (d0 : Dev nD) : Nat :=
  let c0_i32_1131 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_1130 : BitVec 32 := 1#32
  let v1336 : BitVec 32 := Scalar.muli v3 c1_i32_1130
  let v1337 : BitVec 32 := Scalar.addi c0_i32_1131 v1336
  v1337.toNat
def k0_dev43 (d0 : Dev nD) : Nat :=
  let c0_i32_1156 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_1155 : BitVec 32 := 1#32
  let v1365 : BitVec 32 := Scalar.muli v3 c1_i32_1155
  let v1366 : BitVec 32 := Scalar.addi c0_i32_1156 v1365
  v1366.toNat
def k0_dev44 (d0 : Dev nD) : Nat :=
  let c0_i32_1178 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_1177 : BitVec 32 := 1#32
  let v1392 : BitVec 32 := Scalar.muli v4 c1_i32_1177
  let v1393 : BitVec 32 := Scalar.addi c0_i32_1178 v1392
  v1393.toNat
def k0_dev45 (d0 : Dev nD) : Nat :=
  let c0_i32_1200 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_1199 : BitVec 32 := 1#32
  let v1419 : BitVec 32 := Scalar.muli v3 c1_i32_1199
  let v1420 : BitVec 32 := Scalar.addi c0_i32_1200 v1419
  v1420.toNat
def k0_dev46 (d0 : Dev nD) : Nat :=
  let c0_i32_1222 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_1221 : BitVec 32 := 1#32
  let v1446 : BitVec 32 := Scalar.muli v4 c1_i32_1221
  let v1447 : BitVec 32 := Scalar.addi c0_i32_1222 v1446
  v1447.toNat
def k0_dev47 (d0 : Dev nD) : Nat :=
  let c0_i32_1244 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_1243 : BitVec 32 := 1#32
  let v1473 : BitVec 32 := Scalar.muli v3 c1_i32_1243
  let v1474 : BitVec 32 := Scalar.addi c0_i32_1244 v1473
  v1474.toNat
def k0_dev48 (d0 : Dev nD) : Nat :=
  let c0_i32_1266 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_1265 : BitVec 32 := 1#32
  let v1500 : BitVec 32 := Scalar.muli v4 c1_i32_1265
  let v1501 : BitVec 32 := Scalar.addi c0_i32_1266 v1500
  v1501.toNat
def k0_dev49 (d0 : Dev nD) : Nat :=
  let c0_i32_1288 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_1287 : BitVec 32 := 1#32
  let v1527 : BitVec 32 := Scalar.muli v3 c1_i32_1287
  let v1528 : BitVec 32 := Scalar.addi c0_i32_1288 v1527
  v1528.toNat
def k0_dev50 (d0 : Dev nD) : Nat :=
  let c0_i32_1310 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_1309 : BitVec 32 := 1#32
  let v1554 : BitVec 32 := Scalar.muli v4 c1_i32_1309
  let v1555 : BitVec 32 := Scalar.addi c0_i32_1310 v1554
  v1555.toNat
def k0_dev51 (d0 : Dev nD) : Nat :=
  let c0_i32_1574 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_1573 : BitVec 32 := 1#32
  let v1783 : BitVec 32 := Scalar.muli v3 c1_i32_1573
  let v1784 : BitVec 32 := Scalar.addi c0_i32_1574 v1783
  v1784.toNat
def k0_dev52 (d0 : Dev nD) : Nat :=
  let c0_i32_1589 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_1588 : BitVec 32 := 1#32
  let v1802 : BitVec 32 := Scalar.muli v4 c1_i32_1588
  let v1803 : BitVec 32 := Scalar.addi c0_i32_1589 v1802
  v1803.toNat
def k0_dev53 (d0 : Dev nD) : Nat :=
  let c0_i32_1604 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_1603 : BitVec 32 := 1#32
  let v1821 : BitVec 32 := Scalar.muli v3 c1_i32_1603
  let v1822 : BitVec 32 := Scalar.addi c0_i32_1604 v1821
  v1822.toNat
def k0_dev54 (d0 : Dev nD) : Nat :=
  let c0_i32_1619 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_1618 : BitVec 32 := 1#32
  let v1840 : BitVec 32 := Scalar.muli v4 c1_i32_1618
  let v1841 : BitVec 32 := Scalar.addi c0_i32_1619 v1840
  v1841.toNat
def k0_dev55 (d0 : Dev nD) : Nat :=
  let c0_i32_1634 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_1633 : BitVec 32 := 1#32
  let v1859 : BitVec 32 := Scalar.muli v3 c1_i32_1633
  let v1860 : BitVec 32 := Scalar.addi c0_i32_1634 v1859
  v1860.toNat
def k0_dev56 (d0 : Dev nD) : Nat :=
  let c0_i32_1649 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_1648 : BitVec 32 := 1#32
  let v1878 : BitVec 32 := Scalar.muli v4 c1_i32_1648
  let v1879 : BitVec 32 := Scalar.addi c0_i32_1649 v1878
  v1879.toNat
def k0_dev57 (d0 : Dev nD) : Nat :=
  let c0_i32_1664 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_1663 : BitVec 32 := 1#32
  let v1897 : BitVec 32 := Scalar.muli v3 c1_i32_1663
  let v1898 : BitVec 32 := Scalar.addi c0_i32_1664 v1897
  v1898.toNat
def k0_dev58 (d0 : Dev nD) : Nat :=
  let c0_i32_1679 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_1678 : BitVec 32 := 1#32
  let v1916 : BitVec 32 := Scalar.muli v4 c1_i32_1678
  let v1917 : BitVec 32 := Scalar.addi c0_i32_1679 v1916
  v1917.toNat
def k0_dev59 (d0 : Dev nD) : Nat :=
  let c0_i32_1744 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_1743 : BitVec 32 := 1#32
  let v2015 : BitVec 32 := Scalar.muli v4 c1_i32_1743
  let v2016 : BitVec 32 := Scalar.addi c0_i32_1744 v2015
  v2016.toNat
def k0_dev60 (d0 : Dev nD) : Nat :=
  let c0_i32_1769 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_1768 : BitVec 32 := 1#32
  let v2042 : BitVec 32 := Scalar.muli v3 c1_i32_1768
  let v2043 : BitVec 32 := Scalar.addi c0_i32_1769 v2042
  v2043.toNat
def k0_dev61 (d0 : Dev nD) : Nat :=
  let c0_i32_1794 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_1793 : BitVec 32 := 1#32
  let v2069 : BitVec 32 := Scalar.muli v4 c1_i32_1793
  let v2070 : BitVec 32 := Scalar.addi c0_i32_1794 v2069
  v2070.toNat
def k0_dev62 (d0 : Dev nD) : Nat :=
  let c0_i32_1819 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_1818 : BitVec 32 := 1#32
  let v2096 : BitVec 32 := Scalar.muli v3 c1_i32_1818
  let v2097 : BitVec 32 := Scalar.addi c0_i32_1819 v2096
  v2097.toNat
def k0_dev63 (d0 : Dev nD) : Nat :=
  let c0_i32_1844 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_1843 : BitVec 32 := 1#32
  let v2123 : BitVec 32 := Scalar.muli v4 c1_i32_1843
  let v2124 : BitVec 32 := Scalar.addi c0_i32_1844 v2123
  v2124.toNat
def k0_dev64 (d0 : Dev nD) : Nat :=
  let c0_i32_1869 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_1868 : BitVec 32 := 1#32
  let v2150 : BitVec 32 := Scalar.muli v3 c1_i32_1868
  let v2151 : BitVec 32 := Scalar.addi c0_i32_1869 v2150
  v2151.toNat
def k0_dev65 (d0 : Dev nD) : Nat :=
  let c0_i32_1894 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_1893 : BitVec 32 := 1#32
  let v2177 : BitVec 32 := Scalar.muli v4 c1_i32_1893
  let v2178 : BitVec 32 := Scalar.addi c0_i32_1894 v2177
  v2178.toNat
def k0_dev66 (d0 : Dev nD) : Nat :=
  let c0_i32_1919 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_1918 : BitVec 32 := 1#32
  let v2204 : BitVec 32 := Scalar.muli v3 c1_i32_1918
  let v2205 : BitVec 32 := Scalar.addi c0_i32_1919 v2204
  v2205.toNat
def k0_dev67 (d0 : Dev nD) : Nat :=
  let c0_i32_1944 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_1943 : BitVec 32 := 1#32
  let v2233 : BitVec 32 := Scalar.muli v3 c1_i32_1943
  let v2234 : BitVec 32 := Scalar.addi c0_i32_1944 v2233
  v2234.toNat
def k0_dev68 (d0 : Dev nD) : Nat :=
  let c0_i32_1966 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_1965 : BitVec 32 := 1#32
  let v2260 : BitVec 32 := Scalar.muli v4 c1_i32_1965
  let v2261 : BitVec 32 := Scalar.addi c0_i32_1966 v2260
  v2261.toNat
def k0_dev69 (d0 : Dev nD) : Nat :=
  let c0_i32_1988 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_1987 : BitVec 32 := 1#32
  let v2287 : BitVec 32 := Scalar.muli v3 c1_i32_1987
  let v2288 : BitVec 32 := Scalar.addi c0_i32_1988 v2287
  v2288.toNat
def k0_dev70 (d0 : Dev nD) : Nat :=
  let c0_i32_2010 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_2009 : BitVec 32 := 1#32
  let v2314 : BitVec 32 := Scalar.muli v4 c1_i32_2009
  let v2315 : BitVec 32 := Scalar.addi c0_i32_2010 v2314
  v2315.toNat
def k0_dev71 (d0 : Dev nD) : Nat :=
  let c0_i32_2032 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_2031 : BitVec 32 := 1#32
  let v2341 : BitVec 32 := Scalar.muli v3 c1_i32_2031
  let v2342 : BitVec 32 := Scalar.addi c0_i32_2032 v2341
  v2342.toNat
def k0_dev72 (d0 : Dev nD) : Nat :=
  let c0_i32_2054 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_2053 : BitVec 32 := 1#32
  let v2368 : BitVec 32 := Scalar.muli v4 c1_i32_2053
  let v2369 : BitVec 32 := Scalar.addi c0_i32_2054 v2368
  v2369.toNat
def k0_dev73 (d0 : Dev nD) : Nat :=
  let c0_i32_2076 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_2075 : BitVec 32 := 1#32
  let v2395 : BitVec 32 := Scalar.muli v3 c1_i32_2075
  let v2396 : BitVec 32 := Scalar.addi c0_i32_2076 v2395
  v2396.toNat
def k0_dev74 (d0 : Dev nD) : Nat :=
  let c0_i32_2098 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_2097 : BitVec 32 := 1#32
  let v2422 : BitVec 32 := Scalar.muli v4 c1_i32_2097
  let v2423 : BitVec 32 := Scalar.addi c0_i32_2098 v2422
  v2423.toNat
abbrev stage0_0 : Fin 1 → Memref sig .tc .vmem S512x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S256x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S512x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S256x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S512x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S512x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== ReferenceIdeal.lean ====
abbrev S512x1024 : Shape := ⟨2, ![512, 1024]⟩
abbrev S1024x512 : Shape := ⟨2, ![1024, 512]⟩
abbrev S512x512 : Shape := ⟨2, ![512, 512]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S512x1024, .f32⟩
  | .hbm, ⟨1, _⟩ => ⟨S1024x512, .f32⟩
  | .hbm, ⟨2, _⟩ => ⟨S1024x512, .f32⟩
  | .hbm, ⟨3, _⟩ => ⟨S1024x512, .f32⟩
  | .hbm, ⟨4, _⟩ => ⟨S512x1024, .f32⟩
  | .hbm, ⟨5, _⟩ => ⟨S512x1024, .f32⟩
  | .hbm, ⟨6, _⟩ => ⟨S512x1024, .f32⟩
  | .hbm, ⟨7, _⟩ => ⟨S512x512, .f32⟩
  | .hbm, ⟨8, _⟩ => ⟨S_, .f32⟩
  | .hbm, ⟨9, _⟩ => ⟨S512x512, .f32⟩
  | .hbm, ⟨10, _⟩ => ⟨S512x512, .f32⟩
  | .hbm, ⟨11, _⟩ => ⟨S512x1024, .f32⟩
  | .hbm, ⟨12, _⟩ => ⟨S512x512, .f32⟩
  | .hbm, ⟨13, _⟩ => ⟨S_, .f32⟩
  | .hbm, ⟨14, _⟩ => ⟨S512x512, .f32⟩
  | .hbm, ⟨15, _⟩ => ⟨S512x512, .f32⟩
  | .hbm, ⟨16, _⟩ => ⟨S512x1024, .f32⟩
  | .hbm, ⟨17, _⟩ => ⟨S512x512, .f32⟩
  | .hbm, ⟨18, _⟩ => ⟨S_, .f32⟩
  | .hbm, ⟨19, _⟩ => ⟨S512x512, .f32⟩
  | .hbm, ⟨20, _⟩ => ⟨S512x512, .f32⟩
  | .hbm, ⟨21, _⟩ => ⟨S512x1024, .f32⟩
  | _, _ => ⟨S512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩

abbrev nD : Nat := 1
abbrev τ : Topo := Topo.v7x

variable {F : FTy → Type} [FloatOps F]
-- ==== Proof.Prog.lean ====
module

public import proofs.«01_k».proof.Proof.Gen.KernelIdeal

@[expose] public section

set_option maxRecDepth 65536

/-!
# The kernel as a program over tiles

The printed body runs, per layer, seven sweeps over the eight tiles (half, column). This module
writes these sweeps once, over a record of the row offsets and peers, and states that the printed
body is that program.
-/

noncomputable section

namespace Cert.KernelIdeal.Tp

open Idealize.ShloMosaic Idealize.SL.Sem
open Cert.KernelIdeal Facts₀ Facts

variable {F : FTy → Type} [FloatOps F]

/-- The offsets and the peers a device computes: row blocks of the activations (`xo`) and of the
    hidden layer (`ho`), tiles for vector accesses (`ta`) and for copies (`ts`), by kept/sent and by
    half; the peers of every copy, and the two that are signalled. -/
structure Rows where
  xo : Bool → Bool → Fin 2 → ℕ
  xo_in : ∀ k f a, xo k f a + S128x256.size a ≤ S512x256.size a
  ho : Bool → Bool → Fin 2 → ℕ
  ho_in : ∀ k f a, ho k f a + S128x512.size a ≤ S512x512.size a
  ta : Bool → Bool → Fin 4 → Fin 2 → ℕ
  ta_in : ∀ k f q a, ta k f q a + S128x128.size a ≤ S512x512.size a
  ts : Bool → Bool → Fin 4 → Fin 2 → ℕ
  ts_in : ∀ k f q a, ts k f q a + S128x128.size a ≤ S512x512.size a
  dv : Fin 3 → Fin 3 → Bool → Fin 4 → Dev nD
  pa : Dev nD
  pb : Dev nD

/-- The offsets and the peers as they are printed. -/
def Rows.printed (d : Dev nD) : Rows where
  xo := fun k f => match k, f with
    | false, false => k0_off1 d
    | false, true => k0_off4 d
    | true, false => k0_off19 d
    | true, true => k0_off21 d
  xo_in := fun k f => match k, f with
    | false, false => k0_off1_inb d
    | false, true => k0_off4_inb d
    | true, false => k0_off19_inb d
    | true, true => k0_off21_inb d
  ho := fun k f => match k, f with
    | false, false => k0_off39 d
    | false, true => k0_off40 d
    | true, false => k0_off37 d
    | true, true => k0_off38 d
  ho_in := fun k f => match k, f with
    | false, false => k0_off39_inb d
    | false, true => k0_off40_inb d
    | true, false => k0_off37_inb d
    | true, true => k0_off38_inb d
  ta := fun k f q => match k, f, q with
    | false, false, 0 => k0_off2 d
    | false, false, 1 => k0_off7 d
    | false, false, 2 => k0_off11 d
    | false, false, 3 => k0_off15 d
    | false, true, 0 => k0_off5 d
    | false, true, 1 => k0_off9 d
    | false, true, 2 => k0_off13 d
    | false, true, 3 => k0_off17 d
    | true, false, 0 => k0_off20 d
    | true, false, 1 => k0_off23 d
    | true, false, 2 => k0_off25 d
    | true, false, 3 => k0_off27 d
    | true, true, 0 => k0_off22 d
    | true, true, 1 => k0_off24 d
    | true, true, 2 => k0_off26 d
    | true, true, 3 => k0_off28 d
  ta_in := fun k f q => match k, f, q with
    | false, false, 0 => k0_off2_inb d
    | false, false, 1 => k0_off7_inb d
    | false, false, 2 => k0_off11_inb d
    | false, false, 3 => k0_off15_inb d
    | false, true, 0 => k0_off5_inb d
    | false, true, 1 => k0_off9_inb d
    | false, true, 2 => k0_off13_inb d
    | false, true, 3 => k0_off17_inb d
    | true, false, 0 => k0_off20_inb d
    | true, false, 1 => k0_off23_inb d
    | true, false, 2 => k0_off25_inb d
    | true, false, 3 => k0_off27_inb d
    | true, true, 0 => k0_off22_inb d
    | true, true, 1 => k0_off24_inb d
    | true, true, 2 => k0_off26_inb d
    | true, true, 3 => k0_off28_inb d
  ts := fun k f q => match k, f, q with
    | false, false, 0 => k0_off3 d
    | false, false, 1 => k0_off8 d
    | false, false, 2 => k0_off12 d
    | false, false, 3 => k0_off16 d
    | false, true, 0 => k0_off6 d
    | false, true, 1 => k0_off10 d
    | false, true, 2 => k0_off14 d
    | false, true, 3 => k0_off18 d
    | true, false, 0 => k0_off29 d
    | true, false, 1 => k0_off31 d
    | true, false, 2 => k0_off33 d
    | true, false, 3 => k0_off35 d
    | true, true, 0 => k0_off30 d
    | true, true, 1 => k0_off32 d
    | true, true, 2 => k0_off34 d
    | true, true, 3 => k0_off36 d
  ts_in := fun k f q => match k, f, q with
    | false, false, 0 => k0_off3_inb d
    | false, false, 1 => k0_off8_inb d
    | false, false, 2 => k0_off12_inb d
    | false, false, 3 => k0_off16_inb d
    | false, true, 0 => k0_off6_inb d
    | false, true, 1 => k0_off10_inb d
    | false, true, 2 => k0_off14_inb d
    | false, true, 3 => k0_off18_inb d
    | true, false, 0 => k0_off29_inb d
    | true, false, 1 => k0_off31_inb d
    | true, false, 2 => k0_off33_inb d
    | true, false, 3 => k0_off35_inb d
    | true, true, 0 => k0_off30_inb d
    | true, true, 1 => k0_off32_inb d
    | true, true, 2 => k0_off34_inb d
    | true, true, 3 => k0_off36_inb d
  dv := fun l s f q => match l, s, f, q with
    | 0, 0, false, 0 => ⟨k0_dev3 d, k0_dev3_lt d⟩
    | 0, 0, false, 1 => ⟨k0_dev5 d, k0_dev5_lt d⟩
    | 0, 0, false, 2 => ⟨k0_dev7 d, k0_dev7_lt d⟩
    | 0, 0, false, 3 => ⟨k0_dev9 d, k0_dev9_lt d⟩
    | 0, 0, true, 0 => ⟨k0_dev4 d, k0_dev4_lt d⟩
    | 0, 0, true, 1 => ⟨k0_dev6 d, k0_dev6_lt d⟩
    | 0, 0, true, 2 => ⟨k0_dev8 d, k0_dev8_lt d⟩
    | 0, 0, true, 3 => ⟨k0_dev10 d, k0_dev10_lt d⟩
    | 0, 1, false, 0 => ⟨k0_dev11 d, k0_dev11_lt d⟩
    | 0, 1, false, 1 => ⟨k0_dev13 d, k0_dev13_lt d⟩
    | 0, 1, false, 2 => ⟨k0_dev15 d, k0_dev15_lt d⟩
    | 0, 1, false, 3 => ⟨k0_dev17 d, k0_dev17_lt d⟩
    | 0, 1, true, 0 => ⟨k0_dev12 d, k0_dev12_lt d⟩
    | 0, 1, true, 1 => ⟨k0_dev14 d, k0_dev14_lt d⟩
    | 0, 1, true, 2 => ⟨k0_dev16 d, k0_dev16_lt d⟩
    | 0, 1, true, 3 => ⟨k0_dev18 d, k0_dev18_lt d⟩
    | 0, 2, false, 0 => ⟨k0_dev19 d, k0_dev19_lt d⟩
    | 0, 2, false, 1 => ⟨k0_dev21 d, k0_dev21_lt d⟩
    | 0, 2, false, 2 => ⟨k0_dev23 d, k0_dev23_lt d⟩
    | 0, 2, false, 3 => ⟨k0_dev25 d, k0_dev25_lt d⟩
    | 0, 2, true, 0 => ⟨k0_dev20 d, k0_dev20_lt d⟩
    | 0, 2, true, 1 => ⟨k0_dev22 d, k0_dev22_lt d⟩
    | 0, 2, true, 2 => ⟨k0_dev24 d, k0_dev24_lt d⟩
    | 0, 2, true, 3 => ⟨k0_dev26 d, k0_dev26_lt d⟩
    | 1, 0, false, 0 => ⟨k0_dev27 d, k0_dev27_lt d⟩
    | 1, 0, false, 1 => ⟨k0_dev29 d, k0_dev29_lt d⟩
    | 1, 0, false, 2 => ⟨k0_dev31 d, k0_dev31_lt d⟩
    | 1, 0, false, 3 => ⟨k0_dev33 d, k0_dev33_lt d⟩
    | 1, 0, true, 0 => ⟨k0_dev28 d, k0_dev28_lt d⟩
    | 1, 0, true, 1 => ⟨k0_dev30 d, k0_dev30_lt d⟩
    | 1, 0, true, 2 => ⟨k0_dev32 d, k0_dev32_lt d⟩
    | 1, 0, true, 3 => ⟨k0_dev34 d, k0_dev34_lt d⟩
    | 1, 1, false, 0 => ⟨k0_dev35 d, k0_dev35_lt d⟩
    | 1, 1, false, 1 => ⟨k0_dev37 d, k0_dev37_lt d⟩
    | 1, 1, false, 2 => ⟨k0_dev39 d, k0_dev39_lt d⟩
    | 1, 1, false, 3 => ⟨k0_dev41 d, k0_dev41_lt d⟩
    | 1, 1, true, 0 => ⟨k0_dev36 d, k0_dev36_lt d⟩
    | 1, 1, true, 1 => ⟨k0_dev38 d, k0_dev38_lt d⟩
    | 1, 1, true, 2 => ⟨k0_dev40 d, k0_dev40_lt d⟩
    | 1, 1, true, 3 => ⟨k0_dev42 d, k0_dev42_lt d⟩
    | 1, 2, false, 0 => ⟨k0_dev43 d, k0_dev43_lt d⟩
    | 1, 2, false, 1 => ⟨k0_dev45 d, k0_dev45_lt d⟩
    | 1, 2, false, 2 => ⟨k0_dev47 d, k0_dev47_lt d⟩
    | 1, 2, false, 3 => ⟨k0_dev49 d, k0_dev49_lt d⟩
    | 1, 2, true, 0 => ⟨k0_dev44 d, k0_dev44_lt d⟩
    | 1, 2, true, 1 => ⟨k0_dev46 d, k0_dev46_lt d⟩
    | 1, 2, true, 2 => ⟨k0_dev48 d, k0_dev48_lt d⟩
    | 1, 2, true, 3 => ⟨k0_dev50 d, k0_dev50_lt d⟩
    | 2, 0, false, 0 => ⟨k0_dev51 d, k0_dev51_lt d⟩
    | 2, 0, false, 1 => ⟨k0_dev53 d, k0_dev53_lt d⟩
    | 2, 0, false, 2 => ⟨k0_dev55 d, k0_dev55_lt d⟩
    | 2, 0, false, 3 => ⟨k0_dev57 d, k0_dev57_lt d⟩
    | 2, 0, true, 0 => ⟨k0_dev52 d, k0_dev52_lt d⟩
    | 2, 0, true, 1 => ⟨k0_dev54 d, k0_dev54_lt d⟩
    | 2, 0, true, 2 => ⟨k0_dev56 d, k0_dev56_lt d⟩
    | 2, 0, true, 3 => ⟨k0_dev58 d, k0_dev58_lt d⟩
    | 2, 1, false, 0 => ⟨k0_dev59 d, k0_dev59_lt d⟩
    | 2, 1, false, 1 => ⟨k0_dev61 d, k0_dev61_lt d⟩
    | 2, 1, false, 2 => ⟨k0_dev63 d, k0_dev63_lt d⟩
    | 2, 1, false, 3 => ⟨k0_dev65 d, k0_dev65_lt d⟩
    | 2, 1, true, 0 => ⟨k0_dev60 d, k0_dev60_lt d⟩
    | 2, 1, true, 1 => ⟨k0_dev62 d, k0_dev62_lt d⟩
    | 2, 1, true, 2 => ⟨k0_dev64 d, k0_dev64_lt d⟩
    | 2, 1, true, 3 => ⟨k0_dev66 d, k0_dev66_lt d⟩
    | 2, 2, false, 0 => ⟨k0_dev67 d, k0_dev67_lt d⟩
    | 2, 2, false, 1 => ⟨k0_dev69 d, k0_dev69_lt d⟩
    | 2, 2, false, 2 => ⟨k0_dev71 d, k0_dev71_lt d⟩
    | 2, 2, false, 3 => ⟨k0_dev73 d, k0_dev73_lt d⟩
    | 2, 2, true, 0 => ⟨k0_dev68 d, k0_dev68_lt d⟩
    | 2, 2, true, 1 => ⟨k0_dev70 d, k0_dev70_lt d⟩
    | 2, 2, true, 2 => ⟨k0_dev72 d, k0_dev72_lt d⟩
    | 2, 2, true, 3 => ⟨k0_dev74 d, k0_dev74_lt d⟩
  pa := ⟨k0_dev1 d, k0_dev1_lt d⟩
  pb := ⟨k0_dev2 d, k0_dev2_lt d⟩

/-- The number of a semaphore of the two arrays: stage, half, column. -/
def slot (s : Fin 3) (f : Bool) (q : Fin 4) : ℕ := (s.val * 2 + f.toNat) * 4 + q.val

theorem slot_in (s : Fin 3) (f : Bool) (q : Fin 4) :
    ∀ a, (![slot s f q] : Fin 1 → ℕ) a + S1.size a ≤ S24.size a := by
  revert s f q; decide

theorem half_in (f : Bool) :
    ∀ a, (![f.toNat, 0, 0] : Fin 3 → ℕ) a + S1x128x512.size a ≤ S2x128x512.size a := by
  revert f; decide

theorem col_in (q : Fin 4) :
    ∀ a, (![0, 128 * q.val] : Fin 2 → ℕ) a + S128x128.size a ≤ S128x512.size a := by
  revert q; decide

theorem cell_in (f : Bool) (q : Fin 4) :
    ∀ a, (![f.toNat, 0, 128 * q.val] : Fin 3 → ℕ) a + S1x128x128.size a ≤ S2x128x512.size a := by
  revert f q; decide

theorem wcol_in (q : Fin 4) :
    ∀ a, (![0, 128 * q.val] : Fin 2 → ℕ) a + S256x128.size a ≤ S256x512.size a := by
  revert q; decide

/-- The semaphore of a stage, a half and a column. -/
def semOf (a : DmaSems sig S24) (s : Fin 3) (f : Bool) (q : Fin 4) : DmaSems sig S_ :=
  (a.slice (Rect.unit (s := S24) ![slot s f q] S1.size (slot_in s f q))).squeeze S_ squeezes_S1_S_

/-- The tile of a landing buffer for a half and a column, as the copies name it. -/
def landTile (b : Memref sig .tc .vmem S2x128x512 .f32) (f : Bool) (q : Fin 4) :
    Memref sig .tc .vmem S128x128 .f32 :=
  ((b.slice (Rect.unit (s := S2x128x512) ![f.toNat, 0, 0] S1x128x512.size (half_in f))
    (fun _ => rfl)).squeeze S128x512 squeezes_S1x128x512_S128x512).slice
    (Rect.unit (s := S128x512) ![0, 128 * q.val] S128x128.size (col_in q)) (fun _ => rfl)

/-- A tile of one of the two square buffers. -/
def sqTile (b : Memref sig .tc .vmem S512x512 .f32) (o : Fin 2 → ℕ)
    (ho : ∀ a, o a + S128x128.size a ≤ S512x512.size a) : Memref sig .tc .vmem S128x128 .f32 :=
  b.slice (Rect.unit (s := S512x512) o S128x128.size ho) (fun _ => rfl)

/-- The product of a row block with a column block of the first weight. -/
def dotVal (x : Vec F S128x256 .f32) (w : Vec F S256x128 .f32) : FVec F S128x128 .f32 :=
  shapeCast S128x128
    (matmul dot_S128x256_S256x128_S128x128_1_0_0_1_n_n none
      (x : FVec F S128x256 .f32)
      (shapeCast S256x128 w shapeCasts_S256x128_S256x128 : FVec F S256x128 .f32)
      (constant S128x128 .f32 0x00000000#32)) shapeCasts_S128x128_S128x128

/-- The product of a row block of the hidden layer with the second weight. -/
def rowVal (h : Vec F S128x512 .f32) (w : Vec F S512x256 .f32) : FVec F S128x256 .f32 :=
  shapeCast S128x256
    (matmul dot_S128x512_S512x256_S128x256_1_0_0_1_n_n none (h : FVec F S128x512 .f32)
      (shapeCast S512x256 w shapeCasts_S512x256_S512x256 : FVec F S512x256 .f32)
      (constant S128x256 .f32 0x00000000#32)) shapeCasts_S128x256_S128x256

/-- A tile plus a landed tile. -/
def addVal (a : Vec F S128x128 .f32) (s : Vec F S1x128x128 .f32) : FVec F S128x128 .f32 :=
  shapeCast S128x128 (addf (a : FVec F S128x128 .f32)
    (shapeCast S128x128 s shapeCasts_S1x128x128_S128x128 : FVec F S128x128 .f32))
    shapeCasts_S128x128_S128x128

/-- A tile plus a landed tile, cut off below at zero. -/
def reluVal (a : Vec F S128x128 .f32) (s : Vec F S1x128x128 .f32) : FVec F S128x128 .f32 :=
  shapeCast S128x128 (maximumf (addf (a : FVec F S128x128 .f32)
    (shapeCast S128x128 s shapeCasts_S1x128x128_S128x128 : FVec F S128x128 .f32))
    (broadcast S128x128 (Scalar.ofBits .f32 0x00000000#32 : F .f32))) shapeCasts_S128x128_S128x128

/-- The programs of the body. -/
abbrev Pr (F : FTy → Type) [FloatOps F] :=
  Prog (TpuEff nD τ sig (Elt F) Λ₀ .tc)

/-- A program for each entry of a list, in the list's order. -/
def loop {ι : Type} : List ι → (ι → Pr F PUnit) → Pr F PUnit
  | [], _ => .ret ⟨⟩
  | i :: is, f => f i >>= fun _ => loop is f

/-- The eight tiles, in the order of every sweep: columns outside, halves inside. -/
def tiles : List (Bool × Fin 4) :=
  [(false, 0), (true, 0), (false, 1), (true, 1), (false, 2), (true, 2), (false, 3), (true, 3)]

/-- The eight tiles, halves outside. -/
def halfTiles (f : Bool) : List (Bool × Fin 4) := [(f, 0), (f, 1), (f, 2), (f, 3)]

section Ops

variable (R : Rows)

/-- Loads a tile. -/
def loadSq (b : Memref sig .tc .vmem S512x512 .f32) (o : Fin 2 → ℕ)
    (ho : ∀ a, o a + S128x128.size a ≤ S512x512.size a) : Pr F (Vec F S128x128 .f32) :=
  Prog.lift (.load b (Rect.unit (s := S512x512) o S128x128.size ho).toLoadRect
    (View.loadsAt_vmem h_S128x128))

/-- Stores a tile. -/
def putSq (b : Memref sig .tc .vmem S512x512 .f32) (o : Fin 2 → ℕ)
    (ho : ∀ a, o a + S128x128.size a ≤ S512x512.size a) (v : FVec F S128x128 .f32) : Pr F PUnit :=
  Prog.lift (.store b (Rect.unit (s := S512x512) o S128x128.size ho) v Finset.univ
    (View.stores_vmem_bits_univ h_S128x128 rfl) (.inl rfl))

/-- Loads a landed tile. -/
def loadLand (b : Memref sig .tc .vmem S2x128x512 .f32) (f : Bool) (q : Fin 4) :
    Pr F (Vec F S1x128x128 .f32) :=
  Prog.lift (.load b (Rect.unit (s := S2x128x512) ![f.toNat, 0, 128 * q.val] S1x128x128.size
    (cell_in f q)).toLoadRect (View.loadsAt_vmem h_S1x128x128))

/-- Loads a row block of the activations. -/
def loadRow (b : Memref sig .tc .vmem S512x256 .f32) (o : Fin 2 → ℕ)
    (ho : ∀ a, o a + S128x256.size a ≤ S512x256.size a) : Pr F (Vec F S128x256 .f32) :=
  Prog.lift (.load b (Rect.unit (s := S512x256) o S128x256.size ho).toLoadRect
    (View.loadsAt_vmem h_S128x256))

/-- Stores a row block of the activations. -/
def putRow (b : Memref sig .tc .vmem S512x256 .f32) (o : Fin 2 → ℕ)
    (ho : ∀ a, o a + S128x256.size a ≤ S512x256.size a) (v : FVec F S128x256 .f32) : Pr F PUnit :=
  Prog.lift (.store b (Rect.unit (s := S512x256) o S128x256.size ho) v Finset.univ
    (View.stores_vmem_bits_univ h_S128x256 rfl) (.inl rfl))

/-- Loads a column block of the first weight. -/
def loadCol (b : Memref sig .tc .vmem S256x512 .f32) (q : Fin 4) : Pr F (Vec F S256x128 .f32) :=
  Prog.lift (.load b (Rect.unit (s := S256x512) ![0, 128 * q.val] S256x128.size
    (wcol_in q)).toLoadRect (View.loadsAt_vmem h_S256x128))

/-- Loads a row block of the hidden layer. -/
def loadHid (b : Memref sig .tc .vmem S512x512 .f32) (o : Fin 2 → ℕ)
    (ho : ∀ a, o a + S128x512.size a ≤ S512x512.size a) : Pr F (Vec F S128x512 .f32) :=
  Prog.lift (.load b (Rect.unit (s := S512x512) o S128x512.size ho).toLoadRect
    (View.loadsAt_vmem h_S128x512))

/-- Loads the second weight. -/
def loadOut (b : Memref sig .tc .vmem S512x256 .f32) : Pr F (Vec F S512x256 .f32) :=
  Prog.lift (.load b (Rect.unit (s := S512x256) ![0, 0] S512x256.size
    inb_S512x256_S512x256_0_0).toLoadRect (View.loadsAt_vmem h_S512x256))

/-- One tile of the first product; the printed store begins with a load of its tile. -/
def dotTile (xs : Memref sig .tc .vmem S512x256 .f32) (win : Memref sig .tc .vmem S256x512 .f32)
    (acc : Memref sig .tc .vmem S512x512 .f32) (k f : Bool) (q : Fin 4) : Pr F PUnit := do
  let x ← loadRow xs (R.xo k f) (R.xo_in k f)
  let w ← loadCol win q
  let _ ← loadSq acc (R.ta k f q) (R.ta_in k f q)
  putSq acc (R.ta k f q) (R.ta_in k f q) (dotVal x w)

/-- One row block of the second product. -/
def rowDot (h : Memref sig .tc .vmem S512x512 .f32) (wout : Memref sig .tc .vmem S512x256 .f32)
    (xd : Memref sig .tc .vmem S512x256 .f32) (k f : Bool) : Pr F PUnit := do
  let r ← loadHid h (R.ho k f) (R.ho_in k f)
  let w ← loadOut wout
  let _ ← loadRow xd (R.xo k f) (R.xo_in k f)
  putRow xd (R.xo k f) (R.xo_in k f) (rowVal r w)

/-- Starts the copy of one tile to a peer. -/
def send (src dst : Memref sig .tc .vmem S128x128 .f32) (ss rs : DmaSems sig S_) (d : Dev nD) :
    Pr F PUnit :=
  Prog.lift (.enqueueDma src (.remote (Dev.tc d) dst (.dma ss.sem)) (.dma rs.sem)
    (View.wordExact_bits rfl) (View.wordExact_bits rfl) ⟨⟨rfl, Or.inl rfl⟩, trivial⟩)

/-- Waits for the copy of one tile. -/
def await (s : DmaSems sig S_) (src dst : Memref sig .tc .vmem S128x128 .f32) : Pr F PUnit :=
  Prog.lift (.waitDma2 s.sem src dst (View.wordExact_bits rfl) (View.wordExact_bits rfl))

variable (l : Fin 3) (xs : Memref sig .tc .vmem S512x256 .f32)
  (win : Memref sig .tc .vmem S256x512 .f32) (wout xd : Memref sig .tc .vmem S512x256 .f32)
  (acc h : Memref sig .tc .vmem S512x512 .f32) (s1 s2 : Memref sig .tc .vmem S2x128x512 .f32)
  (ss rs : DmaSems sig S24)

/-- A tile for a copy. -/
def tileOf (b : Memref sig .tc .vmem S512x512 .f32) (k f : Bool) (q : Fin 4) :
    Memref sig .tc .vmem S128x128 .f32 := sqTile b (R.ts k f q) (R.ts_in k f q)

/-- First sweep: a tile of the product for the peer, sent to it. -/
def step1 (t : Bool × Fin 4) : Pr F PUnit := do
  dotTile R xs win acc false t.1 t.2
  send (tileOf R acc false t.1 t.2) (landTile s1 t.1 t.2) (semOf ss 0 t.1 t.2) (semOf rs 0 t.1 t.2)
    (R.dv l 0 t.1 t.2)

/-- Second sweep: a tile of the product for this device. -/
def step2 (t : Bool × Fin 4) : Pr F PUnit := dotTile R xs win acc true t.1 t.2

/-- Third sweep: the first peer's tile is added, the sum sent to the second peer. -/
def step3 (t : Bool × Fin 4) : Pr F PUnit := do
  await (semOf rs 0 t.1 t.2) (tileOf R acc false t.1 t.2) (landTile s1 t.1 t.2)
  let a ← loadSq acc (R.ta true t.1 t.2) (R.ta_in true t.1 t.2)
  let b ← loadLand s1 t.1 t.2
  let _ ← loadSq acc (R.ta true t.1 t.2) (R.ta_in true t.1 t.2)
  putSq acc (R.ta true t.1 t.2) (R.ta_in true t.1 t.2) (addVal a b)
  send (tileOf R acc true t.1 t.2) (landTile s2 t.1 t.2) (semOf ss 1 t.1 t.2) (semOf rs 1 t.1 t.2)
    (R.dv l 1 t.1 t.2)

/-- Fourth sweep: the second peer's tile is added and cut off at zero, the result sent back to the
    first peer. -/
def step4 (t : Bool × Fin 4) : Pr F PUnit := do
  await (semOf rs 1 t.1 t.2) (tileOf R acc true t.1 t.2) (landTile s2 t.1 t.2)
  let a ← loadSq acc (R.ta true t.1 t.2) (R.ta_in true t.1 t.2)
  let b ← loadLand s2 t.1 t.2
  let _ ← loadSq h (R.ta true t.1 t.2) (R.ta_in true t.1 t.2)
  putSq h (R.ta true t.1 t.2) (R.ta_in true t.1 t.2) (reluVal a b)
  send (tileOf R h true t.1 t.2) (tileOf R h true t.1 t.2) (semOf ss 2 t.1 t.2)
    (semOf rs 2 t.1 t.2) (R.dv l 2 t.1 t.2)

/-- Fifth sweep: the second product of the kept row blocks. -/
def step5 (f : Bool) : Pr F PUnit := rowDot R h wout xd true f

/-- Sixth sweep: the first peer's hidden rows have come; their second product. -/
def step6 (f : Bool) : Pr F PUnit := do
  loop (halfTiles f) fun t =>
    await (semOf rs 2 t.1 t.2) (tileOf R h true t.1 t.2) (tileOf R h true t.1 t.2)
  rowDot R h wout xd false f

/-- Last sweep: the layer's copies have been sent. -/
def step7 : Pr F PUnit := do
  loop tiles fun t =>
    await (semOf ss 0 t.1 t.2) (landTile s1 t.1 t.2) (tileOf R acc false t.1 t.2)
  loop tiles fun t =>
    await (semOf ss 1 t.1 t.2) (landTile s2 t.1 t.2) (tileOf R acc true t.1 t.2)
  loop tiles fun t =>
    await (semOf ss 2 t.1 t.2) (tileOf R h true t.1 t.2) (tileOf R h true t.1 t.2)

/-- One layer. -/
def layer : Pr F PUnit := do
  loop tiles (step1 R l xs win acc s1 ss rs)
  loop tiles (step2 R xs win acc)
  loop tiles (step3 R l acc s1 s2 ss rs)
  loop tiles (step4 R l acc h s2 ss rs)
  loop [false, true] (step5 R wout xd h)
  loop [false, true] (step6 R wout xd h rs)
  step7 R acc h s1 s2 ss

end Ops

/-- The body over given offsets: the handshake with both peers, then three layers. -/
def body (R : Dev nD → Rows) (x : Memref sig .tc .vmem S512x256 .f32)
    (wi0 : Memref sig .tc .vmem S256x512 .f32) (wo0 : Memref sig .tc .vmem S512x256 .f32)
    (wi1 : Memref sig .tc .vmem S256x512 .f32) (wo1 : Memref sig .tc .vmem S512x256 .f32)
    (wi2 : Memref sig .tc .vmem S256x512 .f32) (wo2 : Memref sig .tc .vmem S512x256 .f32)
    (out : Memref sig .tc .vmem S512x256 .f32) (acc h : Memref sig .tc .vmem S512x512 .f32)
    (xb : Memref sig .tc .vmem S512x256 .f32) (s1 s2 : Memref sig .tc .vmem S2x128x512 .f32)
    (ss rs : DmaSems sig S24) : Pr F PUnit := do
  let d ← Prog.lift .deviceId
  semSignalWord (R d).pa (SemArray.scalar (sig.barrier 0 rfl) : Sems sig S_).sem 1#32
  semSignalWord (R d).pb (SemArray.scalar (sig.barrier 0 rfl) : Sems sig S_).sem 1#32
  semWaitWord (SemArray.scalar (sig.barrier 0 rfl) : Sems sig S_).sem 2#32
  layer (R d) 0 x wi0 wo0 xb acc h s1 s2 ss rs
  layer (R d) 1 xb wi1 wo1 xb acc h s1 s2 ss rs
  layer (R d) 2 xb wi2 wo2 out acc h s1 s2 ss rs

end Cert.KernelIdeal.Tp

end
-- ==== Proof.Ops.lean ====
module

public import proofs.«01_k».proof.Proof.Prog
public import proofs.«01_k».proof.Proof.Gen.KernelIdeal.Launch
public import Idealize.ShloMosaic.Lib.Pipeline.Launch
public import Idealize.ShloMosaic.Lib.Pipeline.Kit
public import Idealize.ShloMosaic.Lib.MemrefSat
public import Idealize.ShloMosaic.Lib.Pointwise.Reshape
public import Idealize.ShloMosaic.Lib.Tactic

@[expose] public section

set_option maxRecDepth 16384

/-!
# The tile operations in the logic

The row blocks and peers in closed form, and what each load and store of a tile does to the
ownership of that tile.
-/

noncomputable section

namespace Cert.KernelIdeal.Tp

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Facts₀ Facts

variable {F : FTy → Type} [FloatOps F]

/-! ## Peers and row blocks -/

/-- The first peer of a device: the other one of its pair. -/
def pA (c : Dev nD) : Dev nD := ⟨c.val ^^^ 1, by revert c; decide⟩
/-- The second peer: the mirror image. -/
def pB (c : Dev nD) : Dev nD := ⟨3 - c.val, by revert c; decide⟩
/-- The peer of the first and the last exchange, by half. -/
def p1 (f : Bool) (c : Dev nD) : Dev nD := bif f then pB c else pA c
/-- The peer of the middle exchange, by half. -/
def p2 (f : Bool) (c : Dev nD) : Dev nD := bif f then pA c else pB c
/-- The peer of an exchange. -/
def peer (s : Fin 3) (f : Bool) (c : Dev nD) : Dev nD := if s = 1 then p2 f c else p1 f c

/-- The row block a device keeps (`k`) or sends, of a half. -/
def blk (c : Dev nD) (k f : Bool) : Fin 4 :=
  match c, f, k with
  | 0, false, true => 0 | 0, false, false => 1 | 0, true, true => 2 | 0, true, false => 3
  | 1, false, true => 1 | 1, false, false => 0 | 1, true, true => 2 | 1, true, false => 3
  | 2, false, true => 1 | 2, false, false => 0 | 2, true, true => 3 | 2, true, false => 2
  | 3, false, true => 0 | 3, false, false => 1 | 3, true, true => 3 | 3, true, false => 2

theorem p1_p1 (f : Bool) (c : Dev nD) : p1 f (p1 f c) = c := by revert f c; decide
theorem p2_p2 (f : Bool) (c : Dev nD) : p2 f (p2 f c) = c := by revert f c; decide
theorem p2_eq (f : Bool) (c : Dev nD) : p2 f c = p1 (!f) c := by revert f c; decide
theorem peer_peer (s : Fin 3) (f : Bool) (c : Dev nD) : peer s f (peer s f c) = c := by
  revert s f c; decide
theorem blk_p1 (k f : Bool) (c : Dev nD) : blk (p1 f c) k f = blk c (!k) f := by
  revert k f c; decide
theorem blk_p2 (f : Bool) (c : Dev nD) : blk (p2 f c) true f = blk c true f := by
  revert f c; decide
theorem pA_ne_pB (c : Dev nD) : pA c ≠ pB c := by revert c; decide
theorem pA_pA (c : Dev nD) : pA (pA c) = c := by revert c; decide
theorem pB_pB (c : Dev nD) : pB (pB c) = c := by revert c; decide

theorem row_in (r : Fin 4) : ∀ a, (![128 * r.val, 0] : Fin 2 → ℕ) a + S128x256.size a ≤ S512x256.size a := by
  revert r; decide
theorem hrow_in (r : Fin 4) : ∀ a, (![128 * r.val, 0] : Fin 2 → ℕ) a + S128x512.size a ≤ S512x512.size a := by
  revert r; decide
theorem sq_in (r q : Fin 4) :
    ∀ a, (![128 * r.val, 128 * q.val] : Fin 2 → ℕ) a + S128x128.size a ≤ S512x512.size a := by
  revert r q; decide

/-- The offsets and the peers in closed form. -/
def Rows.closed (d : Dev nD) : Rows where
  xo k f := ![128 * (blk d k f).val, 0]
  xo_in k f := row_in (blk d k f)
  ho k f := ![128 * (blk d k f).val, 0]
  ho_in k f := hrow_in (blk d k f)
  ta k f q := ![128 * (blk d k f).val, 128 * q.val]
  ta_in k f q := sq_in (blk d k f) q
  ts k f q := ![128 * (blk d k f).val, 128 * q.val]
  ts_in k f q := sq_in (blk d k f) q
  dv _ s f _ := peer s f d
  pa := pA d
  pb := pB d

theorem Rows.ext' {A B : Rows} (h1 : A.xo = B.xo) (h2 : A.ho = B.ho) (h3 : A.ta = B.ta)
    (h4 : A.ts = B.ts) (h5 : A.dv = B.dv) (h6 : A.pa = B.pa) (h7 : A.pb = B.pb) : A = B := by
  cases A; cases B
  simp only at h1 h2 h3 h4 h5 h6 h7
  subst h1 h2 h3 h4 h5 h6 h7
  rfl

/-- The printed offsets and peers are the closed ones. -/
theorem printed_closed : Rows.printed = Rows.closed := by
  funext d
  refine Rows.ext' ?_ ?_ ?_ ?_ ?_ ?_ ?_
  · funext k f; revert d k f; decide +kernel
  · funext k f; revert d k f; decide +kernel
  · funext k f q; revert d k f q; decide +kernel
  · funext k f q; revert d k f q; decide +kernel
  · funext l s f q; revert d l s f q; decide +kernel
  · revert d; decide +kernel
  · revert d; decide +kernel

/-! ## The resource algebra -/

/-- The counting of rounds, per semaphore. -/
abbrev UB : Type := URounds (GSem nD τ sig) Bool
/-- The pipeline's part and the counting of rounds. -/
abbrev UU : Type := UR sig nD τ × UB

local notation "𝕄" => MT nD τ sig ℕ (Elt F) ℕ UU ℕ

abbrev EP : Emb (UR sig nD τ) (MT nD τ sig ℕ (Elt F) ℕ UU ℕ) := embL
abbrev ER : Emb UB (MT nD τ sig ℕ (Elt F) ℕ UU ℕ) := embR

abbrev 𝒱₀ : Variants := Variants.none

/-- What a program does, in the logic, on a device. -/
abbrev WP (c : Dev nD) {α : Type} (p : Pr F α) (Q : α → sProp 𝕄) : sProp 𝕄 :=
  wp frame (wpE (defs₀ (F := F)) 𝒱₀ (c : Thread nD τ) none) Set.univ p Q

/-- Contents of a tile, of a row block, of the two weights. -/
abbrev T128 (F : FTy → Type) := S128x128.Idx → Elt F .f32
abbrev T256 (F : FTy → Type) := S128x256.Idx → Elt F .f32

/-- The rectangle of a row block. -/
abbrev rowR (r : Fin 4) : Rect S512x256 :=
  Rect.unit (s := S512x256) ![128 * r.val, 0] S128x256.size (row_in r)
/-- The rectangle of a row block of the hidden layer. -/
abbrev hrowR (r : Fin 4) : Rect S512x512 :=
  Rect.unit (s := S512x512) ![128 * r.val, 0] S128x512.size (hrow_in r)
/-- The rectangle of a tile. -/
abbrev sqR (r q : Fin 4) : Rect S512x512 :=
  Rect.unit (s := S512x512) ![128 * r.val, 128 * q.val] S128x128.size (sq_in r q)
/-- The rectangle of a landing tile. -/
abbrev cellR (f : Bool) (q : Fin 4) : Rect S2x128x512 :=
  Rect.unit (s := S2x128x512) ![f.toNat, 0, 128 * q.val] S1x128x128.size (cell_in f q)
/-- The rectangle of a column block of the first weight. -/
abbrev colR (q : Fin 4) : Rect S256x512 :=
  Rect.unit (s := S256x512) ![0, 128 * q.val] S256x128.size (wcol_in q)

/-- A row block of the activations. -/
abbrev xrow (b : Memref sig .tc .vmem S512x256 .f32) (r : Fin 4) :
    Memref sig .tc .vmem S128x256 .f32 := b.slice (rowR r) (fun _ => rfl)
/-- A tile of a square buffer. -/
abbrev sq (b : Memref sig .tc .vmem S512x512 .f32) (r q : Fin 4) :
    Memref sig .tc .vmem S128x128 .f32 := b.slice (sqR r q) (fun _ => rfl)

section Generic

variable (c : Dev nD) {s : Shape} {e : EltTy} (m : Memref sig .tc .vmem s e) (q : PosShare TreeShare)

/-- A load of a part of what is owned reads that part of its contents. -/
theorem load_part (r : Rect s) (X : s.Idx → Elt F e) {hl : m.view.LoadsAt r.toLoadRect}
    (Φ : (r.shape.Idx → Elt F e) → sProp 𝕄) :
    (owns (c : Thread nD τ) m q X : sProp 𝕄)
      ⊢ iprop((owns (c : Thread nD τ) m q X -∗ Φ (fun j => X (r.emb j)))
        -∗ WP c (Prog.lift (.load m r.toLoadRect hl)) Φ) := by
  unfold owns
  iintro ⟨%f, %hf, H⟩ HK
  iapply (wp_load 𝒱₀ (c : Thread nD τ) none Set.univ (m := m) (r := r.toLoadRect)
    (S := m.view.set) (q := q) (f := f) (m.view.setOn_subset_set _)) $$ H
  iintro H
  iapply (le_wp_ret _ _ _)
  have : m.view.readAt (Elt F) r.toLoadRect f = fun j => X (r.emb j) := by rw [← hf]; rfl
  rw [this]
  iapply HK
  iexists f
  isplitr; · ipureintro; exact hf
  iexact H

/-- A load of a slice that is owned reads its contents. -/
theorem load_slice (r : Rect s) (hr : ∀ a, r.stride a = 1) (X : r.shape.Idx → Elt F e)
    {hl : m.view.LoadsAt r.toLoadRect} (Φ : (r.shape.Idx → Elt F e) → sProp 𝕄) :
    (owns (c : Thread nD τ) (m.slice r hr) q X : sProp 𝕄)
      ⊢ iprop((owns (c : Thread nD τ) (m.slice r hr) q X -∗ Φ X)
        -∗ WP c (Prog.lift (.load m r.toLoadRect hl)) Φ) := by
  unfold owns
  iintro ⟨%f, %hf, H⟩ HK
  iapply (wp_load_rect 𝒱₀ (c : Thread nD τ) none Set.univ (m := m) (r := r)
    (S := (m.slice r hr).view.set) (q := q) (f := f) (Finset.Subset.refl _)) $$ H
  iintro H
  iapply (le_wp_ret _ _ _)
  have : (m.access r).read (Elt F) f = X := hf
  rw [this]
  iapply HK
  iexists f
  isplitr; · ipureintro; exact hf
  iexact H

/-- A store to a slice that is owned leaves what was stored. -/
theorem store_slice (r : Rect s) (hr : ∀ a, r.stride a = 1) (X w : r.shape.Idx → Elt F e)
    {hx : (m.access r).Stores Finset.univ}
    {hm : (Finset.univ : Finset r.shape.Idx) = Finset.univ ∨ ∀ a, r.stride a = 1}
    (Φ : PUnit → sProp 𝕄) :
    (owns (c : Thread nD τ) (m.slice r hr) fullShare X : sProp 𝕄)
      ⊢ iprop((owns (c : Thread nD τ) (m.slice r hr) fullShare w -∗ Φ ⟨⟩)
        -∗ WP c (Prog.lift (.store m r w Finset.univ hx hm)) Φ) := by
  unfold owns
  iintro ⟨%f, %hf, H⟩ HK
  iapply (wp_store 𝒱₀ (c : Thread nD τ) none Set.univ (m := m) (r := r)
    (S := (m.slice r hr).view.set) (f := f) (Finset.Subset.refl _)) $$ H
  iintro H
  iapply (le_wp_ret _ _ _)
  iapply HK
  iexists _
  isplitr
  rotate_left
  · iexact H
  · ipureintro; exact View.read_write_univ _ _

end Generic

end Cert.KernelIdeal.Tp

end
-- ==== Proof.Sched.lean ====
module

public import proofs.«01_k».proof.Proof.Ops

@[expose] public section

set_option maxRecDepth 16384

/-!
# The contents and the schedule

What every tile holds, layer by layer, and what each semaphore hands over in each layer.
-/

noncomputable section

namespace Cert.KernelIdeal.Tp

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Facts₀ Facts

variable {F : FTy → Type} [FloatOps F]

local notation "𝕄" => MT nD τ sig ℕ (Elt F) ℕ UU ℕ

/-! ## Contents -/

/-- The activations and the weights of every device. -/
structure Inp (F : FTy → Type) where
  /-- the activations -/
  x : Dev nD → S512x256.Idx → Elt F .f32
  /-- the first weight of a layer -/
  wi : ℕ → Dev nD → S256x512.Idx → Elt F .f32
  /-- the second weight of a layer -/
  wo : ℕ → Dev nD → S512x256.Idx → Elt F .f32

/-- A landed tile as it is loaded. -/
def unsq (X : T128 F) : S1x128x128.Idx → Elt F .f32 := fun j => X (ix2 (j 1) (j 2))

/-- A device's row blocks: by kept or sent, by half. -/
abbrev Blocks (F : FTy → Type) := Dev nD → Bool → Bool → T256 F

section Layer

variable (w : Dev nD → S256x512.Idx → Elt F .f32) (u : Dev nD → S512x256.Idx → Elt F .f32) (X : Blocks F)

/-- A tile of a device's partial product. -/
def prodT (c : Dev nD) (k f : Bool) (q : Fin 4) : T128 F :=
  dotVal (X c k f) (fun j => w c ((colR q).emb j))
/-- What the first peer sends. -/
def sumS (c : Dev nD) (f : Bool) (q : Fin 4) : T128 F := prodT w X (p1 f c) false f q
/-- The sum over a pair. -/
def sumA (c : Dev nD) (f : Bool) (q : Fin 4) : T128 F :=
  addVal (prodT w X c true f q) (unsq (sumS w X c f q))
/-- The hidden tile a device computes: the sum over both pairs, cut off at zero. -/
def hidK (c : Dev nD) (f : Bool) (q : Fin 4) : T128 F :=
  reluVal (sumA w X c f q) (unsq (sumA w X (p2 f c) f q))
/-- The hidden tile of a kept or a received row block. -/
def hidT (c : Dev nD) (k f : Bool) (q : Fin 4) : T128 F :=
  bif k then hidK w X c f q else hidK w X (p1 f c) f q
/-- A row block of the hidden layer. -/
def hidRow (c : Dev nD) (k f : Bool) : S128x512.Idx → Elt F .f32 := fun j =>
  hidT w X c k f ⟨(j 1).val / 128, by have := (j 1).isLt; simp at this; omega⟩
    (ix2 (j 0) (⟨(j 1).val % 128, Nat.mod_lt _ (by decide)⟩ : Fin 128))
/-- A row block after the layer. -/
def outRow (c : Dev nD) (k f : Bool) : T256 F := rowVal (hidRow w X c k f) (u c)

end Layer

/-- The row blocks before a layer. -/
def Inp.X (A : Inp F) : ℕ → Blocks F
  | 0 => fun c k f j => A.x c ((rowR (blk c k f)).emb j)
  | l + 1 => outRow (A.wi l) (A.wo l) (A.X l)

/-! ## Cells -/

abbrev accM : Memref sig .tc .vmem S512x512 .f32 := Memref.whole cc0_scratch0
abbrev hM : Memref sig .tc .vmem S512x512 .f32 := Memref.whole cc0_scratch1
abbrev xbM : Memref sig .tc .vmem S512x256 .f32 := Memref.whole cc0_scratch2
abbrev s1M : Memref sig .tc .vmem S2x128x512 .f32 := Memref.whole cc0_scratch3
abbrev s2M : Memref sig .tc .vmem S2x128x512 .f32 := Memref.whole cc0_scratch4
abbrev sendS : DmaSems sig S24 := cc0_scratch5
abbrev recvS : DmaSems sig S24 := cc0_scratch6
abbrev barS : Sem sig := (SemArray.scalar (sig.barrier 0 rfl) : Sems sig S_).sem

/-- What the cells of a device are numbered by: the barrier, or sent/received, stage, half, column. -/
abbrev Cell := Option (Bool × Fin 3 × Bool × Fin 4)

/-- The semaphore of a cell. -/
def csem : Cell → SemLoc sig
  | none => .reg barS
  | some (r, s, f, q) => .dma (bif r then (semOf recvS s f q).sem else (semOf sendS s f q).sem)

abbrev kcell (ck : Dev nD × Cell) : GSem nD τ sig := ((ck.1 : Thread nD τ), csem ck.2)
abbrev barCell (c : Dev nD) : GSem nD τ sig := kcell (c, none)
abbrev sendCell (c : Dev nD) (s : Fin 3) (f : Bool) (q : Fin 4) : GSem nD τ sig := kcell (c, some (false, s, f, q))
abbrev recvCell (c : Dev nD) (s : Fin 3) (f : Bool) (q : Fin 4) : GSem nD τ sig := kcell (c, some (true, s, f, q))

/-- What a semaphore is for. -/
def decode : SemLoc sig → Option Cell
  | .reg s => if s = barS then some none else none
  | .dma n => if n.val < 8 then none else
      some (some (decide (32 ≤ n.val), Fin.ofNat 3 ((n.val - 8) / 8), decide ((n.val / 4) % 2 = 1), Fin.ofNat 4 n.val))

theorem decode_csem (k : Cell) : decode (csem k) = some k := by
  revert k; decide +kernel

theorem csem_injective : Function.Injective csem := fun a b h =>
  Option.some.inj ((decode_csem a).symm.trans ((congrArg decode h).trans (decode_csem b)))

theorem kcell_injective : Function.Injective (kcell : Dev nD × Cell → GSem nD τ sig) := by
  rintro ⟨c, k⟩ ⟨c', k'⟩ h
  have h1 : c = c' := congrArg (fun g : GSem nD τ sig => g.1.1) h
  have h2 : k = k' := csem_injective (congrArg Prod.snd h)
  subst h1 h2; rfl

/-- The credit of one tile. -/
abbrev N : ℕ := (landTile s1M false 0).view.dmaCredit
theorem N_pos : 0 < N := View.dmaCredit_pos _ (by decide)

/-! ## What is handed over -/

/-- A memref owned, whatever it holds. -/
abbrev anyOwn (c : Dev nD) {s : Shape} (m : Memref sig .tc .vmem s .f32) : sProp 𝕄 :=
  iprop(∃ X : s.Idx → Elt F .f32, owns (c : Thread nD τ) m fullShare X)

/-- A device's landing tile of the first exchange, free for a layer. -/
def lend1 (c : Dev nD) (f : Bool) (q : Fin 4) (l : ℕ) : sProp 𝕄 :=
  iprop(anyOwn (F := F) c (landTile s1M f q) ∗ reached ER (recvCell c 0 f q) l)
/-- A device's landing tile of the second exchange. -/
def lend2 (c : Dev nD) (f : Bool) (q : Fin 4) (l : ℕ) : sProp 𝕄 :=
  iprop(anyOwn (F := F) c (landTile s2M f q) ∗ reached ER (recvCell c 1 f q) l)
/-- A device's tile of the hidden layer, for the third exchange. -/
def lendH (c : Dev nD) (f : Bool) (q : Fin 4) (l : ℕ) : sProp 𝕄 :=
  iprop(anyOwn (F := F) c (sq hM (blk c false f) q) ∗ reached ER (recvCell c 2 f q) l)

variable (A : Inp F)

/-- What a received tile brings. -/
def recvPay (c : Dev nD) : Fin 3 → Bool → Fin 4 → ℕ → sProp 𝕄
  | 0, f, q, l => iprop(owns (c : Thread nD τ) (landTile s1M f q) fullShare (sumS (A.wi l) (A.X l) c f q)
      ∗ lendH (F := F) (p1 f c) f q l ∗ (if f = false then lend2 (F := F) (p1 f c) true q l else iprop(emp)))
  | 1, f, q, l => owns (c : Thread nD τ) (landTile s2M f q) fullShare (sumA (A.wi l) (A.X l) (p2 f c) f q)
  | 2, f, q, l => iprop(owns (c : Thread nD τ) (sq hM (blk c false f) q) fullShare (hidT (A.wi l) (A.X l) c false f q)
      ∗ (if l < 2 then iprop(lend1 (F := F) (p1 f c) f q (l + 1)
          ∗ (if f = true then lend2 (F := F) (p1 f c) false q (l + 1) else iprop(emp))) else iprop(emp)))

/-- What a sent tile gives back. -/
def sendPay (c : Dev nD) : Fin 3 → Bool → Fin 4 → ℕ → sProp 𝕄
  | 0, f, q, l => anyOwn (F := F) c (sq accM (blk c false f) q)
  | 1, f, q, l => owns (c : Thread nD τ) (sq accM (blk c true f) q) fullShare.right (sumA (A.wi l) (A.X l) c f q)
  | 2, f, q, l => owns (c : Thread nD τ) (sq hM (blk c true f) q) fullShare.right (hidT (A.wi l) (A.X l) c true f q)

/-- The four columns. -/
abbrev cols : List (Fin 4) := [0, 1, 2, 3]

/-- A separating conjunction over a list. -/
def bigL {ι : Type} : List ι → (ι → sProp 𝕄) → sProp 𝕄
  | [], _ => iprop(emp)
  | i :: is, P => iprop(P i ∗ bigL is P)

/-- What the two peers' signals bring. -/
def barPay (c : Dev nD) (d : Bool) : sProp 𝕄 :=
  if d = false then bigL cols fun q => lend1 (F := F) (pA c) false q 0
  else bigL cols fun q => iprop(lend1 (F := F) (pB c) true q 0 ∗ lend2 (F := F) (pB c) false q 0)

instance bigL_storable {ι : Type} (L : List ι) (P : ι → sProp 𝕄) [∀ i, BI.Storable (upEmb : UEmb _ 𝕄) (P i)] :
    BI.Storable (upEmb : UEmb _ 𝕄) (bigL L P) := by
  induction L with
  | nil => unfold bigL; infer_instance
  | cons i is ih => unfold bigL; infer_instance

instance lend1_storable (c : Dev nD) (f q l) : BI.Storable (upEmb : UEmb _ 𝕄) (lend1 (F := F) c f q l) := by
  unfold lend1; infer_instance
instance lend2_storable (c : Dev nD) (f q l) : BI.Storable (upEmb : UEmb _ 𝕄) (lend2 (F := F) c f q l) := by
  unfold lend2; infer_instance
instance lendH_storable (c : Dev nD) (f q l) : BI.Storable (upEmb : UEmb _ 𝕄) (lendH (F := F) c f q l) := by
  unfold lendH; infer_instance
instance recvPay_storable (c : Dev nD) (s f q l) : BI.Storable (upEmb : UEmb _ 𝕄) (recvPay A c s f q l) := by
  match s with
  | 0 => unfold recvPay; dsimp only; split <;> infer_instance
  | 1 => unfold recvPay; infer_instance
  | 2 => unfold recvPay; dsimp only; (repeat' split) <;> infer_instance
instance sendPay_storable (c : Dev nD) (s f q l) : BI.Storable (upEmb : UEmb _ 𝕄) (sendPay A c s f q l) := by
  match s with
  | 0 => unfold sendPay; infer_instance
  | 1 => unfold sendPay; infer_instance
  | 2 => unfold sendPay; infer_instance
instance barPay_storable (c : Dev nD) (d : Bool) : BI.Storable (upEmb : UEmb _ 𝕄) (barPay (F := F) c d) := by
  unfold barPay; split <;> infer_instance

/-- The payload of a cell. -/
def pay (c : Dev nD) (l : ℕ) (d : Bool) : Cell → sProp 𝕄
  | none => barPay (F := F) c d
  | some (r, s, f, q) => if r = true then recvPay A c s f q l else sendPay A c s f q l

/-- The duties, amounts and payloads of every semaphore. -/
def Rd : Rounds.Schedule (GSem nD τ sig) Bool 𝕄 where
  duties g r := if g.1.2 = .tc then
      match decode g.2 with
      | none => ∅
      | some none => if r = 0 then Finset.univ else ∅
      | some (some _) => if r < 3 then {false} else ∅
    else ∅
  unitless _ := False
  amount g _ _ := match decode g.2 with
    | some none => 1
    | _ => N
  payload g r d := match decode g.2 with
    | none => iprop(emp)
    | some k => pay A g.1.1 r d k
  amount_pos g _ _ _ := by
    split
    · exact Nat.one_pos
    · exact N_pos

instance Rd_payload_storable (g : GSem nD τ sig) (r : ℕ) (d : Bool) :
    BI.Storable (upEmb : UEmb _ 𝕄) ((Rd A).payload g r d) := by
  show BI.Storable upEmb (match decode g.2 with
    | none => iprop(emp)
    | some k => pay A g.1.1 r d k)
  split
  · infer_instance
  · rename_i k _
    match k with
    | none => unfold pay; infer_instance
    | some (r, s, f, q) => unfold pay; dsimp only; split <;> infer_instance

theorem duties_bar (c : Dev nD) : (Rd A).duties (barCell c) 0 = Finset.univ := by
  dsimp only [Rd]; rw [if_pos rfl, decode_csem]; exact if_pos rfl
theorem duties_bar_later (c : Dev nD) (r : ℕ) (h : 1 ≤ r) : (Rd A).duties (barCell c) r = ∅ := by
  dsimp only [Rd]; rw [if_pos rfl, decode_csem]; exact if_neg (by omega)
theorem duties_dma (c : Dev nD) (k) {l : ℕ} (h : l < 3) : (Rd A).duties (kcell (c, some k)) l = {false} := by
  dsimp only [Rd]; rw [if_pos rfl, decode_csem]; exact if_pos h
theorem duties_dma_later (c : Dev nD) (k) (l : ℕ) (h : 3 ≤ l) : (Rd A).duties (kcell (c, some k)) l = ∅ := by
  dsimp only [Rd]; rw [if_pos rfl, decode_csem]; exact if_neg (by omega)
theorem amount_bar (c : Dev nD) (r d) : (Rd A).amount (barCell c) r d = 1 := by
  dsimp only [Rd]; rw [decode_csem]
theorem amount_dma (c : Dev nD) (k r d) : (Rd A).amount (kcell (c, some k)) r d = N := by
  dsimp only [Rd]; rw [decode_csem]
theorem payload_bar (c : Dev nD) (r d) : (Rd A).payload (barCell c) r d = barPay (F := F) c d := by
  dsimp only [Rd]; rw [decode_csem]; rfl
theorem payload_recv (c : Dev nD) (s f q l d) : (Rd A).payload (recvCell c s f q) l d = recvPay A c s f q l := by
  dsimp only [Rd]; rw [decode_csem]; rfl
theorem payload_send (c : Dev nD) (s f q l d) : (Rd A).payload (sendCell c s f q) l d = sendPay A c s f q l := by
  dsimp only [Rd]; rw [decode_csem]; rfl

theorem expect_bar (c : Dev nD) : (Rd A).expect (barCell c) 0 = 2 := by
  unfold Schedule.expect Schedule.amountOf; rw [duties_bar]
  simp only [amount_bar]; rfl
theorem expect_dma (c : Dev nD) (k) {l : ℕ} (h : l < 3) : (Rd A).expect (kcell (c, some k)) l = N := by
  unfold Schedule.expect Schedule.amountOf; rw [duties_dma A c k h, Finset.sum_singleton, amount_dma]

theorem rest_bar (c : Dev nD) : bigSep ((Rd A).duties (barCell c) 0 \ ∅) (fun d => (Rd A).payload (barCell c) 0 d)
    = iprop(barPay (F := F) c false ∗ barPay (F := F) c true) := by
  rw [Finset.sdiff_empty, duties_bar, bigSep_univ_eq_bigSepL [false, true] (by decide) (by decide)]
  simp only [payload_bar]; rfl
theorem rest_recv (c : Dev nD) (s f q) {l : ℕ} (h : l < 3) :
    bigSep ((Rd A).duties (recvCell c s f q) l \ ∅) (fun d => (Rd A).payload (recvCell c s f q) l d) = recvPay A c s f q l := by
  rw [Finset.sdiff_empty, duties_dma A c _ h, bigSep_singleton, payload_recv]
theorem rest_send (c : Dev nD) (s f q) {l : ℕ} (h : l < 3) :
    bigSep ((Rd A).duties (sendCell c s f q) l \ ∅) (fun d => (Rd A).payload (sendCell c s f q) l d) = sendPay A c s f q l := by
  rw [Finset.sdiff_empty, duties_dma A c _ h, bigSep_singleton, payload_send]

/-! ## What is owed, and the levels -/

/-- One copy to make: layer, stage, half, column. -/
abbrev Due := ℕ × Fin 3 × Bool × Fin 4

/-- What a device owes for one copy. -/
def due (c : Dev nD) (t : Due) : CellTallies nD τ sig ℕ := tallyAt (recvCell (peer t.2.1 t.2.2.1 c) t.2.1 t.2.2.1 t.2.2.2) t.1 N
/-- What it owes for the copies of a list. -/
def dueSum (c : Dev nD) : List Due → CellTallies nD τ sig ℕ
  | [] => 0
  | t :: ts => dueSum c ts + due c t

/-- The indices of a cell: the layers. -/
def Lx (g : GSem nD τ sig) : Finset ℕ := if g.1.2 = .tc then Finset.range 3 else ∅
/-- The level of a cell at a layer. -/
def lv (g : GSem nD τ sig) (i : ℕ) : ℕ := match decode g.2 with
  | some none => 1
  | some (some (true, s, _, _)) => 3 * i + s.val + 2
  | _ => 0
theorem Lx_of_ne (g : GSem nD τ sig) (h : g.1.2 ≠ .tc) : Lx g = ∅ := if_neg h
theorem Lx_tc (c : Dev nD) (sm : SemLoc sig) : Lx ((c : Thread nD τ), sm) = Finset.range 3 := if_pos rfl
theorem lv_bar (c : Dev nD) (i) : lv (barCell c) i = 1 := by unfold lv; rw [decode_csem]
theorem lv_recv (c : Dev nD) (s f q i) : lv (recvCell c s f q) i = 3 * i + s.val + 2 := by unfold lv; rw [decode_csem]
theorem lv_send (c : Dev nD) (s f q i) : lv (sendCell c s f q) i = 0 := by unfold lv; rw [decode_csem]

/-- All copies of a list lie in the three layers and above a level. -/
def Above (n : ℕ) (D : List Due) : Prop := ∀ t ∈ D, t.1 < 3 ∧ n < 3 * t.1 + t.2.1.val + 2

theorem dueSum_pos {c : Dev nD} {D : List Due} {g : GSem nD τ sig} {i : ℕ} (h : 0 < dueSum c D g i) :
    ∃ t ∈ D, g = recvCell (peer t.2.1 t.2.2.1 c) t.2.1 t.2.2.1 t.2.2.2 ∧ i = t.1 := by
  induction D with
  | nil => exact absurd h (Nat.lt_irrefl 0)
  | cons t ts ih =>
    unfold dueSum at h
    rw [Pi.add_apply, Finsupp.add_apply] at h
    by_cases h1 : 0 < dueSum c ts g i
    · obtain ⟨t', ht', h'⟩ := ih h1
      exact ⟨t', List.mem_cons_of_mem _ ht', h'⟩
    · have h2 : 0 < due c t g i := by omega
      unfold due at h2; rw [tallyAt_apply] at h2
      by_cases h3 : g = recvCell (peer t.2.1 t.2.2.1 c) t.2.1 t.2.2.1 t.2.2.2 ∧ i = t.1
      · exact ⟨t, List.mem_cons_self, h3⟩
      · rw [if_neg h3] at h2; exact absurd h2 (Nat.lt_irrefl 0)

/-- A device may wait on a cell whose level lies below every copy it still owes. -/
theorem mayWait (c : Dev nD) (sm : SemLoc sig) (i : ℕ) (hi : i < 3) (D : List Due) (n : ℕ) (hn : lv ((c : Thread nD τ), sm) i ≤ n)
    (hD : Above n D) : (levAts Lx lv : sProp 𝕄) ⊢ MayWait (c : Thread nD τ) sm i (dueSum c D) :=
  MayOwe.of_cut (L := Lx) (lev := lv) n
    (fun p hp => by rw [Finset.mem_singleton.mp hp, Lx_tc]; exact Finset.mem_range.mpr hi)
    (fun g u hg => by
      obtain ⟨t, ht, rfl, rfl⟩ := dueSum_pos hg
      rw [Lx_tc]; exact Finset.mem_range.mpr (hD t ht).1)
    (fun p hp => by rw [Finset.mem_singleton.mp hp]; exact hn)
    (fun g u hg => by
      obtain ⟨t, ht, rfl, rfl⟩ := dueSum_pos hg
      rw [lv_recv]; exact (hD t ht).2)

/-- What a device owes while the copies of a list are to be made. -/
def Ow (c : Dev nD) (D : List Due) : sProp 𝕄 := iprop(∃ W, owes (c : Thread nD τ) (dueSum c D) W)

/-- Every cell's invariant, and the levels. -/
def Ctx (K : Dev nD × Cell → ℕ) : sProp 𝕄 :=
  iprop((bigSep Finset.univ fun ck : Dev nD × Cell => cellInv ER (Rd A) (K ck) (kcell ck)) ∗ levAts Lx lv)

instance Ctx_persistent (K : Dev nD × Cell → ℕ) : BI.Persistent (Ctx A K) := by unfold Ctx; infer_instance

theorem inv_at (K : Dev nD × Cell → ℕ) (ck : Dev nD × Cell) :
    (bigSep Finset.univ fun ck : Dev nD × Cell => (cellInv ER (Rd A) (K ck) (kcell ck) : sProp 𝕄))
      ⊢ cellInv ER (Rd A) (K ck) (kcell ck) := bigSep_elim (Finset.mem_univ ck)

theorem Ctx_inv (K : Dev nD × Cell → ℕ) (ck : Dev nD × Cell) : Ctx A K ⊢ cellInv ER (Rd A) (K ck) (kcell ck) := by
  unfold Ctx; iintro ⟨H, -⟩
  iapply (inv_at A K ck); iexact H
theorem Ctx_lev (K : Dev nD × Cell → ℕ) : Ctx A K ⊢ levAts Lx lv := by
  unfold Ctx; iintro ⟨-, H⟩; iexact H

/-! ## The copies and the waits -/

/-- A copy to a peer: the source goes to the own cell, the landed tile and what rides along to the peer's. -/
theorem send_rule (K : Dev nD × Cell → ℕ) (c : Dev nD) (s : Fin 3) (f : Bool) (q : Fin 4) {l : ℕ} (hl : l < 3)
    (src dst : Memref sig .tc .vmem S128x128 .f32) (p : PosShare TreeShare) (X : T128 F) (R : sProp 𝕄) (D : List Due)
    (hN : dst.view.dmaCredit = N)
    (hp1 : (owns (c : Thread nD τ) src p X : sProp 𝕄) ⊢ sendPay A c s f q l)
    (hp2 : iprop(owns (peer s f c : Thread nD τ) dst fullShare X ∗ R) ⊢ recvPay A (peer s f c) s f q l)
    (Φ : PUnit → sProp 𝕄) :
    iprop(Ctx A K ∗ owns (c : Thread nD τ) src p X ∗ anyOwn (F := F) (peer s f c) dst ∗ R
        ∗ Ow c ((l, s, f, q) :: D)
        ∗ dutyTok ER (sendCell c s f q) l false ∗ reached ER (sendCell c s f q) l
        ∗ dutyTok ER (recvCell (peer s f c) s f q) l false ∗ reached ER (recvCell (peer s f c) s f q) l)
      ⊢ iprop(((cred (tallyAt (sendCell c s f q) l N) ∗ Ow c D) -∗ Φ ⟨⟩)
          -∗ WP c (send src dst (semOf sendS s f q) (semOf recvS s f q) (peer s f c)) Φ) := by
  unfold anyOwn owns Ow
  iintro ⟨#HC, ⟨%fs, %hfs, Hs⟩, ⟨%Y, %fd, %hfd, Hd⟩, HR, ⟨%W, HO⟩, Ht1, Hr1, Ht2, Hr2⟩ HK
  iapply (Rounds.wp_send_pointsTo_with 𝒱₀ ER (Rd A) (c : Thread nD τ) none (κ₁ := K (c, some (false, s, f, q)))
    (κ₂ := K (peer s f c, some (true, s, f, q))) (r₁ := l) (r₂ := l) (d₁ := false) (d₂ := false) (F := R)
    (sS := .dma (semOf sendS s f q).sem) (sem := .dma (semOf recvS s f q).sem)
    (show false ∈ (Rd A).duties (sendCell c s f q) l by rw [duties_dma A c _ hl]; exact Finset.mem_singleton_self _)
    (show false ∈ (Rd A).duties (recvCell (peer s f c) s f q) l by rw [duties_dma A _ _ hl]; exact Finset.mem_singleton_self _)
    l l N hN (amount_dma A c (false, s, f, q) l false) (amount_dma A (peer s f c) (true, s, f, q) l false)
    (dueSum c D) rfl (W := W)
    (by
      refine .trans ?_ ((hp1.trans (Entails.of_eq (payload_send A c s f q l false).symm)))
      unfold owns; iintro H; iexists fs; isplitr; · ipureintro; exact hfs
      iexact H)
    (by
      refine .trans ?_ (hp2.trans (Entails.of_eq (payload_recv A (peer s f c) s f q l false).symm))
      unfold owns; iintro ⟨H, HR⟩
      isplitl [H]
      · iexists (dst.view.write (Elt F) fd (src.view.read (Elt F) fs) Finset.univ); isplitr
        · ipureintro; rw [hfs]; exact View.read_write_univ _ _
        · iexact H
      · iexact HR)) $$ [Hs Hd HR HO Ht1 Hr1 Ht2 Hr2]
  · isplitr; · iapply (Ctx_inv A K (c, some (false, s, f, q))); iexact HC
    isplitr; · iapply (Ctx_inv A K (peer s f c, some (true, s, f, q))); iexact HC
    isplitl [Hs]; · iexact Hs
    isplitl [Hd HR]
    · isplitl [Hd]; · iexact Hd
      iexact HR
    isplitl [HO]; · iexact HO
    isplitl [Ht1]; · iexact Ht1
    isplitl [Hr1]; · iexact Hr1
    isplitl [Ht2]; · iexact Ht2
    iexact Hr2
  iintro ⟨Hc, HO⟩
  iapply (le_wp_ret _ _ _)
  iapply HK
  isplitl [Hc]; · iexact Hc
  iexists W; iexact HO

/-- The wait for a tile from a peer. -/
theorem recv_rule (K : Dev nD × Cell → ℕ) (c : Dev nD) (s : Fin 3) (f : Bool) (q : Fin 4) {l : ℕ} (hl : l < 3)
    (src dst : Memref sig .tc .vmem S128x128 .f32) (D : List Due)
    (hN : dst.view.dmaCredit = N) (hD : Above (3 * l + s.val + 2) D) (Φ : PUnit → sProp 𝕄) :
    iprop(Ctx A K ∗ cred (tallyAt (recvCell c s f q) l N) ∗ Ow c D ∗ atPos ER (recvCell c s f q) l ∅ 0)
      ⊢ iprop(((Ow c D ∗ atPos ER (recvCell c s f q) (l + 1) ∅ 0 ∗ reached ER (recvCell c s f q) (l + 1) ∗ recvPay A c s f q l) -∗ Φ ⟨⟩)
          -∗ WP c (await (semOf recvS s f q) src dst) Φ) := by
  unfold Ow
  iintro ⟨#HC, Hc, ⟨%W, HO⟩, Hat⟩ HK
  iapply (Rounds.wp_wait_rest_token 𝒱₀ ER (Rd A) (c : Thread nD τ) none (κ := K (c, some (true, s, f, q)))
      (wpE_waitDma2_eq 𝒱₀ (c : Thread nD τ) none Set.univ) (Set.mem_univ _) l (O := dueSum c D) (W := W) (R := l) (m := 0) (T := ∅)
      (sm := csem (some (true, s, f, q))) (k' := dst.view.dmaCredit)
      ((Nat.zero_add _).trans (hN.trans (expect_dma A c _ hl).symm))) $$ [Hc HO Hat]
  · isplitr; · iapply (Ctx_inv A K (c, some (true, s, f, q))); iexact HC
    isplitl [Hc]; · rw [hN]; iexact Hc
    isplitl [HO]; · iexact HO
    isplitr
    · iapply (mayWait c _ l hl D _ (le_of_eq (lv_recv c s f q l)) hD); iapply (Ctx_lev A K); iexact HC
    iexact Hat
  iintro ⟨HO, Hat, Hr, Hp⟩
  ihave Hp := (Entails.of_eq (rest_recv A c s f q hl)) $$ Hp
  iapply (le_wp_ret _ _ _)
  iapply HK
  isplitl [HO]; · iexists _; iexact HO
  isplitl [Hat]; · iexact Hat
  isplitl [Hr]; · iexact Hr
  iexact Hp

/-- The wait until a tile has been sent. -/
theorem sent_rule (K : Dev nD × Cell → ℕ) (c : Dev nD) (s : Fin 3) (f : Bool) (q : Fin 4) {l : ℕ} (hl : l < 3)
    (src dst : Memref sig .tc .vmem S128x128 .f32) (D : List Due)
    (hN : dst.view.dmaCredit = N) (hD : Above 0 D) (Φ : PUnit → sProp 𝕄) :
    iprop(Ctx A K ∗ cred (tallyAt (sendCell c s f q) l N) ∗ Ow c D ∗ atPos ER (sendCell c s f q) l ∅ 0)
      ⊢ iprop(((Ow c D ∗ atPos ER (sendCell c s f q) (l + 1) ∅ 0 ∗ reached ER (sendCell c s f q) (l + 1) ∗ sendPay A c s f q l) -∗ Φ ⟨⟩)
          -∗ WP c (await (semOf sendS s f q) src dst) Φ) := by
  unfold Ow
  iintro ⟨#HC, Hc, ⟨%W, HO⟩, Hat⟩ HK
  iapply (Rounds.wp_wait_rest_token 𝒱₀ ER (Rd A) (c : Thread nD τ) none (κ := K (c, some (false, s, f, q)))
      (wpE_waitDma2_eq 𝒱₀ (c : Thread nD τ) none Set.univ) (Set.mem_univ _) l (O := dueSum c D) (W := W) (R := l) (m := 0) (T := ∅)
      (sm := csem (some (false, s, f, q))) (k' := dst.view.dmaCredit)
      ((Nat.zero_add _).trans (hN.trans (expect_dma A c _ hl).symm))) $$ [Hc HO Hat]
  · isplitr; · iapply (Ctx_inv A K (c, some (false, s, f, q))); iexact HC
    isplitl [Hc]; · rw [hN]; iexact Hc
    isplitl [HO]; · iexact HO
    isplitr
    · iapply (mayWait c _ l hl D _ (le_of_eq (lv_send c s f q l)) hD); iapply (Ctx_lev A K); iexact HC
    iexact Hat
  iintro ⟨HO, Hat, Hr, Hp⟩
  ihave Hp := (Entails.of_eq (rest_send A c s f q hl)) $$ Hp
  iapply (le_wp_ret _ _ _)
  iapply HK
  isplitl [HO]; · iexists _; iexact HO
  isplitl [Hat]; · iexact Hat
  isplitl [Hr]; · iexact Hr
  iexact Hp

end Cert.KernelIdeal.Tp

end
-- ==== Proof.Tile.lean ====
module

public import proofs.«01_k».proof.Proof.Sched
public import Idealize.ShloMosaic.Lib.ValueLayout

@[expose] public section

set_option maxRecDepth 16384

/-!
# Tiles and whole buffers

A landing tile under its two names, a row block of the hidden layer from its four tiles, and the
buffers cut into tiles and put together again.
-/

noncomputable section

namespace Cert.KernelIdeal.Tp

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Facts₀ Facts

variable {F : FTy → Type} [FloatOps F]

local notation "𝕄" => MT nD τ sig ℕ (Elt F) ℕ UU ℕ

/-! ## The landing tile -/

/-- The place of an element of a landing tile, under its two names. -/
theorem land_idx (f : Bool) (q : Fin 4) (j : S128x128.Idx) :
    (Rect.unit (s := S2x128x512) ![f.toNat, 0, 0] S1x128x512.size (half_in f)).emb
      (Shape.reshapeEquiv squeezes_S1x128x512_S128x512.numel_eq
        ((Rect.unit (s := S128x512) ![0, 128 * q.val] S128x128.size (col_in q)).emb j))
      = (cellR f q).emb (ix3 (0 : Fin 1) (j 0) (j 1)) := by
  have h1 : (Rect.unit (s := S128x512) ![0, 128 * q.val] S128x128.size (col_in q)).emb j
      = ix2 (⟨(j 0).val, (j 0).isLt⟩ : Fin 128) (⟨128 * q.val + (j 1).val, by
          have h := (j 1).isLt; have hq := q.isLt; simp at h; omega⟩ : Fin 512) := by
    funext a; refine Fin.ext ?_
    match a with
    | 0 => simp [Rect.emb_apply, ix2]
    | 1 => simp [Rect.emb_apply, ix2]
  rw [h1]
  rw [show (Shape.reshapeEquiv squeezes_S1x128x512_S128x512.numel_eq
    (ix2 (⟨(j 0).val, (j 0).isLt⟩ : Fin 128) (⟨128 * q.val + (j 1).val, by
          have h := (j 1).isLt; have hq := q.isLt; simp at h; omega⟩ : Fin 512)) : S1x128x512.Idx) = _ from
    ValueIdx.reshapeEquiv_ix2_1ab _ _ _]
  funext a; refine Fin.ext ?_
  match a with
  | 0 => simp [Rect.emb_apply, ix3]
  | 1 => simp [Rect.emb_apply, ix3]
  | 2 => simp [Rect.emb_apply, ix3]

theorem land_emb (b : Memref sig .tc .vmem S2x128x512 .f32) (f : Bool) (q : Fin 4) (j : S128x128.Idx) :
    (landTile b f q).view.emb j = (b.slice (cellR f q) (fun _ => rfl)).view.emb (ix3 (0 : Fin 1) (j 0) (j 1)) :=
  congrArg b.view.emb (land_idx f q j)

theorem land_read (b : Memref sig .tc .vmem S2x128x512 .f32) (f : Bool) (q : Fin 4) (g : b.view.ty.Contents (Elt F)) (j : S128x128.Idx) :
    (landTile b f q).view.read (Elt F) g j
      = (b.slice (cellR f q) (fun _ => rfl)).view.read (Elt F) g (ix3 (0 : Fin 1) (j 0) (j 1)) :=
  congrArg (b.view.read (Elt F) g) (land_idx f q j)

theorem ix3_eta (j : S1x128x128.Idx) : ix3 (0 : Fin 1) (j 1) (j 2) = j := by
  funext a
  match a with
  | 0 => exact Fin.ext (by have := (j 0).isLt; simp [ix3] at this ⊢; omega)
  | 1 => rfl
  | 2 => rfl

theorem land_set (b : Memref sig .tc .vmem S2x128x512 .f32) (f : Bool) (q : Fin 4) :
    (landTile b f q).view.set = (b.slice (cellR f q) (fun _ => rfl)).view.set := by
  ext i
  unfold View.set
  constructor
  · intro h
    obtain ⟨j, -, hj⟩ := Finset.mem_map.mp h
    exact Finset.mem_map.mpr ⟨_, Finset.mem_univ _, (land_emb b f q j).symm.trans hj⟩
  · intro h
    obtain ⟨j, -, hj⟩ := Finset.mem_map.mp h
    exact Finset.mem_map.mpr ⟨ix2 (j 1) (j 2), Finset.mem_univ _,
      ((land_emb b f q _).trans (congrArg _ (ix3_eta j))).trans hj⟩

/-- A landing tile, as the copies name it, is the tile as the loads name it. -/
theorem owns_land (c : Dev nD) (b : Memref sig .tc .vmem S2x128x512 .f32) (f : Bool) (q : Fin 4)
    (p : PosShare TreeShare) (X : T128 F) :
    (owns (c : Thread nD τ) (landTile b f q) p X : sProp 𝕄)
      = owns (c : Thread nD τ) (b.slice (cellR f q) (fun _ => rfl)) p (unsq X) := by
  unfold owns
  refine congrArg _ (funext fun g => ?_)
  have hs : ((landTile b f q).view.loc (c : Thread nD τ) ↦[(landTile b f q).view.set]{p} g : sProp 𝕄)
      = ((b.slice (cellR f q) (fun _ => rfl)).view.loc (c : Thread nD τ) ↦[(b.slice (cellR f q) (fun _ => rfl)).view.set]{p} g) := by
    rw [← land_set b f q]; rfl
  have hp : ((landTile b f q).view.read (Elt F) g = X)
      = ((b.slice (cellR f q) (fun _ => rfl)).view.read (Elt F) g = unsq X) := by
    refine propext ⟨fun h => ?_, fun h => ?_⟩
    · subst h; funext j
      exact (congrArg _ (ix3_eta j).symm).trans (land_read b f q g (ix2 (j 1) (j 2))).symm
    · funext j
      have h' := congrFun h (ix3 (0 : Fin 1) (j 0) (j 1))
      have h2 : unsq X (ix3 (0 : Fin 1) (j 0) (j 1)) = X j := by
        unfold unsq; refine congrArg X ?_
        funext a; match a with
        | 0 => rfl
        | 1 => rfl
      rw [← h2, ← h']
      exact land_read b f q g j
  rw [hs, hp]

/-! ## A row block of the hidden layer -/

/-- The row block made of four tiles. -/
def hidOf (T : Fin 4 → T128 F) : S128x512.Idx → Elt F .f32 := fun j =>
  T ⟨(j 1).val / 128, by have := (j 1).isLt; simp at this; omega⟩
    (ix2 (j 0) (⟨(j 1).val % 128, Nat.mod_lt _ (by decide)⟩ : Fin 128))

/-- Contents that read, on the tiles of a row block, as given tiles. -/
def fromTiles (T : Fin 4 → T128 F) : S512x512.Idx → Elt F .f32 := fun i =>
  T ⟨(i 1).val / 128, by have := (i 1).isLt; simp at this; omega⟩
    (ix2 (⟨(i 0).val % 128, Nat.mod_lt _ (by decide)⟩ : Fin 128) (⟨(i 1).val % 128, Nat.mod_lt _ (by decide)⟩ : Fin 128))

theorem fromTiles_emb (T : Fin 4 → T128 F) (r q : Fin 4) : (fun j => fromTiles T ((sqR r q).emb j)) = T q := by
  funext j
  have h0 := (j 0).isLt; have h1 := (j 1).isLt
  simp at h0 h1
  unfold fromTiles
  have e1 : (((sqR r q).emb j) 1).val = 128 * q.val + (j 1).val := by simp [Rect.emb_apply]
  have e0 : (((sqR r q).emb j) 0).val = 128 * r.val + (j 0).val := by simp [Rect.emb_apply]
  have hq : (⟨(((sqR r q).emb j) 1).val / 128, by have := (((sqR r q).emb j) 1).isLt; simp at this; omega⟩ : Fin 4) = q :=
    Fin.ext (by simp only [e1]; omega)
  rw [hq]
  refine congrArg (T q) ?_
  funext a; refine Fin.ext ?_
  match a with
  | 0 => show (((sqR r q).emb j) 0).val % 128 = (j 0).val; rw [e0]; omega
  | 1 => show (((sqR r q).emb j) 1).val % 128 = (j 1).val; rw [e1]; omega

theorem sqR_disj (r : Fin 4) (q q' : Fin 4) (h : q ≠ q') : Disjoint (sqR r q).set (sqR r q').set := by
  refine Finset.disjoint_left.mpr fun i hi hi' => h ?_
  have h1 := (Rect.mem_set_unit.mp hi) 1
  have h2 := (Rect.mem_set_unit.mp hi') 1
  simp at h1 h2
  exact Fin.ext (by omega)

/-- A load of a row block of the hidden layer reads its four tiles. -/
theorem hid_rule (c : Dev nD) (m : Memref sig .tc .vmem S512x512 .f32) (r : Fin 4) (p : PosShare TreeShare)
    (T : Fin 4 → T128 F) (Φ : (S128x512.Idx → Elt F .f32) → sProp 𝕄) :
    (bigSep Finset.univ fun q : Fin 4 => (owns (c : Thread nD τ) (sq m r q) p (T q) : sProp 𝕄))
      ⊢ iprop(((bigSep Finset.univ fun q : Fin 4 => (owns (c : Thread nD τ) (sq m r q) p (T q) : sProp 𝕄))
            -∗ Φ (hidOf T))
          -∗ WP c (loadHid m ![128 * r.val, 0] (hrow_in r)) Φ) := by
  have hjoin := owns_rects_join (Ix := ℕ) (Name := ℕ) (U := UU) (Lvl := ℕ) (c : Thread nD τ) m p (fun q => sqR r q) (fun _ _ => rfl)
    (sqR_disj r) (fromTiles T) Finset.univ
  simp only [fromTiles_emb] at hjoin
  refine hjoin.trans ?_
  iintro ⟨%g, %hg, H⟩ HK
  have hsub : m.view.setOn (hrowR r).toLoadRect.set ⊆ (Finset.univ : Finset (Fin 4)).biUnion fun q => (m.view.slice (sqR r q)).set := by
    intro x hx
    obtain ⟨i, hi, rfl⟩ := Finset.mem_map.mp hx
    have hi' : i ∈ (hrowR r).set := hi
    have h := Rect.mem_set_unit.mp hi'
    have h0 := h 0; have h1 := h 1
    simp at h0 h1
    refine Finset.mem_biUnion.mpr ⟨⟨(i 1).val / 128, by omega⟩, Finset.mem_univ _, ?_⟩
    rw [View.set_slice]
    refine Finset.mem_map_of_mem _ (Rect.mem_set_unit.mpr fun a => ?_)
    match a with
    | 0 => simp; omega
    | 1 => simp; omega
  iapply (wp_load 𝒱₀ (c : Thread nD τ) none Set.univ (m := m) (r := (hrowR r).toLoadRect) (q := p) (f := g) hsub) $$ H
  iintro H
  iapply (le_wp_ret _ _ _)
  have hv : m.view.readAt (Elt F) (hrowR r).toLoadRect g
      = hidOf T := by
    funext j
    have hj1 := (j 1).isLt; have hj0 := (j 0).isLt; simp at hj1 hj0
    let q : Fin 4 := ⟨(j 1).val / 128, by omega⟩
    let j' : S128x128.Idx := ix2 (j 0) (⟨(j 1).val % 128, Nat.mod_lt _ (by decide)⟩ : Fin 128)
    have he : (hrowR r).emb j = (sqR r q).emb j' := by
      funext a; refine Fin.ext ?_
      match a with
      | 0 => simp [Rect.emb_apply, j', ix2]
      | 1 => simp [Rect.emb_apply, j', ix2, q]; omega
    show m.view.read (Elt F) g ((hrowR r).emb j) = T q j'
    rw [he, hg q (Finset.mem_univ _) j']
    exact congrFun (fromTiles_emb T r q) j'
  rw [hv]
  iapply HK
  have hback : (m.view.loc (c : Thread nD τ) ↦[(Finset.univ : Finset (Fin 4)).biUnion fun q => (m.view.slice (sqR r q)).set]{p} g : sProp 𝕄)
      ⊢ bigSep Finset.univ fun q : Fin 4 => (owns (c : Thread nD τ) (sq m r q) p (T q) : sProp 𝕄) := by
    refine (Entails.of_eq (pointsTo_biUnion _ _ fun t _ t' _ htt => by
      rw [View.set_slice, View.set_slice]; exact (Finset.disjoint_map _).mpr (sqR_disj r t t' htt))).trans ?_
    refine bigSep_mono fun q _ => ?_
    have hT : T q = fun j => m.view.read (Elt F) g ((sqR r q).emb j) := by
      rw [← fromTiles_emb T r q]; funext j; exact (hg q (Finset.mem_univ _) j).symm
    rw [hT]
    exact Entails.of_eq (owns_slice_read (c : Thread nD τ) m p (sqR r q) (fun _ => rfl) g).symm
  iapply hback
  iexact H

end Cert.KernelIdeal.Tp

end
-- ==== Proof.Steps.lean ====
module

public import proofs.«01_k».proof.Proof.Tile

@[expose] public section

set_option maxRecDepth 16384

/-!
# The sweeps

What each sweep does to one tile, and what it does to a column of tiles.
-/

noncomputable section

namespace Cert.KernelIdeal.Tp

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Facts₀ Facts

variable {F : FTy → Type} [FloatOps F]

local notation "𝕄" => MT nD τ sig ℕ (Elt F) ℕ UU ℕ

/-- A sequence of two programs. -/
theorem WP_bind (c : Dev nD) {α β : Type} (p : Pr F α) (k : α → Pr F β) (Φ : β → sProp 𝕄) :
    WP c (p >>= k) Φ = WP c p fun a => WP c (k a) Φ := wp_bind _ _ _ _ _ _

/-! ## The tile operations -/

section Micro

variable (c : Dev nD)

/-- Loads a tile. -/
theorem loadSq_rule (b : Memref sig .tc .vmem S512x512 .f32) (k f : Bool) (q : Fin 4) (p : PosShare TreeShare)
    (X : T128 F) (Φ : T128 F → sProp 𝕄) :
    (owns (c : Thread nD τ) (sq b (blk c k f) q) p X : sProp 𝕄)
      ⊢ iprop((owns (c : Thread nD τ) (sq b (blk c k f) q) p X -∗ Φ X)
        -∗ WP c (loadSq b ((Rows.closed c).ta k f q) ((Rows.closed c).ta_in k f q)) Φ) :=
  load_slice c b p (sqR (blk c k f) q) (fun _ => rfl) X Φ

/-- Stores a tile. -/
theorem putSq_rule (b : Memref sig .tc .vmem S512x512 .f32) (k f : Bool) (q : Fin 4)
    (X w : T128 F) (Φ : PUnit → sProp 𝕄) :
    (owns (c : Thread nD τ) (sq b (blk c k f) q) fullShare X : sProp 𝕄)
      ⊢ iprop((owns (c : Thread nD τ) (sq b (blk c k f) q) fullShare w -∗ Φ ⟨⟩)
        -∗ WP c (putSq b ((Rows.closed c).ta k f q) ((Rows.closed c).ta_in k f q) w) Φ) :=
  store_slice c b (sqR (blk c k f) q) (fun _ => rfl) X w Φ

/-- Loads a row block. -/
theorem loadRow_rule (b : Memref sig .tc .vmem S512x256 .f32) (k f : Bool) (p : PosShare TreeShare)
    (X : T256 F) (Φ : T256 F → sProp 𝕄) :
    (owns (c : Thread nD τ) (xrow b (blk c k f)) p X : sProp 𝕄)
      ⊢ iprop((owns (c : Thread nD τ) (xrow b (blk c k f)) p X -∗ Φ X)
        -∗ WP c (loadRow b ((Rows.closed c).xo k f) ((Rows.closed c).xo_in k f)) Φ) :=
  load_slice c b p (rowR (blk c k f)) (fun _ => rfl) X Φ

/-- Stores a row block. -/
theorem putRow_rule (b : Memref sig .tc .vmem S512x256 .f32) (k f : Bool)
    (X w : T256 F) (Φ : PUnit → sProp 𝕄) :
    (owns (c : Thread nD τ) (xrow b (blk c k f)) fullShare X : sProp 𝕄)
      ⊢ iprop((owns (c : Thread nD τ) (xrow b (blk c k f)) fullShare w -∗ Φ ⟨⟩)
        -∗ WP c (putRow b ((Rows.closed c).xo k f) ((Rows.closed c).xo_in k f) w) Φ) :=
  store_slice c b (rowR (blk c k f)) (fun _ => rfl) X w Φ

/-- Loads a landed tile. -/
theorem loadLand_rule (b : Memref sig .tc .vmem S2x128x512 .f32) (f : Bool) (q : Fin 4) (p : PosShare TreeShare)
    (X : T128 F) (Φ : (S1x128x128.Idx → Elt F .f32) → sProp 𝕄) :
    (owns (c : Thread nD τ) (landTile b f q) p X : sProp 𝕄)
      ⊢ iprop((owns (c : Thread nD τ) (landTile b f q) p X -∗ Φ (unsq X))
        -∗ WP c (loadLand b f q) Φ) := by
  rw [owns_land]
  exact load_slice c b p (cellR f q) (fun _ => rfl) (unsq X) Φ

/-- Loads a column block of the first weight. -/
theorem loadCol_rule (win : Memref sig .tc .vmem S256x512 .f32) (q : Fin 4) (p : PosShare TreeShare)
    (W : S256x512.Idx → Elt F .f32) (Φ : (S256x128.Idx → Elt F .f32) → sProp 𝕄) :
    (owns (c : Thread nD τ) win p W : sProp 𝕄)
      ⊢ iprop((owns (c : Thread nD τ) win p W -∗ Φ (fun j => W ((colR q).emb j)))
        -∗ WP c (loadCol win q) Φ) :=
  load_part c win p (colR q) W Φ

/-- Loads the second weight. -/
theorem loadOut_rule (wout : Memref sig .tc .vmem S512x256 .f32) (p : PosShare TreeShare)
    (W : S512x256.Idx → Elt F .f32) (Φ : (S512x256.Idx → Elt F .f32) → sProp 𝕄) :
    (owns (c : Thread nD τ) wout p W : sProp 𝕄)
      ⊢ iprop((owns (c : Thread nD τ) wout p W -∗ Φ W)
        -∗ WP c (loadOut wout) Φ) := by
  have h := load_part c wout p (Rect.unit (s := S512x256) ![0, 0] S512x256.size inb_S512x256_S512x256_0_0) W
    (hl := View.loadsAt_vmem h_S512x256) Φ
  have e : (fun j => W ((Rect.unit (s := S512x256) ![0, 0] S512x256.size inb_S512x256_S512x256_0_0).emb j)) = W := by
    funext j; refine congrArg W ?_
    funext a; refine Fin.ext ?_
    match a with
    | 0 => simp [Rect.emb_apply]
    | 1 => simp [Rect.emb_apply]
  rw [e] at h
  exact h

/-- One tile of the first product. -/
theorem dot_rule (xs : Memref sig .tc .vmem S512x256 .f32) (win : Memref sig .tc .vmem S256x512 .f32)
    (acc : Memref sig .tc .vmem S512x512 .f32) (k f : Bool) (q : Fin 4) (px pw : PosShare TreeShare)
    (X : T256 F) (W : S256x512.Idx → Elt F .f32) (Φ : PUnit → sProp 𝕄) :
    iprop(owns (c : Thread nD τ) (xrow xs (blk c k f)) px X ∗ owns (c : Thread nD τ) win pw W
        ∗ anyOwn (F := F) c (sq acc (blk c k f) q))
      ⊢ iprop(((owns (c : Thread nD τ) (xrow xs (blk c k f)) px X ∗ owns (c : Thread nD τ) win pw W
          ∗ owns (c : Thread nD τ) (sq acc (blk c k f) q) fullShare (dotVal X (fun j => W ((colR q).emb j)))) -∗ Φ ⟨⟩)
        -∗ WP c (dotTile (Rows.closed c) xs win acc k f q) Φ) := by
  unfold dotTile anyOwn
  rw [WP_bind]
  iintro ⟨Hx, Hw, ⟨%Y, Ha⟩⟩ HK
  iapply (loadRow_rule c xs k f px X _) $$ Hx
  iintro Hx
  rw [WP_bind]
  iapply (loadCol_rule c win q pw W _) $$ Hw
  iintro Hw
  rw [WP_bind]
  iapply (loadSq_rule c acc k f q fullShare Y _) $$ Ha
  iintro Ha
  iapply (putSq_rule c acc k f q Y _ _) $$ Ha
  iintro Ha
  iapply HK
  iframe

/-- One row block of the second product. -/
theorem rowDot_rule (h : Memref sig .tc .vmem S512x512 .f32) (wout xd : Memref sig .tc .vmem S512x256 .f32)
    (k f : Bool) (p pw : PosShare TreeShare) (T : Fin 4 → T128 F) (W : S512x256.Idx → Elt F .f32) (Φ : PUnit → sProp 𝕄) :
    iprop((bigSep Finset.univ fun q : Fin 4 => (owns (c : Thread nD τ) (sq h (blk c k f) q) p (T q) : sProp 𝕄))
        ∗ owns (c : Thread nD τ) wout pw W ∗ anyOwn (F := F) c (xrow xd (blk c k f)))
      ⊢ iprop((((bigSep Finset.univ fun q : Fin 4 => (owns (c : Thread nD τ) (sq h (blk c k f) q) p (T q) : sProp 𝕄))
          ∗ owns (c : Thread nD τ) wout pw W
          ∗ owns (c : Thread nD τ) (xrow xd (blk c k f)) fullShare (rowVal (hidOf T) W)) -∗ Φ ⟨⟩)
        -∗ WP c (rowDot (Rows.closed c) h wout xd k f) Φ) := by
  unfold rowDot anyOwn
  rw [WP_bind]
  iintro ⟨Hh, Hw, ⟨%Y, Ha⟩⟩ HK
  iapply (hid_rule c h (blk c k f) p T _) $$ Hh
  iintro Hh
  rw [WP_bind]
  iapply (loadOut_rule c wout pw W _) $$ Hw
  iintro Hw
  rw [WP_bind]
  iapply (loadRow_rule c xd k f fullShare Y _) $$ Ha
  iintro Ha
  iapply (putRow_rule c xd k f Y _ _) $$ Ha
  iintro Ha
  iapply HK
  iframe

end Micro

/-! ## Loops -/

/-- A loop over a list: what is taken and given per entry, with what passes from entry to entry. -/
theorem loop_rule (c : Dev nD) {ι : Type} (g : ι → Pr F PUnit) (Pre Post : ι → sProp 𝕄) (I : List ι → sProp 𝕄)
    (hstep : ∀ t ts (Φ : PUnit → sProp 𝕄), iprop(Pre t ∗ I (t :: ts)) ⊢ iprop(((Post t ∗ I ts) -∗ Φ ⟨⟩) -∗ WP c (g t) Φ))
    (L : List ι) (Φ : PUnit → sProp 𝕄) :
    iprop(bigL L Pre ∗ I L) ⊢ iprop(((bigL L Post ∗ I []) -∗ Φ ⟨⟩) -∗ WP c (loop L g) Φ) := by
  induction L generalizing Φ with
  | nil =>
    unfold bigL loop
    iintro H HK
    iapply (le_wp_ret _ _ _)
    iapply HK; iexact H
  | cons t ts ih =>
    unfold bigL loop
    rw [WP_bind]
    iintro ⟨⟨H, Hs⟩, HI⟩ HK
    iapply (hstep t ts _) $$ [H HI]
    · isplitl [H]; · iexact H
      iexact HI
    iintro ⟨H, HI⟩
    iapply (ih Φ) $$ [Hs HI]
    · isplitl [Hs]; · iexact Hs
      iexact HI
    iintro ⟨Hs, HI⟩
    iapply HK
    isplitl [H Hs]
    · isplitl [H]; · iexact H
      iexact Hs
    iexact HI

/-- A sweep over the eight tiles, taken column by column. -/
theorem tiles_rule (c : Dev nD) (g : Bool × Fin 4 → Pr F PUnit) (Pre Post : Fin 4 → sProp 𝕄) (I : List (Fin 4) → sProp 𝕄)
    (hstep : ∀ q qs (Φ : PUnit → sProp 𝕄), iprop(Pre q ∗ I (q :: qs))
      ⊢ iprop(((Post q ∗ I qs) -∗ Φ ⟨⟩) -∗ WP c (g (false, q)) fun _ => WP c (g (true, q)) Φ))
    (Φ : PUnit → sProp 𝕄) :
    iprop(bigL cols Pre ∗ I cols) ⊢ iprop(((bigL cols Post ∗ I []) -∗ Φ ⟨⟩) -∗ WP c (loop tiles g) Φ) := by
  have h := loop_rule c (fun q => g (false, q) >>= fun _ => g (true, q)) Pre Post I
    (fun q qs Φ => by rw [WP_bind]; exact hstep q qs Φ) cols Φ
  refine h.trans (Entails.of_eq ?_)
  congr 1
  simp only [loop, tiles, WP_bind]

theorem bigL_mono {ι : Type} {P Q : ι → sProp 𝕄} (h : ∀ i, P i ⊢ Q i) (L : List ι) : bigL L P ⊢ bigL L Q := by
  induction L with
  | nil => exact .rfl
  | cons i is ih => unfold bigL; exact BIClass.sep_mono (h i) ih

theorem bigL_of_univ (P : Fin 4 → sProp 𝕄) : bigSep Finset.univ P ⊢ bigL cols P := by
  rw [bigSep_univ_eq_bigSepL [0, 1, 2, 3] (by decide) (by decide)]
  simp only [bigL]
  show iprop(P 0 ∗ P 1 ∗ P 2 ∗ P 3) ⊢ _
  iintro ⟨H0, H1, H2, H3⟩
  iframe

theorem bigL_to_univ (P : Fin 4 → sProp 𝕄) : bigL cols P ⊢ bigSep Finset.univ P := by
  rw [bigSep_univ_eq_bigSepL [0, 1, 2, 3] (by decide) (by decide)]
  simp only [bigL]
  show _ ⊢ iprop(P 0 ∗ P 1 ∗ P 2 ∗ P 3)
  iintro ⟨H0, H1, H2, H3, -⟩
  isplitl [H0]; · iexact H0
  isplitl [H1]; · iexact H1
  isplitl [H2]; · iexact H2
  iexact H3

end Cert.KernelIdeal.Tp

end
-- ==== Proof.Cols.lean ====
module

public import proofs.«01_k».proof.Proof.Steps

@[expose] public section

set_option maxRecDepth 16384

/-!
# The columns

What the first four sweeps do to one tile, and to a column of tiles.
-/

noncomputable section

namespace Cert.KernelIdeal.Tp

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Facts₀ Facts

variable {F : FTy → Type} [FloatOps F]

local notation "𝕄" => MT nD τ sig ℕ (Elt F) ℕ UU ℕ

theorem cred_s1 (f : Bool) (q : Fin 4) : (landTile s1M f q).view.dmaCredit = N := rfl
theorem cred_s2 (f : Bool) (q : Fin 4) : (landTile s2M f q).view.dmaCredit = N := rfl
theorem cred_acc (r q : Fin 4) : (sq accM r q).view.dmaCredit = N := rfl
theorem cred_h (r q : Fin 4) : (sq hM r q).view.dmaCredit = N := rfl

/-- The copies of a sweep over some columns. -/
def dues (l : ℕ) (s : Fin 3) : List (Fin 4) → List Due
  | [] => []
  | q :: qs => (l, s, false, q) :: (l, s, true, q) :: dues l s qs

theorem Above_cons {n : ℕ} {t : Due} {D : List Due} (h : t.1 < 3 ∧ n < 3 * t.1 + t.2.1.val + 2) (hD : Above n D) :
    Above n (t :: D) := by
  intro t' ht'
  rcases List.mem_cons.mp ht' with rfl | h'
  · exact h
  · exact hD t' h'

theorem Above_dues {n l : ℕ} {s : Fin 3} (hl : l < 3) (h : n < 3 * l + s.val + 2) {T : List Due} (hT : Above n T) :
    ∀ qs, Above n (dues l s qs ++ T)
  | [] => hT
  | q :: qs => Above_cons ⟨hl, h⟩ (Above_cons ⟨hl, h⟩ (Above_dues hl h hT qs))

section Sweep

variable (A : Inp F) (K : Dev nD × Cell → ℕ) (c : Dev nD) (l : ℕ)

/-! ## What a tile needs for each sweep, and what is left -/

/-- The copy of a stage has been made, not waited for. -/
abbrev crS (s : Fin 3) (f : Bool) (q : Fin 4) : sProp 𝕄 := cred (tallyAt (sendCell c s f q) l N)
/-- A copy of a stage will come. -/
abbrev crR (s : Fin 3) (f : Bool) (q : Fin 4) : sProp 𝕄 := cred (tallyAt (recvCell c s f q) l N)

/-- For the first sweep. -/
def P1 (f : Bool) (q : Fin 4) : sProp 𝕄 :=
  iprop(anyOwn (F := F) c (sq accM (blk c false f) q) ∗ anyOwn (F := F) c (sq hM (blk c false f) q)
    ∗ reached ER (recvCell c 2 f q) l ∗ lend1 (F := F) (p1 f c) f q l
    ∗ (if f = false then lend2 (F := F) c true q l else iprop(emp))
    ∗ dutyTok ER (sendCell c 0 f q) l false ∗ reached ER (sendCell c 0 f q) l
    ∗ dutyTok ER (recvCell (p1 f c) 0 f q) l false)
/-- After the second sweep. -/
def Q2 (f : Bool) (q : Fin 4) : sProp 𝕄 :=
  owns (c : Thread nD τ) (sq accM (blk c true f) q) fullShare (prodT (A.wi l) (A.X l) c true f q)
/-- For the third sweep. -/
def P3 (f : Bool) (q : Fin 4) : sProp 𝕄 :=
  iprop(crR (F := F) c l 0 f q ∗ atPos ER (recvCell c 0 f q) l ∅ 0
    ∗ dutyTok ER (sendCell c 1 f q) l false ∗ reached ER (sendCell c 1 f q) l
    ∗ dutyTok ER (recvCell (p2 f c) 1 f q) l false)
/-- The kept half of the pair's sum. -/
def accL (f : Bool) (q : Fin 4) : sProp 𝕄 :=
  owns (c : Thread nD τ) (sq accM (blk c true f) q) fullShare.left (sumA (A.wi l) (A.X l) c f q)
/-- After the third sweep. -/
def Q3 (f : Bool) (q : Fin 4) : sProp 𝕄 :=
  iprop(atPos ER (recvCell c 0 f q) (l + 1) ∅ 0 ∗ reached ER (recvCell c 0 f q) (l + 1)
    ∗ anyOwn (F := F) c (landTile s1M f q) ∗ lendH (F := F) (p1 f c) f q l ∗ accL A c l f q ∗ crS (F := F) c l 1 f q)
/-- For the fourth sweep. -/
def P4 (f : Bool) (q : Fin 4) : sProp 𝕄 :=
  iprop(crR (F := F) c l 1 f q ∗ atPos ER (recvCell c 1 f q) l ∅ 0 ∗ anyOwn (F := F) c (sq hM (blk c true f) q)
    ∗ dutyTok ER (sendCell c 2 f q) l false ∗ reached ER (sendCell c 2 f q) l
    ∗ dutyTok ER (recvCell (p1 f c) 2 f q) l false)
/-- What rides along with a hidden tile. -/
def ride (f : Bool) (q : Fin 4) : sProp 𝕄 :=
  if l < 2 then iprop(lend1 (F := F) c f q (l + 1)
    ∗ (if f = true then lend2 (F := F) c false q (l + 1) else iprop(emp))) else iprop(emp)
/-- The kept half of the hidden tile. -/
def hidL (f : Bool) (q : Fin 4) : sProp 𝕄 :=
  owns (c : Thread nD τ) (sq hM (blk c true f) q) fullShare.left (hidT (A.wi l) (A.X l) c true f q)
/-- After the fourth sweep. -/
def Q4 (f : Bool) (q : Fin 4) : sProp 𝕄 :=
  iprop(atPos ER (recvCell c 1 f q) (l + 1) ∅ 0 ∗ reached ER (recvCell c 1 f q) (l + 1)
    ∗ accL A c l f q ∗ hidL A c l f q ∗ crS (F := F) c l 2 f q)

/-! ## One tile -/

variable {l} (hl : l < 3) (lF : Fin 3) (xs : Memref sig .tc .vmem S512x256 .f32) (win : Memref sig .tc .vmem S256x512 .f32)
  (px pw : PosShare TreeShare) (f : Bool) (q : Fin 4) (D : List Due)
include hl

theorem step1_rule (Φ : PUnit → sProp 𝕄) :
    iprop(Ctx A K ∗ owns (c : Thread nD τ) (xrow xs (blk c false f)) px (A.X l c false f) ∗ owns (c : Thread nD τ) win pw (A.wi l c)
        ∗ P1 (F := F) c l f q ∗ Ow c ((l, 0, f, q) :: D))
      ⊢ iprop(((owns (c : Thread nD τ) (xrow xs (blk c false f)) px (A.X l c false f) ∗ owns (c : Thread nD τ) win pw (A.wi l c)
          ∗ crS (F := F) c l 0 f q ∗ Ow c D) -∗ Φ ⟨⟩)
        -∗ WP c (step1 (Rows.closed c) lF xs win accM s1M sendS recvS (f, q)) Φ) := by
  unfold step1 P1 lend1
  rw [WP_bind]
  iintro ⟨#HC, Hx, Hw, ⟨Ha, Hh, #Hr2, ⟨Hd, #Hr0⟩, HR, Ht1, #Hs, Ht2⟩, HO⟩ HK
  iapply (dot_rule c xs win accM false f q px pw (A.X l c false f) (A.wi l c) _) $$ [Hx Hw Ha]
  · isplitl [Hx]; · iexact Hx
    isplitl [Hw]; · iexact Hw
    iexact Ha
  iintro ⟨Hx, Hw, Ha⟩
  iapply (send_rule A K c 0 f q hl (sq accM (blk c false f) q) (landTile s1M f q) fullShare
    (prodT (A.wi l) (A.X l) c false f q)
    iprop(lendH (F := F) c f q l ∗ (if f = false then lend2 (F := F) c true q l else iprop(emp))) D (cred_s1 f q)
    (by unfold sendPay anyOwn; iintro H; iexists _; iexact H)
    (by
      show iprop(owns (p1 f c : Thread nD τ) (landTile s1M f q) fullShare (prodT (A.wi l) (A.X l) c false f q) ∗ _)
        ⊢ recvPay A (p1 f c) 0 f q l
      simp only [recvPay, sumS, p1_p1]; exact .rfl) Φ) $$ [Ha Hh Hd HR Ht1 Ht2 HO]
  · isplitr; · iexact HC
    isplitl [Ha]; · iexact Ha
    isplitl [Hd]; · iexact Hd
    isplitl [Hh HR]
    · isplitl [Hh]
      · unfold lendH; isplitl [Hh]; · iexact Hh
        iexact Hr2
      iexact HR
    isplitl [HO]; · iexact HO
    isplitl [Ht1]; · iexact Ht1
    isplitr; · iexact Hs
    isplitl [Ht2]; · iexact Ht2
    iexact Hr0
  iintro ⟨Hc, HO⟩
  iapply HK
  isplitl [Hx]; · iexact Hx
  isplitl [Hw]; · iexact Hw
  isplitl [Hc]; · iexact Hc
  iexact HO

omit hl in
theorem step2_rule (Φ : PUnit → sProp 𝕄) :
    iprop(owns (c : Thread nD τ) (xrow xs (blk c true f)) px (A.X l c true f) ∗ owns (c : Thread nD τ) win pw (A.wi l c)
        ∗ anyOwn (F := F) c (sq accM (blk c true f) q))
      ⊢ iprop(((owns (c : Thread nD τ) (xrow xs (blk c true f)) px (A.X l c true f) ∗ owns (c : Thread nD τ) win pw (A.wi l c)
          ∗ Q2 A c l f q) -∗ Φ ⟨⟩)
        -∗ WP c (step2 (Rows.closed c) xs win accM (f, q)) Φ) :=
  dot_rule c xs win accM true f q px pw (A.X l c true f) (A.wi l c) Φ

theorem step3_rule (Φ : PUnit → sProp 𝕄) (hD : Above (3 * l + 2) ((l, 1, f, q) :: D)) :
    iprop(Ctx A K ∗ Q2 A c l f q ∗ P3 (F := F) c l f q ∗ lend2 (F := F) (p2 f c) f q l ∗ Ow c ((l, 1, f, q) :: D))
      ⊢ iprop(((Q3 A c l f q ∗ (if f = false then lend2 (F := F) (p1 f c) true q l else iprop(emp)) ∗ Ow c D) -∗ Φ ⟨⟩)
        -∗ WP c (step3 (Rows.closed c) lF accM s1M s2M sendS recvS (f, q)) Φ) := by
  unfold step3 Q2 P3 Q3 accL
  rw [WP_bind]
  iintro ⟨#HC, Ha, ⟨Hcr, Hat, Ht1, #Hs, Ht2⟩, HL, HO⟩ HK
  iapply (recv_rule A K c 0 f q hl (sq accM (blk c false f) q) (landTile s1M f q) _ (cred_s1 f q) hD _) $$ [Hcr HO Hat]
  · isplitr; · iexact HC
    isplitl [Hcr]; · iexact Hcr
    isplitl [HO]; · iexact HO
    iexact Hat
  unfold recvPay
  iintro ⟨HO, Hat, Hr, H1, HH, HR⟩
  rw [WP_bind]
  iapply (loadSq_rule c accM true f q fullShare _ _) $$ Ha
  iintro Ha
  rw [WP_bind]
  iapply (loadLand_rule c s1M f q fullShare _ _) $$ H1
  iintro H1
  rw [WP_bind]
  iapply (loadSq_rule c accM true f q fullShare _ _) $$ Ha
  iintro Ha
  rw [WP_bind]
  iapply (putSq_rule c accM true f q _ (sumA (A.wi l) (A.X l) c f q) _) $$ Ha
  iintro Ha
  ihave Ha := (owns_halves (c : Thread nD τ) (sq accM (blk c true f) q) fullShare (sumA (A.wi l) (A.X l) c f q)).1 $$ Ha
  icases Ha with ⟨HaL, HaR⟩
  unfold lend2
  icases HL with ⟨Hd, #Hrr⟩
  iapply (send_rule A K c 1 f q hl (sq accM (blk c true f) q) (landTile s2M f q) fullShare.right
    (sumA (A.wi l) (A.X l) c f q) iprop(emp) D (cred_s2 f q) .rfl
    (by
      show iprop(owns (p2 f c : Thread nD τ) (landTile s2M f q) fullShare (sumA (A.wi l) (A.X l) c f q) ∗ emp)
        ⊢ recvPay A (p2 f c) 1 f q l
      simp only [recvPay, p2_p2]; iintro ⟨H, -⟩; iexact H) Φ) $$ [HaR Hd Ht1 Ht2 HO]
  · isplitr; · iexact HC
    isplitl [HaR]; · iexact HaR
    isplitl [Hd]; · iexact Hd
    isplitr; · iempintro
    isplitl [HO]; · iexact HO
    isplitl [Ht1]; · iexact Ht1
    isplitr; · iexact Hs
    isplitl [Ht2]; · iexact Ht2
    iexact Hrr
  iintro ⟨Hc, HO⟩
  iapply HK
  isplitl [Hat Hr H1 HH HaL Hc]
  · isplitl [Hat]; · iexact Hat
    isplitl [Hr]; · iexact Hr
    isplitl [H1]; · iexists _; iexact H1
    isplitl [HH]; · iexact HH
    isplitl [HaL]; · iexact HaL
    iexact Hc
  isplitl [HR]; · iexact HR
  iexact HO

theorem step4_rule (Φ : PUnit → sProp 𝕄) (hD : Above (3 * l + 3) ((l, 2, f, q) :: D)) :
    iprop(Ctx A K ∗ accL A c l f q ∗ lendH (F := F) (p1 f c) f q l ∗ P4 (F := F) c l f q ∗ ride (F := F) c l f q
        ∗ Ow c ((l, 2, f, q) :: D))
      ⊢ iprop(((Q4 A c l f q ∗ anyOwn (F := F) c (landTile s2M f q) ∗ Ow c D) -∗ Φ ⟨⟩)
        -∗ WP c (step4 (Rows.closed c) lF accM hM s2M sendS recvS (f, q)) Φ) := by
  unfold step4 P4 Q4 lendH accL hidL
  rw [WP_bind, blk_p1]
  iintro ⟨#HC, Ha, ⟨HH, #Hrr⟩, ⟨Hcr, Hat, ⟨%Y, Hh⟩, Ht1, #Hs, Ht2⟩, HR, HO⟩ HK
  iapply (recv_rule A K c 1 f q hl (sq accM (blk c true f) q) (landTile s2M f q) _ (cred_s2 f q) hD _) $$ [Hcr HO Hat]
  · isplitr; · iexact HC
    isplitl [Hcr]; · iexact Hcr
    isplitl [HO]; · iexact HO
    iexact Hat
  unfold recvPay
  iintro ⟨HO, Hat, Hr, H1⟩
  rw [WP_bind]
  iapply (loadSq_rule c accM true f q fullShare.left _ _) $$ Ha
  iintro Ha
  rw [WP_bind]
  iapply (loadLand_rule c s2M f q fullShare _ _) $$ H1
  iintro H1
  rw [WP_bind]
  iapply (loadSq_rule c hM true f q fullShare _ _) $$ Hh
  iintro Hh
  rw [WP_bind]
  iapply (putSq_rule c hM true f q _ (hidT (A.wi l) (A.X l) c true f q) _) $$ Hh
  iintro Hh
  ihave Hh := (owns_halves (c : Thread nD τ) (sq hM (blk c true f) q) fullShare (hidT (A.wi l) (A.X l) c true f q)).1 $$ Hh
  icases Hh with ⟨HhL, HhR⟩
  iapply (send_rule A K c 2 f q hl (sq hM (blk c true f) q) (sq hM (blk c true f) q) fullShare.right
    (hidT (A.wi l) (A.X l) c true f q) (ride (F := F) c l f q) D (cred_h _ q) .rfl
    (by
      show iprop(owns (p1 f c : Thread nD τ) (sq hM (blk c true f) q) fullShare (hidT (A.wi l) (A.X l) c true f q) ∗ ride (F := F) c l f q)
        ⊢ recvPay A (p1 f c) 2 f q l
      simp only [recvPay, hidT, blk_p1, p1_p1, ride, cond_true, cond_false, Bool.not_false]; exact .rfl) Φ) $$ [HhR HH HR Ht1 Ht2 HO]
  · isplitr; · iexact HC
    isplitl [HhR]; · iexact HhR
    isplitl [HH]; · iexact HH
    isplitl [HR]; · iexact HR
    isplitl [HO]; · iexact HO
    isplitl [Ht1]; · iexact Ht1
    isplitr; · iexact Hs
    isplitl [Ht2]; · iexact Ht2
    iexact Hrr
  iintro ⟨Hc, HO⟩
  iapply HK
  isplitl [Hat Hr Ha HhL Hc]
  · isplitl [Hat]; · iexact Hat
    isplitl [Hr]; · iexact Hr
    isplitl [Ha]; · iexact Ha
    isplitl [HhL]; · iexact HhL
    iexact Hc
  isplitl [H1]; · iexists _; iexact H1
  iexact HO

end Sweep

end Cert.KernelIdeal.Tp

end
-- ==== Proof.Group.lean ====
module

public import proofs.«01_k».proof.Proof.Cols

@[expose] public section

set_option maxRecDepth 16384

/-!
# One layer

A layer from the state before it to the state after it.
-/

noncomputable section

namespace Cert.KernelIdeal.Tp

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Facts₀ Facts

variable {F : FTy → Type} [FloatOps F]

local notation "𝕄" => MT nD τ sig ℕ (Elt F) ℕ UU ℕ

theorem bigL_sep {ι : Type} (P Q : ι → sProp 𝕄) (L : List ι) : bigL L (fun i => iprop(P i ∗ Q i)) ⊢ iprop(bigL L P ∗ bigL L Q) := by
  induction L with
  | nil => unfold bigL; iintro -; isplitl; · iempintro
           iempintro
  | cons i is ih =>
    unfold bigL
    iintro ⟨⟨HP, HQ⟩, H⟩
    ihave H := ih $$ H
    icases H with ⟨H1, H2⟩
    isplitl [HP H1]
    · isplitl [HP]; · iexact HP
      iexact H1
    isplitl [HQ]; · iexact HQ
    iexact H2

theorem bigL_join {ι : Type} (P Q : ι → sProp 𝕄) (L : List ι) : iprop(bigL L P ∗ bigL L Q) ⊢ bigL L (fun i => iprop(P i ∗ Q i)) := by
  induction L with
  | nil => unfold bigL; iintro -; iempintro
  | cons i is ih =>
    unfold bigL
    iintro ⟨⟨HP, H1⟩, HQ, H2⟩
    isplitl [HP HQ]
    · isplitl [HP]; · iexact HP
      iexact HQ
    iapply ih
    isplitl [H1]; · iexact H1
    iexact H2

section Layer

variable (A : Inp F) (K : Dev nD × Cell → ℕ) (c : Dev nD) (l : ℕ)

/-! ## The state between layers -/

/-- The rounds of the two cells of a stage. -/
def pos (s : Fin 3) (f : Bool) (q : Fin 4) : sProp 𝕄 :=
  iprop(atPos ER (sendCell c s f q) l ∅ 0 ∗ reached ER (sendCell c s f q) l
    ∗ atPos ER (recvCell c s f q) l ∅ 0 ∗ reached ER (recvCell c s f q) l)
/-- The tiles of a half and a column, and the rounds of its cells. -/
def half (f : Bool) (q : Fin 4) : sProp 𝕄 :=
  iprop(anyOwn (F := F) c (sq accM (blk c false f) q) ∗ anyOwn (F := F) c (sq accM (blk c true f) q)
    ∗ anyOwn (F := F) c (sq hM (blk c false f) q) ∗ anyOwn (F := F) c (sq hM (blk c true f) q)
    ∗ pos (F := F) c l 0 f q ∗ pos (F := F) c l 1 f q ∗ pos (F := F) c l 2 f q)
/-- The landing tiles: before a layer the peers' are here, after the last one the own. -/
def landSt (q : Fin 4) : sProp 𝕄 :=
  if l < 3 then iprop(lend1 (F := F) (p1 false c) false q l ∗ lend1 (F := F) (p1 true c) true q l ∗ lend2 (F := F) (p2 false c) false q l)
  else iprop(anyOwn (F := F) c (landTile s1M false q) ∗ anyOwn (F := F) c (landTile s1M true q) ∗ anyOwn (F := F) c (landTile s2M false q))
/-- A column before a layer. -/
def St (q : Fin 4) : sProp 𝕄 :=
  iprop(half (F := F) c l false q ∗ half (F := F) c l true q ∗ lend2 (F := F) c true q l ∗ landSt (F := F) c l q)
/-- The rights of a layer's copies of a stage. -/
def tk (s : Fin 3) (f : Bool) (q : Fin 4) : sProp 𝕄 :=
  iprop(crR (F := F) c l s f q ∗ dutyTok ER (sendCell c s f q) l false ∗ dutyTok ER (recvCell (peer s f c) s f q) l false)
/-- The rights of a layer's copies, for a column. -/
def Tok (q : Fin 4) : sProp 𝕄 :=
  iprop((tk (F := F) c l 0 false q ∗ tk (F := F) c l 1 false q ∗ tk (F := F) c l 2 false q)
    ∗ (tk (F := F) c l 0 true q ∗ tk (F := F) c l 1 true q ∗ tk (F := F) c l 2 true q))

/-! ## The states inside a layer -/

def P6 (f : Bool) (q : Fin 4) : sProp 𝕄 := iprop(crR (F := F) c l 2 f q ∗ atPos ER (recvCell c 2 f q) l ∅ 0)
def P7 (f : Bool) (q : Fin 4) : sProp 𝕄 :=
  iprop(atPos ER (sendCell c 0 f q) l ∅ 0 ∗ atPos ER (sendCell c 1 f q) l ∅ 0 ∗ atPos ER (sendCell c 2 f q) l ∅ 0)
def B4 (q : Fin 4) : sProp 𝕄 := iprop(P6 (F := F) c l false q ∗ P6 (F := F) c l true q ∗ P7 (F := F) c l false q ∗ P7 (F := F) c l true q)
def B3 (q : Fin 4) : sProp 𝕄 := iprop(P4 (F := F) c l false q ∗ P4 (F := F) c l true q ∗ B4 (F := F) c l q)
def B2 (q : Fin 4) : sProp 𝕄 :=
  iprop(lend2 (F := F) (p2 false c) false q l ∗ P3 (F := F) c l false q ∗ P3 (F := F) c l true q ∗ B3 (F := F) c l q)
def B1 (q : Fin 4) : sProp 𝕄 :=
  iprop(anyOwn (F := F) c (sq accM (blk c true false) q) ∗ anyOwn (F := F) c (sq accM (blk c true true) q) ∗ B2 (F := F) c l q)
/-- Before the first sweep. -/
def C0 (q : Fin 4) : sProp 𝕄 := iprop(P1 (F := F) c l false q ∗ P1 (F := F) c l true q ∗ B1 (F := F) c l q)
def cr0 (q : Fin 4) : sProp 𝕄 := iprop(crS (F := F) c l 0 false q ∗ crS (F := F) c l 0 true q)
/-- After the first sweep. -/
def C1 (q : Fin 4) : sProp 𝕄 := iprop(cr0 (F := F) c l q ∗ B1 (F := F) c l q)
/-- After the second sweep. -/
def C2 (q : Fin 4) : sProp 𝕄 := iprop(cr0 (F := F) c l q ∗ Q2 A c l false q ∗ Q2 A c l true q ∗ B2 (F := F) c l q)
/-- After the third sweep. -/
def C3 (q : Fin 4) : sProp 𝕄 := iprop(cr0 (F := F) c l q ∗ Q3 A c l false q ∗ Q3 A c l true q ∗ B3 (F := F) c l q)
def Q5 (f : Bool) (q : Fin 4) : sProp 𝕄 :=
  iprop(atPos ER (recvCell c 0 f q) (l + 1) ∅ 0 ∗ reached ER (recvCell c 0 f q) (l + 1) ∗ crS (F := F) c l 1 f q ∗ Q4 A c l f q)
/-- The landing tiles that stay after the last layer. -/
def left3 (q : Fin 4) : sProp 𝕄 :=
  if l < 2 then iprop(emp)
  else iprop(anyOwn (F := F) c (landTile s1M false q) ∗ anyOwn (F := F) c (landTile s1M true q) ∗ anyOwn (F := F) c (landTile s2M false q))
/-- After the fourth sweep. -/
def C4 (q : Fin 4) : sProp 𝕄 :=
  iprop(cr0 (F := F) c l q ∗ Q5 A c l false q ∗ Q5 A c l true q ∗ lend2 (F := F) c true q (l + 1) ∗ left3 (F := F) c l q ∗ B4 (F := F) c l q)
/-- The waits of a stage's copies. -/
def W7 (s : Fin 3) (q : Fin 4) : sProp 𝕄 :=
  iprop((crS (F := F) c l s false q ∗ atPos ER (sendCell c s false q) l ∅ 0) ∗ (crS (F := F) c l s true q ∗ atPos ER (sendCell c s true q) l ∅ 0))
def Y7 (s : Fin 3) (f : Bool) (q : Fin 4) : sProp 𝕄 :=
  iprop(atPos ER (sendCell c s f q) (l + 1) ∅ 0 ∗ reached ER (sendCell c s f q) (l + 1) ∗ sendPay A c s f q l)
def R6 (f : Bool) (q : Fin 4) : sProp 𝕄 :=
  iprop(atPos ER (recvCell c 2 f q) (l + 1) ∅ 0 ∗ reached ER (recvCell c 2 f q) (l + 1)
    ∗ (if l < 2 then iprop(lend1 (F := F) (p1 f c) f q (l + 1)
          ∗ (if f = true then lend2 (F := F) (p1 f c) false q (l + 1) else iprop(emp))) else iprop(emp)))
/-- The received hidden tile. -/
def hidS (f : Bool) (q : Fin 4) : sProp 𝕄 :=
  owns (c : Thread nD τ) (sq hM (blk c false f) q) fullShare (hidT (A.wi l) (A.X l) c false f q)
def GH (f : Bool) (q : Fin 4) : sProp 𝕄 :=
  iprop(atPos ER (recvCell c 0 f q) (l + 1) ∅ 0 ∗ reached ER (recvCell c 0 f q) (l + 1)
    ∗ atPos ER (recvCell c 1 f q) (l + 1) ∅ 0 ∗ reached ER (recvCell c 1 f q) (l + 1) ∗ accL A c l f q)
def G7 (q : Fin 4) : sProp 𝕄 :=
  iprop(GH A c l false q ∗ GH A c l true q ∗ lend2 (F := F) c true q (l + 1) ∗ left3 (F := F) c l q)

/-- The four row blocks of a layer's activations. -/
def XR (xs : Memref sig .tc .vmem S512x256 .f32) (p : PosShare TreeShare) : sProp 𝕄 :=
  iprop(owns (c : Thread nD τ) (xrow xs (blk c false false)) p (A.X l c false false)
    ∗ owns (c : Thread nD τ) (xrow xs (blk c false true)) p (A.X l c false true)
    ∗ owns (c : Thread nD τ) (xrow xs (blk c true false)) p (A.X l c true false)
    ∗ owns (c : Thread nD τ) (xrow xs (blk c true true)) p (A.X l c true true))
/-- Four row blocks, whatever they hold. -/
def XAny (xs : Memref sig .tc .vmem S512x256 .f32) : sProp 𝕄 :=
  iprop(anyOwn (F := F) c (xrow xs (blk c false false)) ∗ anyOwn (F := F) c (xrow xs (blk c false true))
    ∗ anyOwn (F := F) c (xrow xs (blk c true false)) ∗ anyOwn (F := F) c (xrow xs (blk c true true)))

/-! ## The regroupings -/

theorem half_start (f : Bool) (q : Fin 4) (hl : l < 3) :
    iprop(half (F := F) c l f q ∗ (tk (F := F) c l 0 f q ∗ tk (F := F) c l 1 f q ∗ tk (F := F) c l 2 f q) ∗ lend1 (F := F) (p1 f c) f q l
      ∗ (if f = false then lend2 (F := F) c true q l else iprop(emp)))
    ⊢ iprop(P1 (F := F) c l f q ∗ anyOwn (F := F) c (sq accM (blk c true f) q) ∗ P3 (F := F) c l f q ∗ P4 (F := F) c l f q
      ∗ P6 (F := F) c l f q ∗ P7 (F := F) c l f q) := by
  unfold half tk pos P1 P3 P4 P6 P7
  iintro ⟨⟨Ha, Hb, Hc, Hd, ⟨HS0, #HS0', HR0, #HR0'⟩, ⟨HS1, #HS1', HR1, #HR1'⟩, ⟨HS2, #HS2', HR2, #HR2'⟩⟩,
    ⟨⟨Hc0, Hs0, Hr0⟩, ⟨Hc1, Hs1, Hr1⟩, ⟨Hc2, Hs2, Hr2⟩⟩, HL, HR⟩
  isplitl [Ha Hc HL HR Hs0 Hr0]
  · isplitl [Ha]; · iexact Ha
    isplitl [Hc]; · iexact Hc
    isplitr; · iexact HR2'
    isplitl [HL]; · iexact HL
    isplitl [HR]; · iexact HR
    isplitl [Hs0]; · iexact Hs0
    isplitr; · iexact HS0'
    iexact Hr0
  isplitl [Hb]; · iexact Hb
  isplitl [Hc0 HR0 Hs1 Hr1]
  · isplitl [Hc0]; · iexact Hc0
    isplitl [HR0]; · iexact HR0
    isplitl [Hs1]; · iexact Hs1
    isplitr; · iexact HS1'
    iexact Hr1
  isplitl [Hc1 HR1 Hd Hs2 Hr2]
  · isplitl [Hc1]; · iexact Hc1
    isplitl [HR1]; · iexact HR1
    isplitl [Hd]; · iexact Hd
    isplitl [Hs2]; · iexact Hs2
    isplitr; · iexact HS2'
    iexact Hr2
  isplitl [Hc2 HR2]
  · isplitl [Hc2]; · iexact Hc2
    iexact HR2
  isplitl [HS0]; · iexact HS0
  isplitl [HS1]; · iexact HS1
  iexact HS2

/-- A column before a layer, with the layer's rights. -/
theorem col_start (q : Fin 4) (hl : l < 3) : iprop(St (F := F) c l q ∗ Tok (F := F) c l q) ⊢ C0 (F := F) c l q := by
  have h0 := half_start (F := F) c l false q hl
  have h1 := half_start (F := F) c l true q hl
  simp only [↓reduceIte, reduceCtorEq] at h0 h1
  unfold St Tok landSt C0 B1 B2 B3 B4
  rw [if_pos hl]
  iintro ⟨⟨H0, H1, HL, HL0, HL1, HL2⟩, T0, T1⟩
  ihave K0 := h0 $$ [H0 T0 HL0 HL]
  · isplitl [H0]; · iexact H0
    isplitl [T0]; · iexact T0
    isplitl [HL0]; · iexact HL0
    iexact HL
  ihave K1 := h1 $$ [H1 T1 HL1]
  · isplitl [H1]; · iexact H1
    isplitl [T1]; · iexact T1
    isplitl [HL1]; · iexact HL1
    iempintro
  icases K0 with ⟨A1, A2, A3, A4, A6, A7⟩
  icases K1 with ⟨B1, B2, B3, B4, B6, B7⟩
  isplitl [A1]; · iexact A1
  isplitl [B1]; · iexact B1
  isplitl [A2]; · iexact A2
  isplitl [B2]; · iexact B2
  isplitl [HL2]; · iexact HL2
  isplitl [A3]; · iexact A3
  isplitl [B3]; · iexact B3
  isplitl [A4]; · iexact A4
  isplitl [B4]; · iexact B4
  isplitl [A6]; · iexact A6
  isplitl [B6]; · iexact B6
  isplitl [A7]; · iexact A7
  iexact B7

/-- A column after the fourth sweep, taken apart. -/
theorem col_split (q : Fin 4) : C4 A c l q ⊢ iprop(hidL A c l false q ∗ hidL A c l true q ∗ P6 (F := F) c l false q ∗ P6 (F := F) c l true q
    ∗ W7 (F := F) c l 0 q ∗ W7 (F := F) c l 1 q ∗ W7 (F := F) c l 2 q ∗ G7 A c l q) := by
  unfold C4 cr0 Q5 Q4 B4 W7 G7 GH P7
  iintro ⟨⟨Hc0, Hd0⟩, ⟨A0, A1, A2, A3, A4, A5, A6, A7⟩, ⟨B0, B1, B2, B3, B4, B5, B6, B7⟩, HL, HL3, H6, H6', ⟨S0, S1, S2⟩, ⟨T0, T1, T2⟩⟩
  isplitl [A6]; · iexact A6
  isplitl [B6]; · iexact B6
  isplitl [H6]; · iexact H6
  isplitl [H6']; · iexact H6'
  isplitl [Hc0 S0 Hd0 T0]
  · isplitl [Hc0 S0]
    · isplitl [Hc0]; · iexact Hc0
      iexact S0
    isplitl [Hd0]; · iexact Hd0
    iexact T0
  isplitl [A2 S1 B2 T1]
  · isplitl [A2 S1]
    · isplitl [A2]; · iexact A2
      iexact S1
    isplitl [B2]; · iexact B2
    iexact T1
  isplitl [A7 S2 B7 T2]
  · isplitl [A7 S2]
    · isplitl [A7]; · iexact A7
      iexact S2
    isplitl [B7]; · iexact B7
    iexact T2
  isplitl [A0 A1 A3 A4 A5]
  · isplitl [A0]; · iexact A0
    isplitl [A1]; · iexact A1
    isplitl [A3]; · iexact A3
    isplitl [A4]; · iexact A4
    iexact A5
  isplitl [B0 B1 B3 B4 B5]
  · isplitl [B0]; · iexact B0
    isplitl [B1]; · iexact B1
    isplitl [B3]; · iexact B3
    isplitl [B4]; · iexact B4
    iexact B5
  isplitl [HL]; · iexact HL
  iexact HL3

theorem half_end (f : Bool) (q : Fin 4) :
    iprop(hidL A c l f q ∗ hidS A c l f q ∗ R6 (F := F) c l f q ∗ Y7 A c l 0 f q ∗ Y7 A c l 1 f q ∗ Y7 A c l 2 f q ∗ GH A c l f q)
      ⊢ iprop(half (F := F) c (l + 1) f q ∗ (if l < 2 then iprop(lend1 (F := F) (p1 f c) f q (l + 1)
          ∗ (if f = true then lend2 (F := F) (p1 f c) false q (l + 1) else iprop(emp))) else iprop(emp))) := by
  unfold hidL hidS R6 Y7 GH accL half pos sendPay
  iintro ⟨HhL, HhS, ⟨R2, R2', HR⟩, ⟨S0, S0', HA⟩, ⟨S1, S1', HaR⟩, ⟨S2, S2', HhR⟩, R0, R0', R1, R1', HaL⟩
  ihave Ha := (owns_halves (c : Thread nD τ) (sq accM (blk c true f) q) fullShare (sumA (A.wi l) (A.X l) c f q)).2 $$ [HaL HaR]
  · isplitl [HaL]; · iexact HaL
    iexact HaR
  ihave Hh := (owns_halves (c : Thread nD τ) (sq hM (blk c true f) q) fullShare (hidT (A.wi l) (A.X l) c true f q)).2 $$ [HhL HhR]
  · isplitl [HhL]; · iexact HhL
    iexact HhR
  isplitr [HR]
  · isplitl [HA]; · iexact HA
    isplitl [Ha]; · iexists _; iexact Ha
    isplitl [HhS]; · iexists _; iexact HhS
    isplitl [Hh]; · iexists _; iexact Hh
    isplitl [S0 S0' R0 R0']
    · isplitl [S0]; · iexact S0
      isplitl [S0']; · iexact S0'
      isplitl [R0]; · iexact R0
      iexact R0'
    isplitl [S1 S1' R1 R1']
    · isplitl [S1]; · iexact S1
      isplitl [S1']; · iexact S1'
      isplitl [R1]; · iexact R1
      iexact R1'
    isplitl [S2]; · iexact S2
    isplitl [S2']; · iexact S2'
    isplitl [R2]; · iexact R2
    iexact R2'
  iexact HR

/-- A column after a layer. -/
theorem col_end (q : Fin 4) (hl : l < 3) :
    iprop((hidL A c l false q ∗ hidS A c l false q ∗ R6 (F := F) c l false q) ∗ (hidL A c l true q ∗ hidS A c l true q ∗ R6 (F := F) c l true q)
      ∗ (Y7 A c l 0 false q ∗ Y7 A c l 0 true q) ∗ (Y7 A c l 1 false q ∗ Y7 A c l 1 true q) ∗ (Y7 A c l 2 false q ∗ Y7 A c l 2 true q) ∗ G7 A c l q)
      ⊢ St (F := F) c (l + 1) q := by
  have h0 := half_end A c l false q
  have h1 := half_end A c l true q
  unfold G7 St
  iintro ⟨⟨Ha, Hb, Hc⟩, ⟨Ha', Hb', Hc'⟩, ⟨Y0, Y0'⟩, ⟨Y1, Y1'⟩, ⟨Y2, Y2'⟩, HG, HG', HL, H3⟩
  ihave K0 := h0 $$ [Ha Hb Hc Y0 Y1 Y2 HG]
  · isplitl [Ha]; · iexact Ha
    isplitl [Hb]; · iexact Hb
    isplitl [Hc]; · iexact Hc
    isplitl [Y0]; · iexact Y0
    isplitl [Y1]; · iexact Y1
    isplitl [Y2]; · iexact Y2
    iexact HG
  ihave K1 := h1 $$ [Ha' Hb' Hc' Y0' Y1' Y2' HG']
  · isplitl [Ha']; · iexact Ha'
    isplitl [Hb']; · iexact Hb'
    isplitl [Hc']; · iexact Hc'
    isplitl [Y0']; · iexact Y0'
    isplitl [Y1']; · iexact Y1'
    isplitl [Y2']; · iexact Y2'
    iexact HG'
  icases K0 with ⟨K0, L0⟩
  icases K1 with ⟨K1, L1⟩
  isplitl [K0]; · iexact K0
  isplitl [K1]; · iexact K1
  isplitl [HL]; · iexact HL
  unfold landSt left3
  by_cases h : l < 2
  · have h' : l + 1 < 3 := by omega
    simp only [if_pos h, if_pos h', ↓reduceIte, reduceCtorEq]
    icases L0 with ⟨L0, -⟩
    icases L1 with ⟨L1, L2⟩
    isplitl [L0]; · iexact L0
    isplitl [L1]; · iexact L1
    iexact L2
  · have h' : ¬ l + 1 < 3 := by omega
    simp only [if_neg h, if_neg h']
    iexact H3

end Layer

end Cert.KernelIdeal.Tp

end
-- ==== Proof.Layer.lean ====
module

public import proofs.«01_k».proof.Proof.Group

@[expose] public section

set_option maxRecDepth 16384

/-!
# The layer's program

The sweeps over all tiles, and the layer.
-/

noncomputable section

namespace Cert.KernelIdeal.Tp

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Facts₀ Facts

variable {F : FTy → Type} [FloatOps F]

local notation "𝕄" => MT nD τ sig ℕ (Elt F) ℕ UU ℕ

section Layer

variable (A : Inp F) (K : Dev nD × Cell → ℕ) (c : Dev nD) {l : ℕ} (hl : l < 3) (lF : Fin 3)
  (xs : Memref sig .tc .vmem S512x256 .f32) (win : Memref sig .tc .vmem S256x512 .f32)
  (px pw : PosShare TreeShare) (T : List Due)
include hl

/-- The first sweep. -/
theorem sweep1 (Φ : PUnit → sProp 𝕄) :
    iprop(bigL cols (C0 (F := F) c l) ∗ Ctx A K ∗ owns (c : Thread nD τ) (xrow xs (blk c false false)) px (A.X l c false false)
        ∗ owns (c : Thread nD τ) (xrow xs (blk c false true)) px (A.X l c false true)
        ∗ owns (c : Thread nD τ) win pw (A.wi l c) ∗ Ow c (dues l 0 cols ++ T))
      ⊢ iprop(((bigL cols (C1 (F := F) c l) ∗ Ctx A K ∗ owns (c : Thread nD τ) (xrow xs (blk c false false)) px (A.X l c false false)
        ∗ owns (c : Thread nD τ) (xrow xs (blk c false true)) px (A.X l c false true)
        ∗ owns (c : Thread nD τ) win pw (A.wi l c) ∗ Ow c (dues l 0 [] ++ T)) -∗ Φ ⟨⟩)
        -∗ WP c (loop tiles (step1 (Rows.closed c) lF xs win accM s1M sendS recvS)) Φ) :=
  tiles_rule c _ _ _ (fun qs => iprop(Ctx A K ∗ owns (c : Thread nD τ) (xrow xs (blk c false false)) px (A.X l c false false)
        ∗ owns (c : Thread nD τ) (xrow xs (blk c false true)) px (A.X l c false true)
        ∗ owns (c : Thread nD τ) win pw (A.wi l c) ∗ Ow c (dues l 0 qs ++ T))) (fun q qs Φ => by
    unfold C0 C1 cr0
    simp only [dues, List.cons_append]
    iintro ⟨⟨H1, H2, HB⟩, #HC, Hx, Hy, Hw, HO⟩ HK
    iapply (step1_rule A K c hl lF xs win px pw false q _ _) $$ [H1 Hx Hw HO]
    · isplitr; · iexact HC
      isplitl [Hx]; · iexact Hx
      isplitl [Hw]; · iexact Hw
      isplitl [H1]; · iexact H1
      iexact HO
    iintro ⟨Hx, Hw, Hc, HO⟩
    iapply (step1_rule A K c hl lF xs win px pw true q _ _) $$ [H2 Hy Hw HO]
    · isplitr; · iexact HC
      isplitl [Hy]; · iexact Hy
      isplitl [Hw]; · iexact Hw
      isplitl [H2]; · iexact H2
      iexact HO
    iintro ⟨Hy, Hw, Hd, HO⟩
    iapply HK
    isplitl [Hc Hd HB]
    · isplitl [Hc Hd]
      · isplitl [Hc]; · iexact Hc
        iexact Hd
      iexact HB
    isplitr; · iexact HC
    isplitl [Hx]; · iexact Hx
    isplitl [Hy]; · iexact Hy
    isplitl [Hw]; · iexact Hw
    iexact HO) Φ

omit hl in
/-- The second sweep. -/
theorem sweep2 (Φ : PUnit → sProp 𝕄) :
    iprop(bigL cols (C1 (F := F) c l) ∗ owns (c : Thread nD τ) (xrow xs (blk c true false)) px (A.X l c true false)
        ∗ owns (c : Thread nD τ) (xrow xs (blk c true true)) px (A.X l c true true)
        ∗ owns (c : Thread nD τ) win pw (A.wi l c))
      ⊢ iprop(((bigL cols (C2 A c l) ∗ owns (c : Thread nD τ) (xrow xs (blk c true false)) px (A.X l c true false)
        ∗ owns (c : Thread nD τ) (xrow xs (blk c true true)) px (A.X l c true true)
        ∗ owns (c : Thread nD τ) win pw (A.wi l c)) -∗ Φ ⟨⟩)
        -∗ WP c (loop tiles (step2 (Rows.closed c) xs win accM)) Φ) :=
  tiles_rule c _ _ _ (fun _ => iprop(owns (c : Thread nD τ) (xrow xs (blk c true false)) px (A.X l c true false)
        ∗ owns (c : Thread nD τ) (xrow xs (blk c true true)) px (A.X l c true true)
        ∗ owns (c : Thread nD τ) win pw (A.wi l c))) (fun q qs Φ => by
    unfold C1 C2 B1
    iintro ⟨⟨Hc, H1, H2, HB⟩, Hx, Hy, Hw⟩ HK
    iapply (step2_rule A c xs win px pw false q _) $$ [H1 Hx Hw]
    · isplitl [Hx]; · iexact Hx
      isplitl [Hw]; · iexact Hw
      iexact H1
    iintro ⟨Hx, Hw, H1⟩
    iapply (step2_rule A c xs win px pw true q _) $$ [H2 Hy Hw]
    · isplitl [Hy]; · iexact Hy
      isplitl [Hw]; · iexact Hw
      iexact H2
    iintro ⟨Hy, Hw, H2⟩
    iapply HK
    isplitl [Hc H1 H2 HB]
    · isplitl [Hc]; · iexact Hc
      isplitl [H1]; · iexact H1
      isplitl [H2]; · iexact H2
      iexact HB
    isplitl [Hx]; · iexact Hx
    isplitl [Hy]; · iexact Hy
    iexact Hw) Φ

/-- The third sweep. -/
theorem sweep3 (hT : Above (3 * l + 2) T) (Φ : PUnit → sProp 𝕄) :
    iprop(bigL cols (C2 A c l) ∗ Ctx A K ∗ Ow c (dues l 1 cols ++ T))
      ⊢ iprop(((bigL cols (C3 A c l) ∗ Ctx A K ∗ Ow c (dues l 1 [] ++ T)) -∗ Φ ⟨⟩)
        -∗ WP c (loop tiles (step3 (Rows.closed c) lF accM s1M s2M sendS recvS)) Φ) :=
  tiles_rule c _ _ _ (fun qs => iprop(Ctx A K ∗ Ow c (dues l 1 qs ++ T))) (fun q qs Φ => by
    have hlt : 3 * l + 2 < 3 * l + (1 : Fin 3).val + 2 := by show _ < 3 * l + 1 + 2; omega
    have hA := Above_dues (s := 1) hl hlt hT qs
    have hB : Above (3 * l + 2) ((l, (1 : Fin 3), true, q) :: (dues l 1 qs ++ T)) := Above_cons ⟨hl, hlt⟩ hA
    have h0 := fun Φ => step3_rule A K c hl lF false q _ Φ (Above_cons ⟨hl, hlt⟩ hB)
    have h1 := fun Φ => step3_rule A K c hl lF true q _ Φ hB
    simp only [↓reduceIte, reduceCtorEq] at h0 h1
    unfold C2 C3 B2
    simp only [dues, List.cons_append]
    iintro ⟨⟨Hc, H1, H2, HL, P1, P2, HB⟩, #HC, HO⟩ HK
    iapply (h0 _) $$ [H1 P1 HL HO]
    · isplitr; · iexact HC
      isplitl [H1]; · iexact H1
      isplitl [P1]; · iexact P1
      isplitl [HL]; · iexact HL
      iexact HO
    iintro ⟨H1, HL, HO⟩
    iapply (h1 _) $$ [H2 P2 HL HO]
    · isplitr; · iexact HC
      isplitl [H2]; · iexact H2
      isplitl [P2]; · iexact P2
      isplitl [HL]; · iexact HL
      iexact HO
    iintro ⟨H2, -, HO⟩
    iapply HK
    isplitl [Hc H1 H2 HB]
    · isplitl [Hc]; · iexact Hc
      isplitl [H1]; · iexact H1
      isplitl [H2]; · iexact H2
      iexact HB
    isplitr; · iexact HC
    iexact HO) Φ

/-- The fourth sweep. -/
theorem sweep4 (hT : Above (3 * l + 3) T) (Φ : PUnit → sProp 𝕄) :
    iprop(bigL cols (C3 A c l) ∗ Ctx A K ∗ Ow c (dues l 2 cols ++ T))
      ⊢ iprop(((bigL cols (C4 A c l) ∗ Ctx A K ∗ Ow c (dues l 2 [] ++ T)) -∗ Φ ⟨⟩)
        -∗ WP c (loop tiles (step4 (Rows.closed c) lF accM hM s2M sendS recvS)) Φ) :=
  tiles_rule c _ _ _ (fun qs => iprop(Ctx A K ∗ Ow c (dues l 2 qs ++ T))) (fun q qs Φ => by
    have hlt : 3 * l + 3 < 3 * l + (2 : Fin 3).val + 2 := by show _ < 3 * l + 2 + 2; omega
    have hA := Above_dues (s := 2) hl hlt hT qs
    have hB : Above (3 * l + 3) ((l, (2 : Fin 3), true, q) :: (dues l 2 qs ++ T)) := Above_cons ⟨hl, hlt⟩ hA
    have h0 := fun Φ => step4_rule A K c hl lF false q _ Φ (Above_cons ⟨hl, hlt⟩ hB)
    have h1 := fun Φ => step4_rule A K c hl lF true q _ Φ hB
    by_cases h2 : l < 2
    · simp only [ride, if_pos h2, ↓reduceIte, reduceCtorEq] at h0 h1
      unfold C3 C4 Q3 Q5 B3 left3
      simp only [dues, List.cons_append, if_pos h2]
      unfold Q4
      unfold Q4 at h0 h1
      iintro ⟨⟨Hc, ⟨A0, #A1, A2, A3, A4, A5⟩, ⟨D0, #D1, D2, D3, D4, D5⟩, PA, PD, HB⟩, #HC, HO⟩ HK
      iapply (h0 _) $$ [A4 A3 PA A2 HO]
      · isplitr; · iexact HC
        isplitl [A4]; · iexact A4
        isplitl [A3]; · iexact A3
        isplitl [PA]; · iexact PA
        isplitl [A2]
        · isplitl [A2]
          · unfold lend1; isplitl [A2]; · iexact A2
            iexact A1
          iempintro
        iexact HO
      iintro ⟨⟨E0, #E1, E2, E3, E4⟩, E5, HO⟩
      iapply (h1 _) $$ [D4 D3 PD D2 E5 HO]
      · isplitr; · iexact HC
        isplitl [D4]; · iexact D4
        isplitl [D3]; · iexact D3
        isplitl [PD]; · iexact PD
        isplitl [D2 E5]
        · isplitl [D2]
          · unfold lend1; isplitl [D2]; · iexact D2
            iexact D1
          unfold lend2; isplitl [E5]; · iexact E5
          iexact E1
        iexact HO
      iintro ⟨⟨F0, #F1, F2, F3, F4⟩, F5, HO⟩
      iapply HK
      isplitr [HO]
      · isplitl [Hc]; · iexact Hc
        isplitl [A0 A5 E0 E2 E3 E4]
        · isplitl [A0]; · iexact A0
          isplitr; · iexact A1
          isplitl [A5]; · iexact A5
          isplitl [E0]; · iexact E0
          isplitr; · iexact E1
          isplitl [E2]; · iexact E2
          isplitl [E3]; · iexact E3
          iexact E4
        isplitl [D0 D5 F0 F2 F3 F4]
        · isplitl [D0]; · iexact D0
          isplitr; · iexact D1
          isplitl [D5]; · iexact D5
          isplitl [F0]; · iexact F0
          isplitr; · iexact F1
          isplitl [F2]; · iexact F2
          isplitl [F3]; · iexact F3
          iexact F4
        isplitl [F5]
        · unfold lend2; isplitl [F5]; · iexact F5
          iexact F1
        isplitr; · iempintro
        iexact HB
      isplitr; · iexact HC
      iexact HO
    · simp only [ride, if_neg h2] at h0 h1
      unfold C3 C4 Q3 Q5 B3 left3
      simp only [dues, List.cons_append, if_neg h2]
      unfold Q4
      unfold Q4 at h0 h1
      iintro ⟨⟨Hc, ⟨A0, #A1, A2, A3, A4, A5⟩, ⟨D0, #D1, D2, D3, D4, D5⟩, PA, PD, HB⟩, #HC, HO⟩ HK
      iapply (h0 _) $$ [A4 A3 PA HO]
      · isplitr; · iexact HC
        isplitl [A4]; · iexact A4
        isplitl [A3]; · iexact A3
        isplitl [PA]; · iexact PA
        isplitr; · iempintro
        iexact HO
      iintro ⟨⟨E0, #E1, E2, E3, E4⟩, E5, HO⟩
      iapply (h1 _) $$ [D4 D3 PD HO]
      · isplitr; · iexact HC
        isplitl [D4]; · iexact D4
        isplitl [D3]; · iexact D3
        isplitl [PD]; · iexact PD
        isplitr; · iempintro
        iexact HO
      iintro ⟨⟨F0, #F1, F2, F3, F4⟩, F5, HO⟩
      iapply HK
      isplitr [HO]
      · isplitl [Hc]; · iexact Hc
        isplitl [A0 A5 E0 E2 E3 E4]
        · isplitl [A0]; · iexact A0
          isplitr; · iexact A1
          isplitl [A5]; · iexact A5
          isplitl [E0]; · iexact E0
          isplitr; · iexact E1
          isplitl [E2]; · iexact E2
          isplitl [E3]; · iexact E3
          iexact E4
        isplitl [D0 D5 F0 F2 F3 F4]
        · isplitl [D0]; · iexact D0
          isplitr; · iexact D1
          isplitl [D5]; · iexact D5
          isplitl [F0]; · iexact F0
          isplitr; · iexact F1
          isplitl [F2]; · iexact F2
          isplitl [F3]; · iexact F3
          iexact F4
        isplitl [F5]
        · unfold lend2; isplitl [F5]; · iexact F5
          iexact F1
        isplitl [A2 D2 E5]
        · isplitl [A2]; · iexact A2
          isplitl [D2]; · iexact D2
          iexact E5
        iexact HB
      isplitr; · iexact HC
      iexact HO) Φ

/-- The waits for the hidden tiles of a half. -/
theorem sweep6 (hT : Above (3 * l + 4) T) (f : Bool) (Φ : PUnit → sProp 𝕄) :
    iprop(bigL cols (P6 (F := F) c l f) ∗ Ctx A K ∗ Ow c T)
      ⊢ iprop(((bigL cols (fun q => iprop(hidS A c l f q ∗ R6 (F := F) c l f q)) ∗ Ctx A K ∗ Ow c T) -∗ Φ ⟨⟩)
        -∗ WP c (loop (halfTiles f) fun t =>
            await (semOf recvS 2 t.1 t.2) (tileOf (Rows.closed c) hM true t.1 t.2) (tileOf (Rows.closed c) hM true t.1 t.2)) Φ) := by
  refine .trans (loop_rule c (fun q => await (semOf recvS 2 f q) (tileOf (Rows.closed c) hM true f q) (tileOf (Rows.closed c) hM true f q))
    _ _ (fun _ => iprop(Ctx A K ∗ Ow c T)) (fun q qs Φ => ?_) cols Φ) .rfl
  unfold P6 R6 hidS
  iintro ⟨⟨Hc, Hat⟩, #HC, HO⟩ HK
  iapply (recv_rule A K c 2 f q hl _ _ T (cred_h _ q) hT _) $$ [Hc Hat HO]
  · isplitr; · iexact HC
    isplitl [Hc]; · iexact Hc
    isplitl [HO]; · iexact HO
    iexact Hat
  unfold recvPay
  iintro ⟨HO, Hat, Hr, Hh, HR⟩
  iapply HK
  isplitl [Hat Hr Hh HR]
  · isplitl [Hh]; · iexact Hh
    isplitl [Hat]; · iexact Hat
    isplitl [Hr]; · iexact Hr
    iexact HR
  isplitr; · iexact HC
  iexact HO

/-- The waits until a stage's tiles have been sent. -/
theorem sweep7 (hT : Above 0 T) (s : Fin 3) (src dst : Bool × Fin 4 → Memref sig .tc .vmem S128x128 .f32)
    (hN : ∀ t, (dst t).view.dmaCredit = N) (Φ : PUnit → sProp 𝕄) :
    iprop(bigL cols (W7 (F := F) c l s) ∗ Ctx A K ∗ Ow c T)
      ⊢ iprop(((bigL cols (fun q => iprop(Y7 A c l s false q ∗ Y7 A c l s true q)) ∗ Ctx A K ∗ Ow c T) -∗ Φ ⟨⟩)
        -∗ WP c (loop tiles fun t => await (semOf sendS s t.1 t.2) (src t) (dst t)) Φ) :=
  tiles_rule c _ _ _ (fun _ => iprop(Ctx A K ∗ Ow c T)) (fun q qs Φ => by
    unfold W7 Y7
    iintro ⟨⟨⟨Hc, Hat⟩, Hc', Hat'⟩, #HC, HO⟩ HK
    iapply (sent_rule A K c s false q hl (src (false, q)) (dst (false, q)) T (hN _) hT _) $$ [Hc Hat HO]
    · isplitr; · iexact HC
      isplitl [Hc]; · iexact Hc
      isplitl [HO]; · iexact HO
      iexact Hat
    iintro ⟨HO, Hat, Hr, HP⟩
    iapply (sent_rule A K c s true q hl (src (true, q)) (dst (true, q)) T (hN _) hT _) $$ [Hc' Hat' HO]
    · isplitr; · iexact HC
      isplitl [Hc']; · iexact Hc'
      isplitl [HO]; · iexact HO
      iexact Hat'
    iintro ⟨HO, Hat', Hr', HP'⟩
    iapply HK
    isplitr [HO]
    · isplitl [Hat Hr HP]
      · isplitl [Hat]; · iexact Hat
        isplitl [Hr]; · iexact Hr
        iexact HP
      isplitl [Hat']; · iexact Hat'
      isplitl [Hr']; · iexact Hr'
      iexact HP'
    isplitr; · iexact HC
    iexact HO) Φ

/-- One row block of the second product, over the columns. -/
theorem rows_rule (wout xd : Memref sig .tc .vmem S512x256 .f32) (k f : Bool) (p : PosShare TreeShare) (Φ : PUnit → sProp 𝕄) :
    iprop(bigL cols (fun q => (owns (c : Thread nD τ) (sq hM (blk c k f) q) p (hidT (A.wi l) (A.X l) c k f q) : sProp 𝕄))
        ∗ owns (c : Thread nD τ) wout pw (A.wo l c) ∗ anyOwn (F := F) c (xrow xd (blk c k f)))
      ⊢ iprop(((bigL cols (fun q => (owns (c : Thread nD τ) (sq hM (blk c k f) q) p (hidT (A.wi l) (A.X l) c k f q) : sProp 𝕄))
          ∗ owns (c : Thread nD τ) wout pw (A.wo l c)
          ∗ owns (c : Thread nD τ) (xrow xd (blk c k f)) fullShare (A.X (l + 1) c k f)) -∗ Φ ⟨⟩)
        -∗ WP c (rowDot (Rows.closed c) hM wout xd k f) Φ) := by
  iintro ⟨Hh, Hw, Hx⟩ HK
  ihave Hh := (bigL_to_univ _) $$ Hh
  iapply (rowDot_rule c hM wout xd k f p pw (fun q => hidT (A.wi l) (A.X l) c k f q) (A.wo l c) Φ) $$ [Hh Hw Hx]
  · isplitl [Hh]; · iexact Hh
    isplitl [Hw]; · iexact Hw
    iexact Hx
  iintro ⟨Hh, Hw, Hx⟩
  ihave Hh := (bigL_of_univ _) $$ Hh
  iapply HK
  isplitl [Hh]; · iexact Hh
  isplitl [Hw]; · iexact Hw
  iexact Hx

/-- One layer. -/
theorem layer_rule (wout xd : Memref sig .tc .vmem S512x256 .f32) (po : PosShare TreeShare) (hT : Above (3 * l + 4) T)
    (Rx Rx' : sProp 𝕄) (hx : iprop(XR A c l xs px ∗ Rx) ⊢ iprop(XAny (F := F) c xd ∗ Rx')) (Φ : PUnit → sProp 𝕄) :
    iprop(Ctx A K ∗ bigL cols (C0 (F := F) c l) ∗ XR A c l xs px ∗ Rx ∗ owns (c : Thread nD τ) win pw (A.wi l c)
        ∗ owns (c : Thread nD τ) wout po (A.wo l c) ∗ Ow c (dues l 0 cols ++ (dues l 1 cols ++ (dues l 2 cols ++ T))))
      ⊢ iprop(((bigL cols (St (F := F) c (l + 1)) ∗ XR A c (l + 1) xd fullShare ∗ Rx' ∗ owns (c : Thread nD τ) win pw (A.wi l c)
        ∗ owns (c : Thread nD τ) wout po (A.wo l c) ∗ Ow c T) -∗ Φ ⟨⟩)
        -∗ WP c (layer (Rows.closed c) lF xs win wout xd accM hM s1M s2M sendS recvS) Φ) := by
  have hT3 : Above (3 * l + 3) T := fun t ht => ⟨(hT t ht).1, by have := (hT t ht).2; omega⟩
  have hT2 : Above (3 * l + 2) (dues l 2 cols ++ T) :=
    Above_dues hl (by show _ < 3 * l + 2 + 2; omega) (fun t ht => ⟨(hT t ht).1, by have := (hT t ht).2; omega⟩) cols
  have hT0 : Above 0 T := fun t ht => ⟨(hT t ht).1, by have := (hT t ht).2; omega⟩
  unfold layer
  rw [WP_bind]
  iintro ⟨#HC, Hcol, HX, HRx, Hw, Hwo, HO⟩ HK
  ihave HX := (show XR A c l xs px ⊢ iprop(owns (c : Thread nD τ) (xrow xs (blk c false false)) px (A.X l c false false)
    ∗ owns (c : Thread nD τ) (xrow xs (blk c false true)) px (A.X l c false true)
    ∗ owns (c : Thread nD τ) (xrow xs (blk c true false)) px (A.X l c true false)
    ∗ owns (c : Thread nD τ) (xrow xs (blk c true true)) px (A.X l c true true)) from .rfl) $$ HX
  icases HX with ⟨X0, X1, X2, X3⟩
  iapply (sweep1 A K c hl lF xs win px pw _ _) $$ [Hcol X0 X1 Hw HO]
  · isplitl [Hcol]; · iexact Hcol
    isplitr; · iexact HC
    isplitl [X0]; · iexact X0
    isplitl [X1]; · iexact X1
    isplitl [Hw]; · iexact Hw
    iexact HO
  iintro ⟨Hcol, -, X0, X1, Hw, HO⟩
  rw [WP_bind]
  iapply (sweep2 A c xs win px pw _) $$ [Hcol X2 X3 Hw]
  · isplitl [Hcol]; · iexact Hcol
    isplitl [X2]; · iexact X2
    isplitl [X3]; · iexact X3
    iexact Hw
  iintro ⟨Hcol, X2, X3, Hw⟩
  rw [WP_bind]
  iapply (sweep3 A K c hl lF _ hT2 _) $$ [Hcol HO]
  · isplitl [Hcol]; · iexact Hcol
    isplitr; · iexact HC
    iexact HO
  iintro ⟨Hcol, -, HO⟩
  rw [WP_bind]
  iapply (sweep4 A K c hl lF _ hT3 _) $$ [Hcol HO]
  · isplitl [Hcol]; · iexact Hcol
    isplitr; · iexact HC
    iexact HO
  iintro ⟨Hcol, -, HO⟩
  ihave HA := hx $$ [X0 X1 X2 X3 HRx]
  · isplitr [HRx]
    · unfold XR
      isplitl [X0]; · iexact X0
      isplitl [X1]; · iexact X1
      isplitl [X2]; · iexact X2
      iexact X3
    iexact HRx
  icases HA with ⟨HA, HRx⟩
  ihave HA := (show XAny (F := F) c xd ⊢ iprop(anyOwn (F := F) c (xrow xd (blk c false false)) ∗ anyOwn (F := F) c (xrow xd (blk c false true))
    ∗ anyOwn (F := F) c (xrow xd (blk c true false)) ∗ anyOwn (F := F) c (xrow xd (blk c true true))) from .rfl) $$ HA
  icases HA with ⟨Y0, Y1, Y2, Y3⟩
  ihave Hcol := (bigL_mono (col_split A c l) cols) $$ Hcol
  ihave Hcol := (bigL_sep _ _ cols) $$ Hcol
  icases Hcol with ⟨HL, Hcol⟩
  ihave Hcol := (bigL_sep _ _ cols) $$ Hcol
  icases Hcol with ⟨HL', Hcol⟩
  ihave Hcol := (bigL_sep _ _ cols) $$ Hcol
  icases Hcol with ⟨H6, Hcol⟩
  ihave Hcol := (bigL_sep _ _ cols) $$ Hcol
  icases Hcol with ⟨H6', Hcol⟩
  ihave Hcol := (bigL_sep _ _ cols) $$ Hcol
  icases Hcol with ⟨W0, Hcol⟩
  ihave Hcol := (bigL_sep _ _ cols) $$ Hcol
  icases Hcol with ⟨W1, Hcol⟩
  ihave Hcol := (bigL_sep _ _ cols) $$ Hcol
  icases Hcol with ⟨W2, HG⟩
  rw [WP_bind]
  simp only [loop, step5, WP_bind]
  iapply (rows_rule A c hl po wout xd true false fullShare.left _) $$ [HL Hwo Y2]
  · isplitl [HL]; · iexact HL
    isplitl [Hwo]; · iexact Hwo
    iexact Y2
  iintro ⟨HL, Hwo, Y2⟩
  iapply (rows_rule A c hl po wout xd true true fullShare.left _) $$ [HL' Hwo Y3]
  · isplitl [HL']; · iexact HL'
    isplitl [Hwo]; · iexact Hwo
    iexact Y3
  iintro ⟨HL', Hwo, Y3⟩
  iapply (le_wp_ret _ _ _)
  unfold step6
  simp only [WP_bind]
  iapply (sweep6 A K c hl T hT false _) $$ [H6 HO]
  · isplitl [H6]; · iexact H6
    isplitr; · iexact HC
    iexact HO
  iintro ⟨H6, -, HO⟩
  ihave H6 := (bigL_sep _ _ cols) $$ H6
  icases H6 with ⟨HS, H6⟩
  iapply (rows_rule A c hl po wout xd false false fullShare _) $$ [HS Hwo Y0]
  · isplitl [HS]; · iexact HS
    isplitl [Hwo]; · iexact Hwo
    iexact Y0
  iintro ⟨HS, Hwo, Y0⟩
  iapply (sweep6 A K c hl T hT true _) $$ [H6' HO]
  · isplitl [H6']; · iexact H6'
    isplitr; · iexact HC
    iexact HO
  iintro ⟨H6', -, HO⟩
  ihave H6' := (bigL_sep _ _ cols) $$ H6'
  icases H6' with ⟨HS', H6'⟩
  iapply (rows_rule A c hl po wout xd false true fullShare _) $$ [HS' Hwo Y1]
  · isplitl [HS']; · iexact HS'
    isplitl [Hwo]; · iexact Hwo
    iexact Y1
  iintro ⟨HS', Hwo, Y1⟩
  iapply (le_wp_ret _ _ _)
  unfold step7
  rw [WP_bind]
  iapply (sweep7 A K c hl T hT0 0 _ _ (fun t => cred_acc _ t.2) _) $$ [W0 HO]
  · isplitl [W0]; · iexact W0
    isplitr; · iexact HC
    iexact HO
  iintro ⟨Z0, -, HO⟩
  rw [WP_bind]
  iapply (sweep7 A K c hl T hT0 1 _ _ (fun t => cred_acc _ t.2) _) $$ [W1 HO]
  · isplitl [W1]; · iexact W1
    isplitr; · iexact HC
    iexact HO
  iintro ⟨Z1, -, HO⟩
  iapply (sweep7 A K c hl T hT0 2 _ _ (fun t => cred_h _ t.2) _) $$ [W2 HO]
  · isplitl [W2]; · iexact W2
    isplitr; · iexact HC
    iexact HO
  iintro ⟨Z2, -, HO⟩
  iapply HK
  isplitl [HL HS H6 HL' HS' H6' Z0 Z1 Z2 HG]
  · iapply (bigL_mono (fun q => col_end A c l q hl) cols)
    iapply (bigL_join _ _ cols)
    isplitl [HL HS H6]
    · iapply (bigL_join _ _ cols)
      isplitl [HL]; · iexact HL
      iapply (bigL_join _ _ cols)
      isplitl [HS]; · iexact HS
      iexact H6
    iapply (bigL_join _ _ cols)
    isplitl [HL' HS' H6']
    · iapply (bigL_join _ _ cols)
      isplitl [HL']; · iexact HL'
      iapply (bigL_join _ _ cols)
      isplitl [HS']; · iexact HS'
      iexact H6'
    iapply (bigL_join _ _ cols)
    isplitl [Z0]; · iexact Z0
    iapply (bigL_join _ _ cols)
    isplitl [Z1]; · iexact Z1
    iapply (bigL_join _ _ cols)
    isplitl [Z2]; · iexact Z2
    iexact HG
  isplitl [Y0 Y1 Y2 Y3]
  · unfold XR
    isplitl [Y0]; · iexact Y0
    isplitl [Y1]; · iexact Y1
    isplitl [Y2]; · iexact Y2
    iexact Y3
  isplitl [HRx]; · iexact HRx
  isplitl [Hw]; · iexact Hw
  isplitl [Hwo]; · iexact Hwo
  iexact HO

end Layer

end Cert.KernelIdeal.Tp

end
-- ==== Proof.Body.lean ====
module

public import proofs.«01_k».proof.Proof.Layer

@[expose] public section

set_option maxRecDepth 16384

/-!
# The body

The handshake with both peers, then the three layers.
-/

noncomputable section

namespace Cert.KernelIdeal.Tp

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Facts₀ Facts

variable {F : FTy → Type} [FloatOps F]

local notation "𝕄" => MT nD τ sig ℕ (Elt F) ℕ UU ℕ

/-- The copies of the last layer. -/
def D2 : List Due := dues 2 0 cols ++ (dues 2 1 cols ++ (dues 2 2 cols ++ []))
/-- The copies of the last two layers. -/
def D1 : List Due := dues 1 0 cols ++ (dues 1 1 cols ++ (dues 1 2 cols ++ D2))
/-- All copies. -/
def D0 : List Due := dues 0 0 cols ++ (dues 0 1 cols ++ (dues 0 2 cols ++ D1))

theorem above_D0 : Above 1 D0 := by unfold Above; decide +kernel
theorem above_D1 : Above 4 D1 := by unfold Above; decide +kernel
theorem above_D2 : Above 7 D2 := by unfold Above; decide +kernel
theorem above_nil (n : ℕ) : Above n [] := fun t ht => absurd ht List.not_mem_nil

/-- What a device owes at the start: all copies and a signal to each peer. -/
def O₀ (c : Dev nD) : CellTallies nD τ sig ℕ :=
  dueSum c D0 + tallyAt (barCell (pB c)) 0 1 + tallyAt (barCell (pA c)) 0 1

variable (A : Inp F) (K : Dev nD × Cell → ℕ) (c : Dev nD)

/-- A column before the handshake. -/
def St0 (q : Fin 4) : sProp 𝕄 :=
  iprop((half (F := F) c 0 false q ∗ half (F := F) c 0 true q ∗ lend2 (F := F) c true q 0)
    ∗ lend1 (F := F) c false q 0 ∗ lend1 (F := F) c true q 0 ∗ lend2 (F := F) c false q 0)

/-- What the handshake takes. -/
def Shake : sProp 𝕄 :=
  iprop(cred (tallyAt (barCell c) 0 2) ∗ atPos ER (barCell c) 0 ∅ 0
    ∗ dutyTok ER (barCell (pA c)) 0 false ∗ reached ER (barCell (pA c)) 0
    ∗ dutyTok ER (barCell (pB c)) 0 true ∗ reached ER (barCell (pB c)) 0)

/-- A device reads its own number. -/
theorem WP_device {α : Type} (k : Dev nD → Pr F α) (Φ : α → sProp 𝕄) : WP c (.op .deviceId k) Φ = WP c (k c) Φ :=
  wp_deviceId (defs := defs₀ (F := F)) 𝒱₀ (c : Thread nD τ) none Set.univ

/-- The signals and the wait. -/
def shake (R : Rows) : Pr F PUnit := do
  semSignalWord R.pa (SemArray.scalar (sig.barrier 0 rfl) : Sems sig S_).sem 1#32
  semSignalWord R.pb (SemArray.scalar (sig.barrier 0 rfl) : Sems sig S_).sem 1#32
  semWaitWord (SemArray.scalar (sig.barrier 0 rfl) : Sems sig S_).sem 2#32

/-- What the first peer's signal brings. -/
theorem barPay_false : barPay (F := F) c false = bigL cols fun q => lend1 (F := F) (pA c) false q 0 := by
  unfold barPay; rw [if_pos rfl]
/-- What the second peer's signal brings. -/
theorem barPay_true : barPay (F := F) c true
    = bigL cols fun q => iprop(lend1 (F := F) (pB c) true q 0 ∗ lend2 (F := F) (pB c) false q 0) := by
  unfold barPay; rw [if_neg (by decide)]

/-- After the handshake a device holds its peers' landing tiles. -/
theorem shake_rule (W : Waits sig ℕ) (Φ : PUnit → sProp 𝕄) :
    iprop(Ctx A K ∗ Shake (F := F) c ∗ bigL cols (St0 (F := F) c) ∗ owes (c : Thread nD τ) (O₀ c) W)
      ⊢ iprop(((bigL cols (St (F := F) c 0) ∗ atPos ER (barCell c) 1 ∅ 0 ∗ Ow (F := F) c D0) -∗ Φ ⟨⟩)
        -∗ WP c (shake (Rows.closed c)) Φ) := by
  have hsplit : bigL cols (St0 (F := F) c) ⊢ _ := bigL_sep (F := F) (fun q => iprop(half (F := F) c 0 false q ∗ half (F := F) c 0 true q ∗ lend2 (F := F) c true q 0))
    (fun q => iprop(lend1 (F := F) c false q 0 ∗ lend1 (F := F) c true q 0 ∗ lend2 (F := F) c false q 0)) cols
  have hsplit2 := bigL_sep (F := F) (fun q => lend1 (F := F) c false q 0)
    (fun q => iprop(lend1 (F := F) c true q 0 ∗ lend2 (F := F) c false q 0)) cols
  have hpa : barPay (F := F) (pA c) false = bigL cols fun q => lend1 (F := F) c false q 0 := by
    rw [barPay_false, pA_pA]
  have hpb : barPay (F := F) (pB c) true = bigL cols fun q => iprop(lend1 (F := F) c true q 0 ∗ lend2 (F := F) c false q 0) := by
    rw [barPay_true, pB_pB]
  unfold shake Shake O₀
  simp only [semSignalWord, semWaitWord, Prog.bind_op, Prog.bind_ret]
  iintro ⟨#HC, ⟨Hc, Hat, Ht1, Hr1, Ht2, Hr2⟩, HS, HO⟩ HK
  ihave HS := hsplit $$ HS
  icases HS with ⟨HS, HL⟩
  ihave HL := hsplit2 $$ HL
  icases HL with ⟨HL1, HL2⟩
  iapply (Rounds.wp_signal 𝒱₀ ER (Rd A) (c : Thread nD τ) none (dst := (pA c : Thread nD τ)) (κ := K (pA c, none))
      (d := false) (show false ∈ (Rd A).duties (barCell (pA c)) 0 by rw [duties_bar]; exact Finset.mem_univ _) ((amount_bar A (pA c) 0 false).trans (by decide)) 0
      (dueSum c D0 + tallyAt (barCell (pB c)) 0 1) rfl) $$ [HO Ht1 Hr1 HL1]
  · isplitr; · iapply (Ctx_inv A K (pA c, none)); iexact HC
    isplitl [HO]; · iexact HO
    isplitl [Ht1]; · iexact Ht1
    isplitl [HL1]; · iapply (show _ ⊢ (Rd A).payload ((pA c : Thread nD τ), SemLoc.reg barS) 0 false from Entails.of_eq ((payload_bar A (pA c) 0 false).trans hpa).symm); iexact HL1
    iexact Hr1
  iintro HO
  iapply (Rounds.wp_signal 𝒱₀ ER (Rd A) (c : Thread nD τ) none (dst := (pB c : Thread nD τ)) (κ := K (pB c, none))
      (d := true) (show true ∈ (Rd A).duties (barCell (pB c)) 0 by rw [duties_bar]; exact Finset.mem_univ _) ((amount_bar A (pB c) 0 true).trans (by decide)) 0
      (dueSum c D0) rfl) $$ [HO Ht2 Hr2 HL2]
  · isplitr; · iapply (Ctx_inv A K (pB c, none)); iexact HC
    isplitl [HO]; · iexact HO
    isplitl [Ht2]; · iexact Ht2
    isplitl [HL2]; · iapply (show _ ⊢ (Rd A).payload ((pB c : Thread nD τ), SemLoc.reg barS) 0 true from Entails.of_eq ((payload_bar A (pB c) 0 true).trans hpb).symm); iexact HL2
    iexact Hr2
  iintro HO
  iapply (Rounds.wp_wait_rest_token 𝒱₀ ER (Rd A) (c : Thread nD τ) none (κ := K (c, none))
      (wpE_semWait_eq 𝒱₀ (c : Thread nD τ) none Set.univ) (Set.mem_univ _) 0 (O := dueSum c D0) (W := W) (R := 0) (m := 0) (T := ∅) (k' := 2)
      ((Nat.zero_add 2).trans (expect_bar A c).symm)) $$ [Hc HO Hat]
  · isplitr; · iapply (Ctx_inv A K (c, none)); iexact HC
    isplitl [Hc]; · iexact Hc
    isplitl [HO]; · iexact HO
    isplitr
    · iapply (mayWait c _ 0 (by decide) D0 1 (le_of_eq (lv_bar c 0)) above_D0); iapply (Ctx_lev A K); iexact HC
    iexact Hat
  iintro ⟨HO, Hat, -, Hp⟩
  ihave Hp := (show bigSep ((Rd A).duties ((c : Thread nD τ), SemLoc.reg barS) 0 \ ∅) (fun d => (Rd A).payload ((c : Thread nD τ), SemLoc.reg barS) 0 d) ⊢ _ from Entails.of_eq (rest_bar A c)) $$ Hp
  icases Hp with ⟨Hp1, Hp2⟩
  ihave Hp1 := (Entails.of_eq (barPay_false (F := F) c)) $$ Hp1
  ihave Hp2 := (Entails.of_eq (barPay_true (F := F) c)) $$ Hp2
  iapply (le_wp_ret _ _ _)
  iapply HK
  isplitr [Hat HO]
  · ihave Hj := (bigL_join (F := F) (fun q => lend1 (F := F) (pA c) false q 0) (fun q => iprop(lend1 (F := F) (pB c) true q 0 ∗ lend2 (F := F) (pB c) false q 0)) cols) $$ [Hp1 Hp2]
    · isplitl [Hp1]; · iexact Hp1
      iexact Hp2
    ihave Hj := (bigL_join (F := F) (fun q => iprop(half (F := F) c 0 false q ∗ half (F := F) c 0 true q ∗ lend2 (F := F) c true q 0)) _ cols) $$ [HS Hj]
    · isplitl [HS]; · iexact HS
      iexact Hj
    iapply (bigL_mono (fun q => ?_) cols) $$ Hj
    unfold St landSt
    rw [if_pos (by decide)]
    iintro ⟨⟨H1, H2, H3⟩, H4, H5, H6⟩
    isplitl [H1]; · iexact H1
    isplitl [H2]; · iexact H2
    isplitl [H3]; · iexact H3
    isplitl [H4]; · iexact H4
    isplitl [H5]; · iexact H5
    iexact H6
  isplitl [Hat]; · iexact Hat
  unfold Ow
  iexists _; iexact HO

/-- Row blocks at known contents are row blocks. -/
theorem XR_any (l : ℕ) (xs : Memref sig .tc .vmem S512x256 .f32) : XR A c l xs fullShare ⊢ XAny (F := F) c xs := by
  unfold XR XAny
  iintro ⟨H1, H2, H3, H4⟩
  isplitl [H1]; · iexists _; iexact H1
  isplitl [H2]; · iexists _; iexact H2
  isplitl [H3]; · iexists _; iexact H3
  iexists _; iexact H4

/-- The columns with the rights of a layer. -/
theorem cols_start (l : ℕ) (hl : l < 3) :
    iprop(bigL cols (St (F := F) c l) ∗ bigL cols (Tok (F := F) c l)) ⊢ bigL cols (C0 (F := F) c l) :=
  (bigL_join _ _ cols).trans (bigL_mono (fun q => col_start c l q hl) cols)

/-- The body, run from its tiles. -/
theorem body_rule (W : Waits sig ℕ) (x : Memref sig .tc .vmem S512x256 .f32)
    (wi0 : Memref sig .tc .vmem S256x512 .f32) (wo0 : Memref sig .tc .vmem S512x256 .f32)
    (wi1 : Memref sig .tc .vmem S256x512 .f32) (wo1 : Memref sig .tc .vmem S512x256 .f32)
    (wi2 : Memref sig .tc .vmem S256x512 .f32) (wo2 : Memref sig .tc .vmem S512x256 .f32)
    (out : Memref sig .tc .vmem S512x256 .f32) (Φ : PUnit → sProp 𝕄) :
    iprop(Ctx A K ∗ Shake (F := F) c ∗ bigL cols (St0 (F := F) c) ∗ owes (c : Thread nD τ) (O₀ c) W
        ∗ (bigL cols (Tok (F := F) c 0) ∗ bigL cols (Tok (F := F) c 1) ∗ bigL cols (Tok (F := F) c 2))
        ∗ XR A c 0 x fullShare ∗ XAny (F := F) c xbM ∗ XAny (F := F) c out
        ∗ (owns (c : Thread nD τ) wi0 fullShare (A.wi 0 c) ∗ owns (c : Thread nD τ) wo0 fullShare (A.wo 0 c))
        ∗ (owns (c : Thread nD τ) wi1 fullShare (A.wi 1 c) ∗ owns (c : Thread nD τ) wo1 fullShare (A.wo 1 c))
        ∗ (owns (c : Thread nD τ) wi2 fullShare (A.wi 2 c) ∗ owns (c : Thread nD τ) wo2 fullShare (A.wo 2 c)))
      ⊢ iprop(((bigL cols (St (F := F) c 3) ∗ atPos ER (barCell c) 1 ∅ 0 ∗ Ow (F := F) c []
          ∗ XR A c 0 x fullShare ∗ XAny (F := F) c xbM ∗ XR A c 3 out fullShare
          ∗ (owns (c : Thread nD τ) wi0 fullShare (A.wi 0 c) ∗ owns (c : Thread nD τ) wo0 fullShare (A.wo 0 c))
          ∗ (owns (c : Thread nD τ) wi1 fullShare (A.wi 1 c) ∗ owns (c : Thread nD τ) wo1 fullShare (A.wo 1 c))
          ∗ (owns (c : Thread nD τ) wi2 fullShare (A.wi 2 c) ∗ owns (c : Thread nD τ) wo2 fullShare (A.wo 2 c))) -∗ Φ ⟨⟩)
        -∗ WP c (body Rows.closed x wi0 wo0 wi1 wo1 wi2 wo2 out accM hM xbM s1M s2M sendS recvS) Φ) := by
  have e : body (F := F) Rows.closed x wi0 wo0 wi1 wo1 wi2 wo2 out accM hM xbM s1M s2M sendS recvS
      = .op .deviceId fun d => shake (Rows.closed d) >>= fun _ =>
        layer (Rows.closed d) 0 x wi0 wo0 xbM accM hM s1M s2M sendS recvS >>= fun _ =>
        layer (Rows.closed d) 1 xbM wi1 wo1 xbM accM hM s1M s2M sendS recvS >>= fun _ =>
        layer (Rows.closed d) 2 xbM wi2 wo2 out accM hM s1M s2M sendS recvS := rfl
  rw [e, WP_device]
  iintro ⟨#HC, HSh, HS, HO, ⟨T0, T1, T2⟩, HX, HXb, HXo, ⟨Wi0, Wo0⟩, ⟨Wi1, Wo1⟩, ⟨Wi2, Wo2⟩⟩ HK
  rw [WP_bind]
  iapply (shake_rule A K c W _) $$ [HSh HS HO]
  · isplitr; · iexact HC
    isplitl [HSh]; · iexact HSh
    isplitl [HS]; · iexact HS
    iexact HO
  iintro ⟨HS, Hat, HO⟩
  rw [WP_bind]
  ihave HS := (cols_start (F := F) c 0 (by decide)) $$ [HS T0]
  · isplitl [HS]; · iexact HS
    iexact T0
  iapply (layer_rule A K c (l := 0) (by decide) _ x wi0 fullShare fullShare D1 wo0 xbM fullShare above_D1
    (XAny (F := F) c xbM) (XR A c 0 x fullShare)
    (by iintro ⟨H1, H2⟩
        isplitl [H2]; · iexact H2
        iexact H1) _) $$ [HS HX HXb Wi0 Wo0 HO]
  · isplitr; · iexact HC
    isplitl [HS]; · iexact HS
    isplitl [HX]; · iexact HX
    isplitl [HXb]; · iexact HXb
    isplitl [Wi0]; · iexact Wi0
    isplitl [Wo0]; · iexact Wo0
    iexact HO
  iintro ⟨HS, HXb, HX, Wi0, Wo0, HO⟩
  rw [WP_bind]
  ihave HS := (cols_start (F := F) c 1 (by decide)) $$ [HS T1]
  · isplitl [HS]; · iexact HS
    iexact T1
  iapply (layer_rule A K c (l := 1) (by decide) _ xbM wi1 fullShare fullShare D2 wo1 xbM fullShare above_D2
    iprop(emp) iprop(emp)
    (sep_mono_left (XR_any A c 1 xbM)) _) $$ [HS HXb Wi1 Wo1 HO]
  · isplitr; · iexact HC
    isplitl [HS]; · iexact HS
    isplitl [HXb]; · iexact HXb
    isplitr; · iempintro
    isplitl [Wi1]; · iexact Wi1
    isplitl [Wo1]; · iexact Wo1
    iexact HO
  iintro ⟨HS, HXb, -, Wi1, Wo1, HO⟩
  ihave HS := (cols_start (F := F) c 2 (by decide)) $$ [HS T2]
  · isplitl [HS]; · iexact HS
    iexact T2
  iapply (layer_rule A K c (l := 2) (by decide) _ xbM wi2 fullShare fullShare [] wo2 out fullShare (above_nil _)
    (XAny (F := F) c out) (XAny (F := F) c xbM)
    (by iintro ⟨H1, H2⟩
        isplitl [H2]; · iexact H2
        iapply (XR_any A c 2 xbM); iexact H1) _) $$ [HS HXb HXo Wi2 Wo2 HO]
  · isplitr; · iexact HC
    isplitl [HS]; · iexact HS
    isplitl [HXb]; · iexact HXb
    isplitl [HXo]; · iexact HXo
    isplitl [Wi2]; · iexact Wi2
    isplitl [Wo2]; · iexact Wo2
    iexact HO
  iintro ⟨HS, HXo, HXb, Wi2, Wo2, HO⟩
  iapply HK
  isplitl [HS]; · iexact HS
  isplitl [Hat]; · iexact Hat
  isplitl [HO]; · iexact HO
  isplitl [HX]; · iexact HX
  isplitl [HXb]; · iexact HXb
  isplitl [HXo]; · iexact HXo
  isplitl [Wi0 Wo0]
  · isplitl [Wi0]; · iexact Wi0
    iexact Wo0
  isplitl [Wi1 Wo1]
  · isplitl [Wi1]; · iexact Wi1
    iexact Wo1
  isplitl [Wi2]; · iexact Wi2
  iexact Wo2

end Cert.KernelIdeal.Tp

end
-- ==== Proof.Split.lean ====
module

public import proofs.«01_k».proof.Proof.Group
public import Idealize.ShloMosaic.Lib.MemrefSat

@[expose] public section

set_option maxRecDepth 16384

/-!
# Whole buffers and their parts

The activations as four row blocks, the square buffers as tiles, the landing buffers as landing tiles.
-/

noncomputable section

namespace Cert.KernelIdeal.Tp

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Facts₀ Facts

variable {F : FTy → Type} [FloatOps F]

local notation "𝕄" => MT nD τ sig ℕ (Elt F) ℕ UU ℕ

/-- What is owned at known contents is owned. -/
theorem any_intro (c : Dev nD) {sh : Shape} (m : Memref sig .tc .vmem sh .f32) (X : sh.Idx → Elt F .f32) :
    (owns (c : Thread nD τ) m fullShare X : sProp 𝕄) ⊢ anyOwn (F := F) c m := by
  iintro H
  iexists X; iexact H

section Any

variable (c : Dev nD) {sh : Shape} (m : Memref sig .tc .vmem sh .f32)
variable {T : Type} [Fintype T] [DecidableEq T] (r : T → Rect sh) (hr : ∀ t a, (r t).stride a = 1)
  (hd : ∀ t t', t ≠ t' → Disjoint (r t).set (r t').set)
  (hcov : (Finset.univ : Finset T).biUnion (fun t => (r t).set) = Finset.univ)

include hd hcov in
/-- A memref owned at whatever contents is its parts so owned. -/
theorem any_split : anyOwn (F := F) c m ⊢ bigSep Finset.univ fun t => anyOwn (F := F) c (m.slice (r t) (hr t)) := by
  iintro ⟨%X, H⟩
  ihave H := (owns_rects (Ix := ℕ) (Name := ℕ) (U := UU) (Lvl := ℕ) (c : Thread nD τ) m fullShare r hr hd hcov X) $$ H
  have h : (bigSep Finset.univ fun t => (owns (c : Thread nD τ) (m.slice (r t) (hr t)) fullShare (fun j => X ((r t).emb j)) : sProp 𝕄))
      ⊢ bigSep Finset.univ fun t => anyOwn (F := F) c (m.slice (r t) (hr t)) :=
    bigSep_mono fun t _ => any_intro c _ _
  iapply h; iexact H

include hd hcov in
/-- The parts owned at whatever contents are the whole so owned. -/
theorem any_join : (bigSep Finset.univ fun t => anyOwn (F := F) c (m.slice (r t) (hr t))) ⊢ anyOwn (F := F) c m := by
  have hne : ∀ e, Nonempty (Elt F e) := inferInstance
  haveI : ∀ t, Nonempty ((r t).shape.Idx → Elt F .f32) := fun _ => ⟨fun _ => Classical.choice (hne _)⟩
  refine (BI.bigSep_exists_pi Finset.univ (fun t X => (owns (c : Thread nD τ) (m.slice (r t) (hr t)) fullShare X : sProp 𝕄))).trans ?_
  iintro ⟨%Xs, H⟩
  iexists (Rect.glue r hcov Xs)
  iapply (owns_of_rects (Ix := ℕ) (Name := ℕ) (U := UU) (Lvl := ℕ) (c : Thread nD τ) m fullShare r hr hd hcov (Rect.glue r hcov Xs))
  have h : (bigSep Finset.univ fun t => (owns (c : Thread nD τ) (m.slice (r t) (hr t)) fullShare (Xs t) : sProp 𝕄))
      ⊢ bigSep Finset.univ fun t => owns (c : Thread nD τ) (m.slice (r t) (hr t)) fullShare (fun j => Rect.glue r hcov Xs ((r t).emb j)) :=
    bigSep_mono fun t _ => Entails.of_eq (congrArg (owns (c : Thread nD τ) (m.slice (r t) (hr t)) fullShare)
      (funext fun y => (Rect.glue_emb r hcov hd Xs t y).symm))
  iapply h; iexact H

end Any

/-! ## Row blocks -/

theorem rowR_disj (r r' : Fin 4) (h : r ≠ r') : Disjoint (rowR r).set (rowR r').set := by
  refine Finset.disjoint_left.mpr fun i hi hi' => h ?_
  have h1 := (Rect.mem_set_unit.mp hi) 0
  have h2 := (Rect.mem_set_unit.mp hi') 0
  simp at h1 h2
  exact Fin.ext (by omega)

theorem rowR_cover : (Finset.univ : Finset (Fin 4)).biUnion (fun r => (rowR r).set) = Finset.univ := by
  refine Finset.eq_univ_of_forall fun i => ?_
  have h0 := (i 0).isLt; have h1 := (i 1).isLt
  simp at h0 h1
  refine Finset.mem_biUnion.mpr ⟨⟨(i 0).val / 128, by omega⟩, Finset.mem_univ _, Rect.mem_set_unit.mpr fun a => ?_⟩
  match a with
  | 0 => simp; omega
  | 1 => simp; omega

/-- The four row blocks in the order of a device. -/
theorem blocks_eq (c : Dev nD) (P : Fin 4 → sProp 𝕄) : bigSep Finset.univ P
    = iprop(P (blk c false false) ∗ P (blk c false true) ∗ P (blk c true false) ∗ P (blk c true true)) := by
  rw [bigSep_univ_eq_bigSepL [blk c false false, blk c false true, blk c true false, blk c true true]
    (by revert c; decide) (by revert c; decide)]
  rfl

variable (A : Inp F) (c : Dev nD)

/-- A buffer of activations, whatever it holds, is its row blocks. -/
theorem rows_any (b : Memref sig .tc .vmem S512x256 .f32) : anyOwn (F := F) c b ⊢ XAny (F := F) c b :=
  (any_split c b rowR (fun _ _ => rfl) rowR_disj rowR_cover).trans (Entails.of_eq (blocks_eq c _))
theorem any_rows (b : Memref sig .tc .vmem S512x256 .f32) : XAny (F := F) c b ⊢ anyOwn (F := F) c b :=
  (Entails.of_eq (blocks_eq c fun r => anyOwn (F := F) c (xrow b r)).symm).trans
    (any_join c b rowR (fun _ _ => rfl) rowR_disj rowR_cover)

/-- The activations of a device are its row blocks before the first layer. -/
theorem rows_x (b : Memref sig .tc .vmem S512x256 .f32) : owns (c : Thread nD τ) b fullShare (A.x c) ⊢ XR A c 0 b fullShare :=
  (owns_rects (Ix := ℕ) (Name := ℕ) (U := UU) (Lvl := ℕ) (c : Thread nD τ) b fullShare rowR (fun _ _ => rfl) rowR_disj rowR_cover (A.x c)).trans
    (Entails.of_eq (blocks_eq c _))
theorem x_rows (b : Memref sig .tc .vmem S512x256 .f32) : XR A c 0 b fullShare ⊢ owns (c : Thread nD τ) b fullShare (A.x c) :=
  (Entails.of_eq (blocks_eq c fun r => owns (c : Thread nD τ) (xrow b r) fullShare (fun j => A.x c ((rowR r).emb j))).symm).trans
    (owns_of_rects (Ix := ℕ) (Name := ℕ) (U := UU) (Lvl := ℕ) (c : Thread nD τ) b fullShare rowR (fun _ _ => rfl) rowR_disj rowR_cover (A.x c))

/-- The half of a row block. -/
def halfOf (r : Fin 4) : Bool := decide (2 ≤ r.val)
/-- Whether a device keeps a row block. -/
def keepOf (c : Dev nD) (r : Fin 4) : Bool := decide (blk c true (halfOf r) = r)
theorem halfOf_blk (c : Dev nD) (k f : Bool) : halfOf (blk c k f) = f := by revert c k f; decide
theorem keepOf_blk (c : Dev nD) (k f : Bool) : keepOf c (blk c k f) = k := by revert c k f; decide
theorem blk_of (c : Dev nD) (r : Fin 4) : blk c (keepOf c r) (halfOf r) = r := by revert c r; decide

/-- A device's activations before a layer, as one array. -/
def Inp.flat (A : Inp F) (l : ℕ) (c : Dev nD) : S512x256.Idx → Elt F .f32 := fun i =>
  A.X l c (keepOf c ⟨(i 0).val / 128, by have := (i 0).isLt; simp at this; omega⟩) (halfOf ⟨(i 0).val / 128, by have := (i 0).isLt; simp at this; omega⟩)
    (ix2 (⟨(i 0).val % 128, Nat.mod_lt _ (by decide)⟩ : Fin 128) (i 1))

theorem flat_emb (l : ℕ) (k f : Bool) : (fun j => A.flat l c ((rowR (blk c k f)).emb j)) = A.X l c k f := by
  funext j
  have h0 := (j 0).isLt; have h1 := (j 1).isLt
  simp at h0 h1
  unfold Inp.flat
  have e1 : (((rowR (blk c k f)).emb j) 1).val = (j 1).val := by simp [Rect.emb_apply]
  have e0 : (((rowR (blk c k f)).emb j) 0).val = 128 * (blk c k f).val + (j 0).val := by simp [Rect.emb_apply]
  have hq : (⟨(((rowR (blk c k f)).emb j) 0).val / 128, by have := (((rowR (blk c k f)).emb j) 0).isLt; simp at this; omega⟩ : Fin 4) = blk c k f :=
    Fin.ext (by simp only [e0]; omega)
  rw [hq, halfOf_blk, keepOf_blk]
  refine congrArg (A.X l c k f) ?_
  funext a; refine Fin.ext ?_
  match a with
  | 0 => show (((rowR (blk c k f)).emb j) 0).val % 128 = (j 0).val; rw [e0]; omega
  | 1 => exact e1

/-- The row blocks after the layers are one array. -/
theorem flat_rows (l : ℕ) (b : Memref sig .tc .vmem S512x256 .f32) : XR A c l b fullShare ⊢ owns (c : Thread nD τ) b fullShare (A.flat l c) := by
  refine .trans (Entails.of_eq ?_) ((Entails.of_eq (blocks_eq c fun r => owns (c : Thread nD τ) (xrow b r) fullShare (fun j => A.flat l c ((rowR r).emb j))).symm).trans
    (owns_of_rects (Ix := ℕ) (Name := ℕ) (U := UU) (Lvl := ℕ) (c : Thread nD τ) b fullShare rowR (fun _ _ => rfl) rowR_disj rowR_cover (A.flat l c)))
  unfold XR
  rw [← flat_emb A c l false false, ← flat_emb A c l false true, ← flat_emb A c l true false, ← flat_emb A c l true true]
  rfl

/-! ## Tiles -/

/-- The rectangle of a tile, by column and row. -/
abbrev sqT (t : Fin 4 × Fin 4) : Rect S512x512 := sqR t.2 t.1

theorem sqT_disj (t t' : Fin 4 × Fin 4) (h : t ≠ t') : Disjoint (sqT t).set (sqT t').set := by
  refine Finset.disjoint_left.mpr fun i hi hi' => h ?_
  have h1 := (Rect.mem_set_unit.mp hi)
  have h2 := (Rect.mem_set_unit.mp hi')
  have a0 := h1 0; have a1 := h1 1; have b0 := h2 0; have b1 := h2 1
  simp at a0 a1 b0 b1
  exact Prod.ext (Fin.ext (by omega)) (Fin.ext (by omega))

theorem sqT_cover : (Finset.univ : Finset (Fin 4 × Fin 4)).biUnion (fun t => (sqT t).set) = Finset.univ := by
  refine Finset.eq_univ_of_forall fun i => ?_
  have h0 := (i 0).isLt; have h1 := (i 1).isLt
  simp at h0 h1
  refine Finset.mem_biUnion.mpr ⟨(⟨(i 1).val / 128, by omega⟩, ⟨(i 0).val / 128, by omega⟩), Finset.mem_univ _, Rect.mem_set_unit.mpr fun a => ?_⟩
  match a with
  | 0 => simp; omega
  | 1 => simp; omega

/-- The tiles of a column in the order of a device. -/
def sqCol (b : Memref sig .tc .vmem S512x512 .f32) (q : Fin 4) : sProp 𝕄 :=
  iprop(anyOwn (F := F) c (sq b (blk c false false) q) ∗ anyOwn (F := F) c (sq b (blk c false true) q)
    ∗ anyOwn (F := F) c (sq b (blk c true false) q) ∗ anyOwn (F := F) c (sq b (blk c true true) q))

theorem sq_split (b : Memref sig .tc .vmem S512x512 .f32) : anyOwn (F := F) c b ⊢ bigL cols (sqCol (F := F) c b) := by
  refine (any_split c b sqT (fun _ _ => rfl) sqT_disj sqT_cover).trans ?_
  rw [bigSep_univ_prod]
  refine .trans (bigSep_mono fun q _ => ?_) (bigL_of_univ _)
  exact Entails.of_eq (blocks_eq c fun r => anyOwn (F := F) c (sq b r q))
theorem sq_join (b : Memref sig .tc .vmem S512x512 .f32) : bigL cols (sqCol (F := F) c b) ⊢ anyOwn (F := F) c b := by
  refine .trans ?_ (any_join c b sqT (fun _ _ => rfl) sqT_disj sqT_cover)
  rw [bigSep_univ_prod]
  refine (bigL_to_univ _).trans (bigSep_mono fun q _ => ?_)
  exact Entails.of_eq (blocks_eq c fun r => anyOwn (F := F) c (sq b r q)).symm

/-! ## Landing tiles -/

/-- The rectangle of a landing tile, by column and half. -/
abbrev cellT (t : Fin 4 × Bool) : Rect S2x128x512 := cellR t.2 t.1

theorem cellT_disj (t t' : Fin 4 × Bool) (h : t ≠ t') : Disjoint (cellT t).set (cellT t').set := by
  refine Finset.disjoint_left.mpr fun i hi hi' => h ?_
  obtain ⟨q, f⟩ := t
  obtain ⟨q', f'⟩ := t'
  have h1 := (Rect.mem_set_unit.mp hi)
  have h2 := (Rect.mem_set_unit.mp hi')
  have a0 := h1 0; have a2 := h1 2; have b0 := h2 0; have b2 := h2 2
  cases f <;> cases f' <;> simp at a0 a2 b0 b2 <;> first | exact Prod.ext (Fin.ext (by show q.val = q'.val; omega)) rfl | (exfalso; omega)

theorem cellT_cover : (Finset.univ : Finset (Fin 4 × Bool)).biUnion (fun t => (cellT t).set) = Finset.univ := by
  refine Finset.eq_univ_of_forall fun i => ?_
  have h0 := (i 0).isLt; have h1 := (i 1).isLt; have h2 := (i 2).isLt
  simp at h0 h1 h2
  refine Finset.mem_biUnion.mpr ⟨(⟨(i 2).val / 128, by omega⟩, decide ((i 0).val = 1)), Finset.mem_univ _, Rect.mem_set_unit.mpr fun a => ?_⟩
  have hb : (decide ((i 0).val = 1)).toNat = (i 0).val := by
    rcases Nat.lt_or_ge (i 0).val 1 with h | h
    · have : (i 0).val = 0 := by omega
      rw [this]; rfl
    · have : (i 0).val = 1 := by omega
      rw [this]; rfl
  match a with
  | 0 => show (decide ((i 0).val = 1)).toNat ≤ (i 0).val ∧ (i 0).val < (decide ((i 0).val = 1)).toNat + 1; rw [hb]; omega
  | 1 => simp; omega
  | 2 => simp; omega

theorem land_any (b : Memref sig .tc .vmem S2x128x512 .f32) (f : Bool) (q : Fin 4) :
    (anyOwn (F := F) c (b.slice (cellR f q) (fun _ => rfl)) : sProp 𝕄) ⊢ anyOwn (F := F) c (landTile b f q) := by
  iintro ⟨%Y, H⟩
  have hY : unsq (F := F) (fun j : S128x128.Idx => Y (ix3 (0 : Fin 1) (j 0) (j 1))) = Y := funext fun j => congrArg Y (ix3_eta j)
  iexists (fun j : S128x128.Idx => Y (ix3 (0 : Fin 1) (j 0) (j 1)))
  rw [owns_land, hY]
  iexact H
theorem any_land (b : Memref sig .tc .vmem S2x128x512 .f32) (f : Bool) (q : Fin 4) :
    anyOwn (F := F) c (landTile b f q) ⊢ (anyOwn (F := F) c (b.slice (cellR f q) (fun _ => rfl)) : sProp 𝕄) := by
  iintro ⟨%Y, H⟩
  ihave H := (Entails.of_eq (owns_land c b f q fullShare Y)) $$ H
  iexists _
  iexact H

/-- The landing tiles of a column. -/
def landCol (b : Memref sig .tc .vmem S2x128x512 .f32) (q : Fin 4) : sProp 𝕄 :=
  iprop(anyOwn (F := F) c (landTile b false q) ∗ anyOwn (F := F) c (landTile b true q))

theorem bools_eq (P : Bool → sProp 𝕄) : bigSep Finset.univ P = iprop(P false ∗ P true) := by
  rw [bigSep_univ_eq_bigSepL [false, true] (by decide) (by decide)]; rfl

theorem land_split (b : Memref sig .tc .vmem S2x128x512 .f32) : anyOwn (F := F) c b ⊢ bigL cols (landCol (F := F) c b) := by
  refine (any_split c b cellT (fun _ _ => rfl) cellT_disj cellT_cover).trans ?_
  rw [bigSep_univ_prod]
  refine .trans (bigSep_mono fun q _ => ?_) (bigL_of_univ _)
  rw [bools_eq]
  exact BIClass.sep_mono (land_any c b false q) (land_any c b true q)
theorem land_join (b : Memref sig .tc .vmem S2x128x512 .f32) : bigL cols (landCol (F := F) c b) ⊢ anyOwn (F := F) c b := by
  refine .trans ?_ (any_join c b cellT (fun _ _ => rfl) cellT_disj cellT_cover)
  rw [bigSep_univ_prod]
  refine (bigL_to_univ _).trans (bigSep_mono fun q _ => ?_)
  rw [bools_eq]
  exact BIClass.sep_mono (any_land c b false q) (any_land c b true q)

end Cert.KernelIdeal.Tp

end
-- ==== Proof.Deal.lean ====
module

public import proofs.«01_k».proof.Proof.Body
public import proofs.«01_k».proof.Proof.Split
public import proofs.«01_k».proof.Proof.Gen.KernelIdeal.Launch

@[expose] public section

set_option maxRecDepth 16384

/-!
# The launch's rights

What a launch deals out: the credit of every wait, the rights of every copy and signal, the rounds of every cell.
-/

noncomputable section

namespace Cert.KernelIdeal.Tp

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Facts₀ Facts

variable {F : FTy → Type} [FloatOps F]

local notation "𝕄" => MT nD τ sig ℕ (Elt F) ℕ UU ℕ

/-! ## Index types -/

/-- A stage, a half and a column. -/
abbrev Jx := Fin 3 × Bool × Fin 4
/-- A layer besides. -/
abbrev Ixx := Fin 3 × Jx
/-- The kernel's own semaphores. -/
abbrev osem (k : Bool × Jx) : SemLoc sig := csem (some k)

/-- A conjunction over the cells is the barrier's part and the others'. -/
theorem option_eq (P : Cell → sProp 𝕄) :
    bigSep Finset.univ P = iprop(P none ∗ bigSep Finset.univ fun k : Bool × Jx => P (some k)) := by
  rw [bigSep_univ_at P none, show (Finset.univ.erase none : Finset Cell) = Finset.univ.map Function.Embedding.some from by decide +kernel,
    bigSep_map]
  rfl

theorem thirds_eq (P : Fin 3 → sProp 𝕄) : bigSep Finset.univ P = iprop(P 0 ∗ P 1 ∗ P 2) := by
  rw [bigSep_univ_eq_bigSepL [0, 1, 2] (by decide) (by decide)]; rfl

/-- The sent and the received cells apart. -/
theorem sides_eq (P : Bool × Jx → sProp 𝕄) :
    bigSep Finset.univ P = iprop((bigSep Finset.univ fun j : Jx => P (false, j)) ∗ bigSep Finset.univ fun j : Jx => P (true, j)) := by
  rw [bigSep_univ_prod, bools_eq]

/-- Columns first. -/
def colFirst : Fin 4 × Bool × Fin 3 ≃ Jx where
  toFun t := (t.2.2, t.2.1, t.1)
  invFun t := (t.2.2, t.2.1, t.1)
  left_inv _ := rfl
  right_inv _ := rfl

/-- What a column holds of every stage and half. -/
def colOf (P : Fin 3 → Bool → Fin 4 → sProp 𝕄) (q : Fin 4) : sProp 𝕄 :=
  iprop((P 0 false q ∗ P 1 false q ∗ P 2 false q) ∗ (P 0 true q ∗ P 1 true q ∗ P 2 true q))

theorem cols_eq (P : Fin 3 → Bool → Fin 4 → sProp 𝕄) :
    (bigSep Finset.univ fun t : Jx => P t.1 t.2.1 t.2.2) = bigSep Finset.univ (colOf P) := by
  rw [bigSep_univ_equiv colFirst, bigSep_univ_prod]
  refine bigSep_congr fun q _ => ?_
  rw [bigSep_univ_prod, bools_eq, thirds_eq, thirds_eq]
  rfl

/-- Two conjunctions exchanged. -/
theorem swap_eq {I J : Type} [Fintype I] [Fintype J] (P : I → J → sProp 𝕄) :
    (bigSep Finset.univ fun i => bigSep Finset.univ fun j => P i j) = bigSep Finset.univ fun j => bigSep Finset.univ fun i => P i j := by
  rw [← bigSep_univ_prod (fun p : I × J => P p.1 p.2), bigSep_univ_equiv (Equiv.prodComm J I), bigSep_univ_prod]
  rfl

/-- What persists may be used at every index. -/
theorem with_all {I : Type} [DecidableEq I] {S : Finset I} {R : sProp 𝕄} [BI.Persistent R] {P Q : I → sProp 𝕄}
    (h : ∀ i ∈ S, iprop(R ∗ P i) ⊢ Q i) : iprop(R ∗ bigSep S P) ⊢ bigSep S Q := by
  refine .trans (BIClass.sep_mono (BI.bigSep_of_persistent S R) .rfl) ?_
  rw [← bigSep_sep']
  exact bigSep_mono h

/-! ## Peers -/

def peerE (s : Fin 3) (f : Bool) : Dev nD ≃ Dev nD := ⟨peer s f, peer s f, peer_peer s f, peer_peer s f⟩
def pAE : Dev nD ≃ Dev nD := ⟨pA, pA, pA_pA, pA_pA⟩
def pBE : Dev nD ≃ Dev nD := ⟨pB, pB, pB_pB, pB_pB⟩

/-! ## Credit -/

/-- The copy of an index. -/
def copyOf : Ixx ↪ Due := ⟨fun t => (t.1.val, t.2), fun a b h => by
  have h1 := congrArg Prod.fst h; have h2 := congrArg Prod.snd h
  exact Prod.ext (Fin.ext h1) h2⟩

theorem D0_nodup : D0.Nodup := by decide +kernel
theorem D0_set : D0.toFinset = Finset.univ.map copyOf := by decide +kernel

theorem dueSum_list (c : Dev nD) (D : List Due) : dueSum c D = (D.map (due c)).sum := by
  induction D with
  | nil => rfl
  | cons t ts ih => rw [List.map_cons, List.sum_cons, ← ih, add_comm]; rfl

/-- What a device owes for its copies, as a sum. -/
theorem dueSum_D0 (c : Dev nD) : dueSum c D0 = ∑ t : Ixx, due c (copyOf t) := by
  rw [dueSum_list, ← List.sum_toFinset _ D0_nodup, D0_set, Finset.sum_map]

/-- The credit of a wait. -/
def got (c : Dev nD) (t : Ixx) : CellTallies nD τ sig ℕ := tallyAt (recvCell c t.2.1 t.2.2.1 t.2.2.2) t.1 N

/-- The credit of a device's waits. -/
def Tc (c : Dev nD) : CellTallies nD τ sig ℕ :=
  (∑ t : Ixx, got c t) + tallyAt (barCell c) 0 1 + tallyAt (barCell c) 0 1

theorem due_got (t : Ixx) : (∑ d, due d (copyOf t)) = ∑ d, got d t :=
  Equiv.sum_comp (peerE t.2.1 t.2.2.1) (fun d => got d t)

theorem sum_eq : (∑ d, O₀ d) = ∑ d, Tc d := by
  have h1 : (∑ d, dueSum d D0) = ∑ d, ∑ t : Ixx, got d t := by
    rw [Finset.sum_congr rfl fun d _ => dueSum_D0 d]
    exact Finset.sum_comm.trans ((Finset.sum_congr rfl fun t _ => due_got t).trans Finset.sum_comm)
  have hA := Equiv.sum_comp pAE (fun d => (tallyAt (barCell d) 0 1 : CellTallies nD τ sig ℕ))
  have hB := Equiv.sum_comp pBE (fun d => (tallyAt (barCell d) 0 1 : CellTallies nD τ sig ℕ))
  unfold O₀ Tc
  rw [Finset.sum_add_distrib, Finset.sum_add_distrib, Finset.sum_add_distrib, Finset.sum_add_distrib, h1]
  exact congrArg₂ _ (congrArg₂ _ rfl hB) hA

theorem Tc_own (d : Dev nD) (g : GSem nD τ sig) (h : Tc d g ≠ 0) : g.1 = (d : Thread nD τ) := by
  by_contra hg
  refine h ?_
  have hne (k : Cell) : g ≠ kcell (d, k) := fun he => hg (by rw [he])
  unfold Tc got
  rw [Pi.add_apply, Pi.add_apply, Finset.sum_apply]
  have hb : (tallyAt (barCell d) 0 1 : CellTallies nD τ sig ℕ) g = 0 := Finsupp.ext fun i => by
    rw [tallyAt_ne_cell (hne none)]
  have hs : (∑ t : Ixx, (tallyAt (recvCell d t.2.1 t.2.2.1 t.2.2.2) t.1 N : CellTallies nD τ sig ℕ) g) = 0 :=
    Finset.sum_eq_zero fun t _ => Finsupp.ext fun i => by rw [tallyAt_ne_cell (hne _)]
  rw [hb, hs, add_zero, add_zero]

theorem creds (c : Dev nD) : (Pipeline.launchCred O₀ c : sProp 𝕄)
    ⊢ iprop(cred (tallyAt (barCell c) 0 2) ∗ bigSep Finset.univ fun t : Ixx => cred (got c t)) := by
  rw [Pipeline.launchCred_of_sum O₀ Tc sum_eq Tc_own c]
  unfold Tc
  rw [add_assoc, tallyAt_add]
  refine (cred_add _ _).1.trans ?_
  rw [Pipeline.cred_finsetSum]
  iintro ⟨H1, H2⟩
  isplitl [H2]; · iexact H2
  iexact H1

/-! ## Tokens -/

/-- The rights of a device's own cells: the barrier's two, one for each layer of every other cell. -/
abbrev TokIx := Bool ⊕ (Fin 3 × (Bool × Jx))

def tokOf (t : Dev nD × TokIx) : GSem nD τ sig × ℕ × Bool := match t.2 with
  | .inl d => (barCell t.1, 0, d)
  | .inr (l, k) => (kcell (t.1, some k), l.val, false)

theorem tokOf_injective : Function.Injective tokOf := by
  rintro ⟨c, i⟩ ⟨c', i'⟩ h
  rcases i with d | ⟨l, k⟩ <;> rcases i' with d' | ⟨l', k'⟩
  · have h1 := kcell_injective (congrArg Prod.fst h)
    have h2 : d = d' := congrArg (fun x => x.2.2) h
    have h3 : c = c' := congrArg Prod.fst h1
    subst h2 h3; rfl
  · have h1 := kcell_injective (congrArg Prod.fst h)
    exact absurd (congrArg Prod.snd h1) (by simp)
  · have h1 := kcell_injective (congrArg Prod.fst h)
    exact absurd (congrArg Prod.snd h1) (by simp)
  · have h1 := kcell_injective (congrArg Prod.fst h)
    have h2 : l.val = l'.val := congrArg (fun x => x.2.1) h
    have h3 : c = c' := congrArg Prod.fst h1
    have h4 : k = k' := Option.some.inj (congrArg Prod.snd h1)
    have h5 : l = l' := Fin.ext h2
    subst h3 h4 h5; rfl

def tpCells : Finset (GSem nD τ sig) := Finset.univ.map ⟨kcell, kcell_injective⟩
def tpToks : Finset (GSem nD τ sig × ℕ × Bool) := Finset.univ.map ⟨tokOf, tokOf_injective⟩

def u₀ : UU :=
  (initOf (Pipeline.cells cfgs Gen.cellOf_inj) (Pipeline.launchToks cfgs Gen.cellOf_inj), initOf tpCells tpToks)

/-- The rights as minted. -/
def minted (c : Dev nD) : sProp 𝕄 :=
  iprop((dutyTok ER (barCell c) 0 false ∗ dutyTok ER (barCell c) 0 true)
    ∗ (bigSep Finset.univ fun t : Ixx => dutyTok ER (sendCell c t.2.1 t.2.2.1 t.2.2.2) t.1.val false)
    ∗ (bigSep Finset.univ fun t : Ixx => dutyTok ER (recvCell c t.2.1 t.2.2.1 t.2.2.2) t.1.val false))

/-- The rights a device uses. -/
def rights (c : Dev nD) : sProp 𝕄 :=
  iprop((dutyTok ER (barCell (pA c)) 0 false ∗ dutyTok ER (barCell (pB c)) 0 true)
    ∗ (bigSep Finset.univ fun t : Ixx => dutyTok ER (sendCell c t.2.1 t.2.2.1 t.2.2.2) t.1.val false)
    ∗ (bigSep Finset.univ fun t : Ixx => dutyTok ER (recvCell (peer t.2.1 t.2.2.1 c) t.2.1 t.2.2.1 t.2.2.2) t.1.val false))

/-- The layers inside, the sides outside. -/
def sideFirst : Bool × Ixx ≃ Fin 3 × (Bool × Jx) where
  toFun t := (t.2.1, (t.1, t.2.2))
  invFun t := (t.2.1, (t.1, t.2.2))
  left_inv _ := rfl
  right_inv _ := rfl

theorem minted_eq (c : Dev nD) :
    (bigSep Finset.univ fun i : TokIx => (dutyTok ER (tokOf (c, i)).1 (tokOf (c, i)).2.1 (tokOf (c, i)).2.2 : sProp 𝕄)) = minted c := by
  rw [bigSep_univ_sum, bools_eq, bigSep_univ_equiv sideFirst, bigSep_univ_prod, bools_eq]
  rfl

/-- The rights handed to those who use them. -/
theorem minted_rights : (bigSep Finset.univ fun c : Dev nD => (minted c : sProp 𝕄)) ⊢ bigSep Finset.univ fun c : Dev nD => rights c := by
  have hr : (bigSep Finset.univ fun c : Dev nD => bigSep Finset.univ fun t : Ixx =>
        (dutyTok ER (recvCell c t.2.1 t.2.2.1 t.2.2.2) t.1.val false : sProp 𝕄))
      = bigSep Finset.univ fun c : Dev nD => bigSep Finset.univ fun t : Ixx =>
        dutyTok ER (recvCell (peer t.2.1 t.2.2.1 c) t.2.1 t.2.2.1 t.2.2.2) t.1.val false := by
    rw [swap_eq, swap_eq (J := Ixx)]
    refine bigSep_congr fun t _ => ?_
    exact bigSep_univ_equiv (peerE t.2.1 t.2.2.1) (fun c : Dev nD => (dutyTok ER (recvCell c t.2.1 t.2.2.1 t.2.2.2) t.1.val false : sProp 𝕄))
  unfold minted rights
  rw [bigSep_sep', bigSep_sep', bigSep_sep', bigSep_sep', bigSep_sep', bigSep_sep', hr,
    bigSep_univ_equiv pAE (fun c : Dev nD => (dutyTok ER (barCell c) 0 false : sProp 𝕄)),
    bigSep_univ_equiv pBE (fun c : Dev nD => (dutyTok ER (barCell c) 0 true : sProp 𝕄))]
  exact .rfl

variable (A : Inp F)

/-- What a device is dealt at the launch. -/
def G (c : Dev nD) : sProp 𝕄 :=
  iprop((bigSep Finset.univ fun k : Cell => roundState ER (Rd A) (kcell (c, k)) 0)
    ∗ ((bigSep Finset.univ fun k : Cell => atPos ER (kcell (c, k)) 0 ∅ 0) ∗ bigSep Finset.univ fun k : Cell => reached ER (kcell (c, k)) 0)
    ∗ minted c)

theorem fund : BI.own (ER (initOf tpCells tpToks)) ⊢ (|==> bigSep Finset.univ (G A) : sProp 𝕄) := by
  have hX (P : GSem nD τ sig → sProp 𝕄) : bigSep tpCells P = bigSep Finset.univ fun c : Dev nD => bigSep Finset.univ fun k : Cell => P (kcell (c, k)) := by
    unfold tpCells; rw [bigSep_map, bigSep_univ_prod]; rfl
  have hT : bigSep tpToks (fun x => (dutyTok ER x.1 x.2.1 x.2.2 : sProp 𝕄)) = bigSep Finset.univ fun c : Dev nD => minted c := by
    unfold tpToks; rw [bigSep_map, bigSep_univ_prod]
    exact bigSep_congr fun c _ => minted_eq c
  iintro HX
  imod (Rounds.fund ER (Rd A) tpCells tpToks) $$ HX with ⟨Hst, Hr, Hat, Htok⟩
  imodintro
  ihave Hst := (Entails.of_eq (hX fun g => roundState ER (Rd A) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold G; simp only [bigSep_sep']
  isplitl [Hst]; · iexact Hst
  isplitl [Hat Hr]
  · isplitl [Hat]; · iexact Hat
    iexact Hr
  iexact Htok

theorem unscoped_eq (c : Dev nD) : (unscopedSems0 c : sProp 𝕄) = semVal (barCell c) 0 := by
  unfold unscopedSems0; rw [bigSep_eq_bigSepL_of_eq [SemLoc.reg barS] (by decide +kernel) (by decide)]; rfl

/-- All cells of a device at zero. -/
theorem sems_eq (c : Dev nD) :
    iprop(Pipeline.ownSems0 (Ix := ℕ) (Name := ℕ) (U := UU) (Lvl := ℕ) (Val := Elt F) (τ := τ) osem c ∗ unscopedSems0 c)
      ⊢ (bigSep Finset.univ fun k : Cell => semVal (kcell (c, k)) 0 : sProp 𝕄) := by
  rw [unscoped_eq, option_eq]
  unfold Pipeline.ownSems0
  iintro ⟨H1, H2⟩
  isplitl [H2]; · iexact H2
  iexact H1

theorem core_alloc (c : Dev nD) :
    iprop(Pipeline.ownSems0 (Ix := ℕ) (Name := ℕ) (U := UU) (Lvl := ℕ) (Val := Elt F) (τ := τ) osem c ∗ unscopedSems0 c ∗ G A c)
      ⊢ |={Set.univ}=> iprop((bigSep Finset.univ fun k : Cell => iprop(∃ κ : ℕ, cellInv ER (Rd A) κ (kcell (c, k))))
          ∗ ((bigSep Finset.univ fun k : Cell => atPos ER (kcell (c, k)) 0 ∅ 0) ∗ bigSep Finset.univ fun k : Cell => reached ER (kcell (c, k)) 0)
          ∗ minted c) := by
  unfold G
  iintro ⟨Hos, Hus, Hst, Hat, Htok⟩
  ihave Hv := (sems_eq (F := F) c) $$ [Hos Hus]
  · isplitl [Hos]; · iexact Hos
    iexact Hus
  have h : iprop((bigSep Finset.univ fun k : Cell => semVal (kcell (c, k)) 0) ∗ bigSep Finset.univ fun k : Cell => roundState ER (Rd A) (kcell (c, k)) 0)
      ⊢ (|={Set.univ}=> bigSep Finset.univ fun k : Cell => iprop(∃ κ : ℕ, cellInv ER (Rd A) κ (kcell (c, k))) : sProp 𝕄) := by
    rw [← bigSep_sep']
    exact (bigSep_mono fun k _ => (Rounds.body_intro ER (Rd A) (kcell (c, k))).trans inv_alloc).trans (bigSep_fupd _ _)
  imod h $$ [Hv Hst] with Hinv
  · isplitl [Hv]; · iexact Hv
    iexact Hst
  imodintro
  isplitl [Hinv]; · iexact Hinv
  isplitl [Hat]; · iexact Hat
  iexact Htok

/-- What everyone knows. -/
def known (K : Dev nD × Cell → ℕ) : sProp 𝕄 :=
  iprop((bigSep Finset.univ fun ck : Dev nD × Cell => cellInv ER (Rd A) (K ck) (kcell ck))
    ∗ bigSep Finset.univ fun ck : Dev nD × Cell => reached ER (kcell ck) 0)

instance known_persistent (K : Dev nD × Cell → ℕ) : BI.Persistent (known A K) := by unfold known; infer_instance

theorem known_reached (K : Dev nD × Cell → ℕ) (ck : Dev nD × Cell) : known A K ⊢ reached ER (kcell ck) 0 := by
  have h : (bigSep Finset.univ fun ck : Dev nD × Cell => (reached ER (kcell ck) 0 : sProp 𝕄)) ⊢ reached ER (kcell ck) 0 :=
    bigSep_elim (Finset.mem_univ ck)
  unfold known; iintro ⟨-, H⟩
  iapply h; iexact H

/-- What a device starts from, the levels aside. -/
def ghost (K : Dev nD × Cell → ℕ) (c : Dev nD) : sProp 𝕄 :=
  iprop((bigSep Finset.univ fun ck : Dev nD × Cell => cellInv ER (Rd A) (K ck) (kcell ck))
    ∗ (atPos ER (barCell c) 0 ∅ 0 ∗ reached ER (barCell (pA c)) 0 ∗ reached ER (barCell (pB c)) 0)
    ∗ (bigSep Finset.univ fun j : Jx => pos (F := F) c 0 j.1 j.2.1 j.2.2)
    ∗ rights c)
def G' (c : Dev nD) : sProp 𝕄 := iprop(∃ K, ghost A K c)

theorem pos_intro (K : Dev nD × Cell → ℕ) (c : Dev nD) (j : Jx) :
    iprop(known A K ∗ (atPos ER (sendCell c j.1 j.2.1 j.2.2) 0 ∅ 0 ∗ atPos ER (recvCell c j.1 j.2.1 j.2.2) 0 ∅ 0))
      ⊢ pos (F := F) c 0 j.1 j.2.1 j.2.2 := by
  unfold pos
  iintro ⟨#HK, H1, H2⟩
  isplitl [H1]; · iexact H1
  isplitr; · iapply (known_reached A K _); iexact HK
  isplitl [H2]; · iexact H2
  iapply (known_reached A K _); iexact HK

theorem ghost_intro (K : Dev nD × Cell → ℕ) (c : Dev nD) :
    iprop(known A K ∗ ((bigSep Finset.univ fun k : Cell => atPos ER (kcell (c, k)) 0 ∅ 0) ∗ rights c)) ⊢ G' A c := by
  have hp : iprop(known A K ∗ bigSep Finset.univ fun k : Bool × Jx => atPos ER (kcell (c, some k)) 0 ∅ 0)
      ⊢ bigSep Finset.univ fun j : Jx => pos (F := F) c 0 j.1 j.2.1 j.2.2 := by
    rw [sides_eq, ← bigSep_sep']
    exact with_all fun j _ => pos_intro A K c j
  unfold G' ghost
  rw [option_eq]
  iintro ⟨#HK, ⟨Hb, Hd⟩, Hr⟩
  iexists K
  isplitr
  · unfold known; icases HK with ⟨#HI, -⟩; iexact HI
  isplitl [Hb]
  · isplitl [Hb]; · iexact Hb
    isplitr; · iapply (known_reached A K _); iexact HK
    iapply (known_reached A K _); iexact HK
  isplitl [Hd]
  · iapply hp
    isplitr; · iexact HK
    iexact Hd
  iexact Hr

theorem regroup :
    (bigSep Finset.univ fun c : Dev nD => iprop((bigSep Finset.univ fun k : Cell => iprop(∃ κ : ℕ, cellInv ER (Rd A) κ (kcell (c, k))))
          ∗ ((bigSep Finset.univ fun k : Cell => atPos ER (kcell (c, k)) 0 ∅ 0) ∗ bigSep Finset.univ fun k : Cell => reached ER (kcell (c, k)) 0)
          ∗ minted c) : sProp 𝕄)
      ⊢ bigSep Finset.univ (G' A) := by
  rw [bigSep_sep', bigSep_sep', bigSep_sep', ← bigSep_univ_prod (fun ck : Dev nD × Cell => iprop(∃ κ : ℕ, cellInv ER (Rd A) κ (kcell ck))),
    ← bigSep_univ_prod (fun ck : Dev nD × Cell => (reached ER (kcell ck) 0 : sProp 𝕄))]
  iintro ⟨HI, ⟨Hat, #HR⟩, Htok⟩
  ihave HK := (BI.bigSep_exists_pi Finset.univ (fun (ck : Dev nD × Cell) (κ : ℕ) => (cellInv ER (Rd A) κ (kcell ck) : sProp 𝕄))) $$ HI
  icases HK with ⟨%K, #HI⟩
  ihave Htk := (minted_rights (F := F)) $$ Htok
  have h : iprop(known A K ∗ bigSep Finset.univ fun c : Dev nD => iprop((bigSep Finset.univ fun k : Cell => atPos ER (kcell (c, k)) 0 ∅ 0) ∗ rights c))
      ⊢ bigSep Finset.univ (G' A) := with_all fun c _ => ghost_intro A K c
  iapply h
  rw [bigSep_sep']
  isplitr
  · unfold known; isplitl; · iexact HI
    iexact HR
  isplitl [Hat]; · iexact Hat
  iexact Htk

theorem glob : (bigSep Finset.univ fun c => iprop(Pipeline.ownSems0 (Ix := ℕ) (Name := ℕ) (U := UU) (Lvl := ℕ) (Val := Elt F) (τ := τ) osem c ∗ unscopedSems0 c ∗ G A c) : sProp 𝕄)
    ⊢ |={Set.univ}=> bigSep Finset.univ (G' A) :=
  ((bigSep_mono fun c _ => core_alloc A c).trans (bigSep_fupd _ _)).trans (BI.fupd_mono (regroup A))

/-! ## The end -/

theorem close_pos (K : Dev nD × Cell → ℕ) (c : Dev nD) (j : Jx) :
    iprop(Ctx A K ∗ pos (F := F) c 3 j.1 j.2.1 j.2.2)
      ⊢ |={Set.univ}=> iprop(semVal (sendCell c j.1 j.2.1 j.2.2) 0 ∗ semVal (recvCell c j.1 j.2.1 j.2.2) 0) := by
  unfold pos
  iintro ⟨#HC, H1, -, H2, -⟩
  imod (Rounds.cell_close ER (Rd A) (g := sendCell c j.1 j.2.1 j.2.2) (κ := K (c, some (false, j))) (Set.mem_univ _) (fun h => h) (R := 3)
    (fun r hr => duties_dma_later A c _ r hr)) $$ [H1] with H1
  · isplitr; · iapply (Ctx_inv A K (c, some (false, j))); iexact HC
    iexact H1
  imod (Rounds.cell_close ER (Rd A) (g := recvCell c j.1 j.2.1 j.2.2) (κ := K (c, some (true, j))) (Set.mem_univ _) (fun h => h) (R := 3)
    (fun r hr => duties_dma_later A c _ r hr)) $$ [H2] with H2
  · isplitr; · iapply (Ctx_inv A K (c, some (true, j))); iexact HC
    iexact H2
  imodintro
  isplitl [H1]; · iexact H1
  iexact H2

/-- Every cell closed at zero. -/
theorem close_all (K : Dev nD × Cell → ℕ) (c : Dev nD) :
    iprop(Ctx A K ∗ atPos ER (barCell c) 1 ∅ 0 ∗ bigSep Finset.univ fun j : Jx => pos (F := F) c 3 j.1 j.2.1 j.2.2)
      ⊢ |={Set.univ}=> iprop(unscopedSems0 c
        ∗ Pipeline.ownSems0 (Ix := ℕ) (Name := ℕ) (U := UU) (Lvl := ℕ) (Val := Elt F) (τ := τ) osem c) := by
  have h : iprop(Ctx A K ∗ bigSep Finset.univ fun j : Jx => pos (F := F) c 3 j.1 j.2.1 j.2.2)
      ⊢ |={Set.univ}=> bigSep Finset.univ fun j : Jx => iprop(semVal (sendCell c j.1 j.2.1 j.2.2) 0 ∗ semVal (recvCell c j.1 j.2.1 j.2.2) 0) :=
    (with_all fun j _ => close_pos A K c j).trans (bigSep_fupd _ _)
  rw [unscoped_eq]
  unfold Pipeline.ownSems0
  rw [sides_eq]
  iintro ⟨#HC, Hb, Hp⟩
  imod (Rounds.cell_close ER (Rd A) (g := barCell c) (κ := K (c, none)) (Set.mem_univ _) (fun h => h) (R := 1)
    (fun r hr => duties_bar_later A c r hr)) $$ [Hb] with Hb
  · isplitr; · iapply (Ctx_inv A K (c, none)); iexact HC
    iexact Hb
  imod h $$ [Hp] with Hp
  · isplitr; · iexact HC
    iexact Hp
  imodintro
  isplitl [Hb]; · iexact Hb
  ihave Hp := (Entails.of_eq (bigSep_sep' Finset.univ (fun j : Jx => (semVal (sendCell c j.1 j.2.1 j.2.2) 0 : sProp 𝕄)) (fun j => semVal (recvCell c j.1 j.2.1 j.2.2) 0))) $$ Hp
  iexact Hp

end Cert.KernelIdeal.Tp

end
-- ==== Proof.Parts.lean ====
module

public import proofs.«01_k».proof.Proof.Gen.KernelIdeal.Skeleton
public import proofs.«01_k».proof.Proof.Prog

@[expose] public section

set_option maxRecDepth 65536

/-!
# The printed parts in terms of the sweeps' operations

Each printed part of the body, followed by any continuation, as the sequence of the operations of
`Prog.lean` that it runs.
-/

noncomputable section

namespace Cert.KernelIdeal.Tp

open Idealize.ShloMosaic Idealize.SL.Sem
open Cert.KernelIdeal Gen

variable {F : FTy → Type} [FloatOps F]

variable (arg0 : Memref sig .tc .vmem S512x256 .f32) (harg0 : arg0.IsWhole)
  (arg1 : Memref sig .tc .vmem S256x512 .f32) (harg1 : arg1.IsWhole)
  (arg2 : Memref sig .tc .vmem S512x256 .f32) (harg2 : arg2.IsWhole)
  (arg3 : Memref sig .tc .vmem S256x512 .f32) (harg3 : arg3.IsWhole)
  (arg4 : Memref sig .tc .vmem S512x256 .f32) (harg4 : arg4.IsWhole)
  (arg5 : Memref sig .tc .vmem S256x512 .f32) (harg5 : arg5.IsWhole)
  (arg6 : Memref sig .tc .vmem S512x256 .f32) (harg6 : arg6.IsWhole)
  (arg7 : Memref sig .tc .vmem S512x256 .f32) (harg7 : arg7.IsWhole)
  (arg8 : Memref sig .tc .vmem S512x512 .f32) (harg8 : arg8.IsWhole)
  (arg9 : Memref sig .tc .vmem S512x512 .f32) (harg9 : arg9.IsWhole)
  (arg10 : Memref sig .tc .vmem S512x256 .f32) (harg10 : arg10.IsWhole)
  (arg11 : Memref sig .tc .vmem S2x128x512 .f32) (harg11 : arg11.IsWhole)
  (arg12 : Memref sig .tc .vmem S2x128x512 .f32) (harg12 : arg12.IsWhole)
  (arg13 : DmaSems sig S24)
  (arg14 : DmaSems sig S24)

/-- part1 and a continuation, as tile operations. -/
theorem part1_k {β : Type} (K : ((Σ' (d0 : Dev nD) (v3 : BitVec 32) (v4 : BitVec 32) (v9 : BitVec 32) (v11 : BitVec 32) (v13 : BitVec 32) (v16 : BitVec 32), FVec F S128x128 .f32)) → Pr F β) :
    (k0_part1 arg0 harg0 arg1 harg1 arg2 harg2 arg3 harg3 arg4 harg4 arg5 harg5 arg6 harg6 arg7 harg7 arg8 harg8 arg9 harg9 arg10 harg10 arg11 harg11 arg12 harg12 arg13 arg14  >>= K) = (do
      let d0 : Dev nD ← Prog.lift .deviceId
      let v0 : BitVec 32 := Dev.word d0
      let v1 : BitVec 32 := Scalar.divsi v0 1#32
      let v2 : BitVec 32 := Scalar.remsi v1 4#32
      let v3 : BitVec 32 := Scalar.xori v2 1#32
      let v4 : BitVec 32 := Scalar.subi 3#32 v2
      let v5 : BitVec 32 := Scalar.shrsi v2 1#32
      let v6 : BitVec 32 := Scalar.xori v2 v5
      let v7 : BitVec 32 := Scalar.andi v6 1#32
      let v8 : BitVec 32 := Scalar.shrsi v2 1#32
      let v9 : BitVec 32 := Scalar.muli v7 128#32
      let v10 : BitVec 32 := Scalar.subi 1#32 v7
      let v11 : BitVec 32 := Scalar.muli v10 128#32
      let v12 : BitVec 32 := Scalar.muli v8 128#32
      let v13 : BitVec 32 := Scalar.addi 256#32 v12
      let v14 : BitVec 32 := Scalar.subi 1#32 v8
      let v15 : BitVec 32 := Scalar.muli v14 128#32
      let v16 : BitVec 32 := Scalar.addi 256#32 v15
      let v17 : Sems sig S_ := SemArray.scalar (sig.barrier 0 rfl)
      semSignalWord (Rows.printed d0).pa v17.sem 1#32
      semSignalWord (Rows.printed d0).pb v17.sem 1#32
      semWaitWord v17.sem 2#32
      let v23 ← loadRow arg0 ((Rows.printed d0).xo false false) ((Rows.printed d0).xo_in false false)
      let v25 ← loadCol arg1 0
      K ⟨d0, v3, v4, v9, v11, v13, v16, k0_pay1 v23 v25⟩) := rfl

/-- part2 and a continuation, as tile operations. -/
theorem part2_k {β : Type} (d0 : Dev nD) (v3 : BitVec 32) (v4 : BitVec 32) (v16 : BitVec 32) (v27 : FVec F S128x128 .f32) (K : ((PUnit)) → Pr F β) :
    (k0_part2 arg0 harg0 arg1 harg1 arg2 harg2 arg3 harg3 arg4 harg4 arg5 harg5 arg6 harg6 arg7 harg7 arg8 harg8 arg9 harg9 arg10 harg10 arg11 harg11 arg12 harg12 arg13 arg14 d0 v3 v4 v16 v27 >>= K) = (do
      let v29 ← loadSq arg8 ((Rows.printed d0).ta false false 0) ((Rows.printed d0).ta_in false false 0)
      putSq arg8 ((Rows.printed d0).ta false false 0) ((Rows.printed d0).ta_in false false 0) (k0_pay2 v27)
      send (tileOf (Rows.printed d0) arg8 false false 0) (landTile arg11 false 0) (semOf arg13 0 false 0) (semOf arg14 0 false 0) ((Rows.printed d0).dv 0 0 false 0)
      let v43 ← loadRow arg0 ((Rows.printed d0).xo false true) ((Rows.printed d0).xo_in false true)
      let v45 ← loadCol arg1 0
      let v49 ← loadSq arg8 ((Rows.printed d0).ta false true 0) ((Rows.printed d0).ta_in false true 0)
      putSq arg8 ((Rows.printed d0).ta false true 0) ((Rows.printed d0).ta_in false true 0) (k0_pay3 v43 v45)
      K ⟨⟩) := rfl

/-- part3 and a continuation, as tile operations. -/
theorem part3_k {β : Type} (d0 : Dev nD) (v3 : BitVec 32) (v11 : BitVec 32) (v16 : BitVec 32) (K : ((BitVec 32)) → Pr F β) :
    (k0_part3 arg0 harg0 arg1 harg1 arg2 harg2 arg3 harg3 arg4 harg4 arg5 harg5 arg6 harg6 arg7 harg7 arg8 harg8 arg9 harg9 arg10 harg10 arg11 harg11 arg12 harg12 arg13 arg14 d0 v3 v11 v16 >>= K) = (do
      send (tileOf (Rows.printed d0) arg8 false true 0) (landTile arg11 true 0) (semOf arg13 0 true 0) (semOf arg14 0 true 0) ((Rows.printed d0).dv 0 0 true 0)
      let v63 ← loadRow arg0 ((Rows.printed d0).xo false false) ((Rows.printed d0).xo_in false false)
      let v65 ← loadCol arg1 1
      let v69 ← loadSq arg8 ((Rows.printed d0).ta false false 1) ((Rows.printed d0).ta_in false false 1)
      putSq arg8 ((Rows.printed d0).ta false false 1) ((Rows.printed d0).ta_in false false 1) (k0_pay4 v63 v65)
      send (tileOf (Rows.printed d0) arg8 false false 1) (landTile arg11 false 1) (semOf arg13 0 false 1) (semOf arg14 0 false 1) ((Rows.printed d0).dv 0 0 false 1)
      let v83 ← loadRow arg0 ((Rows.printed d0).xo false true) ((Rows.printed d0).xo_in false true)
      let v85 ← loadCol arg1 1
      let v89 ← loadSq arg8 ((Rows.printed d0).ta false true 1) ((Rows.printed d0).ta_in false true 1)
      putSq arg8 ((Rows.printed d0).ta false true 1) ((Rows.printed d0).ta_in false true 1) (k0_pay5 v83 v85)
      K (1#32)) := rfl

/-- part4 and a continuation, as tile operations. -/
theorem part4_k {β : Type} (d0 : Dev nD) (v3 : BitVec 32) (v4 : BitVec 32) (v11 : BitVec 32) (v16 : BitVec 32) (c1_i32_64 : BitVec 32) (K : ((FVec F S128x256 .f32)) → Pr F β) :
    (k0_part4 arg0 harg0 arg1 harg1 arg2 harg2 arg3 harg3 arg4 harg4 arg5 harg5 arg6 harg6 arg7 harg7 arg8 harg8 arg9 harg9 arg10 harg10 arg11 harg11 arg12 harg12 arg13 arg14 d0 v3 v4 v11 v16 c1_i32_64 >>= K) = (do
      send (tileOf (Rows.printed d0) arg8 false true 1) (landTile arg11 true 1) (semOf arg13 0 true 1) (semOf arg14 0 true 1) ((Rows.printed d0).dv 0 0 true 1)
      let v103 ← loadRow arg0 ((Rows.printed d0).xo false false) ((Rows.printed d0).xo_in false false)
      let v105 ← loadCol arg1 2
      let v109 ← loadSq arg8 ((Rows.printed d0).ta false false 2) ((Rows.printed d0).ta_in false false 2)
      putSq arg8 ((Rows.printed d0).ta false false 2) ((Rows.printed d0).ta_in false false 2) (k0_pay6 v103 v105)
      send (tileOf (Rows.printed d0) arg8 false false 2) (landTile arg11 false 2) (semOf arg13 0 false 2) (semOf arg14 0 false 2) ((Rows.printed d0).dv 0 0 false 2)
      let v123 ← loadRow arg0 ((Rows.printed d0).xo false true) ((Rows.printed d0).xo_in false true)
      K ((k0_pay7 v123))) := rfl

/-- part5 and a continuation, as tile operations. -/
theorem part5_k {β : Type} (d0 : Dev nD) (v3 : BitVec 32) (v4 : BitVec 32) (v11 : BitVec 32) (v16 : BitVec 32) (v124 : FVec F S128x256 .f32) (K : ((PUnit)) → Pr F β) :
    (k0_part5 arg0 harg0 arg1 harg1 arg2 harg2 arg3 harg3 arg4 harg4 arg5 harg5 arg6 harg6 arg7 harg7 arg8 harg8 arg9 harg9 arg10 harg10 arg11 harg11 arg12 harg12 arg13 arg14 d0 v3 v4 v11 v16 v124 >>= K) = (do
      let v125 ← loadCol arg1 2
      let v129 ← loadSq arg8 ((Rows.printed d0).ta false true 2) ((Rows.printed d0).ta_in false true 2)
      putSq arg8 ((Rows.printed d0).ta false true 2) ((Rows.printed d0).ta_in false true 2) (k0_pay8 v124 v125)
      send (tileOf (Rows.printed d0) arg8 false true 2) (landTile arg11 true 2) (semOf arg13 0 true 2) (semOf arg14 0 true 2) ((Rows.printed d0).dv 0 0 true 2)
      let v143 ← loadRow arg0 ((Rows.printed d0).xo false false) ((Rows.printed d0).xo_in false false)
      let v145 ← loadCol arg1 3
      let v149 ← loadSq arg8 ((Rows.printed d0).ta false false 3) ((Rows.printed d0).ta_in false false 3)
      putSq arg8 ((Rows.printed d0).ta false false 3) ((Rows.printed d0).ta_in false false 3) (k0_pay9 v143 v145)
      K ⟨⟩) := rfl

/-- part6 and a continuation, as tile operations. -/
theorem part6_k {β : Type} (d0 : Dev nD) (v4 : BitVec 32) (v9 : BitVec 32) (v16 : BitVec 32) (K : ((FVec F S128x128 .f32)) → Pr F β) :
    (k0_part6 arg0 harg0 arg1 harg1 arg2 harg2 arg3 harg3 arg4 harg4 arg5 harg5 arg6 harg6 arg7 harg7 arg8 harg8 arg9 harg9 arg10 harg10 arg11 harg11 arg12 harg12 arg13 arg14 d0 v4 v9 v16 >>= K) = (do
      send (tileOf (Rows.printed d0) arg8 false false 3) (landTile arg11 false 3) (semOf arg13 0 false 3) (semOf arg14 0 false 3) ((Rows.printed d0).dv 0 0 false 3)
      let v163 ← loadRow arg0 ((Rows.printed d0).xo false true) ((Rows.printed d0).xo_in false true)
      let v165 ← loadCol arg1 3
      let v169 ← loadSq arg8 ((Rows.printed d0).ta false true 3) ((Rows.printed d0).ta_in false true 3)
      putSq arg8 ((Rows.printed d0).ta false true 3) ((Rows.printed d0).ta_in false true 3) (k0_pay10 v163 v165)
      send (tileOf (Rows.printed d0) arg8 false true 3) (landTile arg11 true 3) (semOf arg13 0 true 3) (semOf arg14 0 true 3) ((Rows.printed d0).dv 0 0 true 3)
      let v183 ← loadRow arg0 ((Rows.printed d0).xo true false) ((Rows.printed d0).xo_in true false)
      let v185 ← loadCol arg1 0
      let v189 ← loadSq arg8 ((Rows.printed d0).ta true false 0) ((Rows.printed d0).ta_in true false 0)
      K ((k0_pay11 v183 v185))) := rfl

/-- part7 and a continuation, as tile operations. -/
theorem part7_k {β : Type} (d0 : Dev nD) (v9 : BitVec 32) (v13 : BitVec 32) (v191 : FVec F S128x128 .f32) (K : ((FVec F S128x128 .f32)) → Pr F β) :
    (k0_part7 arg0 harg0 arg1 harg1 arg2 harg2 arg3 harg3 arg4 harg4 arg5 harg5 arg6 harg6 arg7 harg7 arg8 harg8 arg9 harg9 arg10 harg10 arg11 harg11 arg12 harg12 arg13 arg14 d0 v9 v13 v191 >>= K) = (do
      putSq arg8 ((Rows.printed d0).ta true false 0) ((Rows.printed d0).ta_in true false 0) v191
      let v193 ← loadRow arg0 ((Rows.printed d0).xo true true) ((Rows.printed d0).xo_in true true)
      let v195 ← loadCol arg1 0
      let v199 ← loadSq arg8 ((Rows.printed d0).ta true true 0) ((Rows.printed d0).ta_in true true 0)
      putSq arg8 ((Rows.printed d0).ta true true 0) ((Rows.printed d0).ta_in true true 0) (k0_pay12 v193 v195)
      let v203 ← loadRow arg0 ((Rows.printed d0).xo true false) ((Rows.printed d0).xo_in true false)
      let v205 ← loadCol arg1 1
      let v209 ← loadSq arg8 ((Rows.printed d0).ta true false 1) ((Rows.printed d0).ta_in true false 1)
      putSq arg8 ((Rows.printed d0).ta true false 1) ((Rows.printed d0).ta_in true false 1) (k0_pay13 v203 v205)
      let v213 ← loadRow arg0 ((Rows.printed d0).xo true true) ((Rows.printed d0).xo_in true true)
      let v215 ← loadCol arg1 1
      let v219 ← loadSq arg8 ((Rows.printed d0).ta true true 1) ((Rows.printed d0).ta_in true true 1)
      putSq arg8 ((Rows.printed d0).ta true true 1) ((Rows.printed d0).ta_in true true 1) (k0_pay14 v213 v215)
      let v223 ← loadRow arg0 ((Rows.printed d0).xo true false) ((Rows.printed d0).xo_in true false)
      let v225 ← loadCol arg1 2
      K ((k0_pay15 v223 v225))) := rfl

/-- part8 and a continuation, as tile operations. -/
theorem part8_k {β : Type} (d0 : Dev nD) (v3 : BitVec 32) (v9 : BitVec 32) (v13 : BitVec 32) (v227 : FVec F S128x128 .f32) (K : ((PUnit)) → Pr F β) :
    (k0_part8 arg0 harg0 arg1 harg1 arg2 harg2 arg3 harg3 arg4 harg4 arg5 harg5 arg6 harg6 arg7 harg7 arg8 harg8 arg9 harg9 arg10 harg10 arg11 harg11 arg12 harg12 arg13 arg14 d0 v3 v9 v13 v227 >>= K) = (do
      let v229 ← loadSq arg8 ((Rows.printed d0).ta true false 2) ((Rows.printed d0).ta_in true false 2)
      putSq arg8 ((Rows.printed d0).ta true false 2) ((Rows.printed d0).ta_in true false 2) (k0_pay16 v227)
      let v233 ← loadRow arg0 ((Rows.printed d0).xo true true) ((Rows.printed d0).xo_in true true)
      let v235 ← loadCol arg1 2
      let v239 ← loadSq arg8 ((Rows.printed d0).ta true true 2) ((Rows.printed d0).ta_in true true 2)
      putSq arg8 ((Rows.printed d0).ta true true 2) ((Rows.printed d0).ta_in true true 2) (k0_pay17 v233 v235)
      let v243 ← loadRow arg0 ((Rows.printed d0).xo true false) ((Rows.printed d0).xo_in true false)
      let v245 ← loadCol arg1 3
      let v249 ← loadSq arg8 ((Rows.printed d0).ta true false 3) ((Rows.printed d0).ta_in true false 3)
      putSq arg8 ((Rows.printed d0).ta true false 3) ((Rows.printed d0).ta_in true false 3) (k0_pay18 v243 v245)
      let v253 ← loadRow arg0 ((Rows.printed d0).xo true true) ((Rows.printed d0).xo_in true true)
      let v255 ← loadCol arg1 3
      let v259 ← loadSq arg8 ((Rows.printed d0).ta true true 3) ((Rows.printed d0).ta_in true true 3)
      putSq arg8 ((Rows.printed d0).ta true true 3) ((Rows.printed d0).ta_in true true 3) (k0_pay19 v253 v255)
      K ⟨⟩) := rfl

/-- part9 and a continuation, as tile operations. -/
theorem part9_k {β : Type} (d0 : Dev nD) (v4 : BitVec 32) (v9 : BitVec 32) (K : ((PUnit)) → Pr F β) :
    (k0_part9 arg0 harg0 arg1 harg1 arg2 harg2 arg3 harg3 arg4 harg4 arg5 harg5 arg6 harg6 arg7 harg7 arg8 harg8 arg9 harg9 arg10 harg10 arg11 harg11 arg12 harg12 arg13 arg14 d0 v4 v9 >>= K) = (do
      await (semOf arg14 0 false 0) (tileOf (Rows.printed d0) arg8 false false 0) (landTile arg11 false 0)
      let v271 ← loadSq arg8 ((Rows.printed d0).ta true false 0) ((Rows.printed d0).ta_in true false 0)
      let v272 ← loadLand arg11 false 0
      let v276 ← loadSq arg8 ((Rows.printed d0).ta true false 0) ((Rows.printed d0).ta_in true false 0)
      putSq arg8 ((Rows.printed d0).ta true false 0) ((Rows.printed d0).ta_in true false 0) (k0_pay20 v271 v272)
      send (tileOf (Rows.printed d0) arg8 true false 0) (landTile arg12 false 0) (semOf arg13 1 false 0) (semOf arg14 1 false 0) ((Rows.printed d0).dv 0 1 false 0)
      K ⟨⟩) := rfl

/-- part10 and a continuation, as tile operations. -/
theorem part10_k {β : Type} (d0 : Dev nD) (v3 : BitVec 32) (v13 : BitVec 32) (K : ((PUnit)) → Pr F β) :
    (k0_part10 arg0 harg0 arg1 harg1 arg2 harg2 arg3 harg3 arg4 harg4 arg5 harg5 arg6 harg6 arg7 harg7 arg8 harg8 arg9 harg9 arg10 harg10 arg11 harg11 arg12 harg12 arg13 arg14 d0 v3 v13 >>= K) = (do
      await (semOf arg14 0 true 0) (tileOf (Rows.printed d0) arg8 false true 0) (landTile arg11 true 0)
      let v298 ← loadSq arg8 ((Rows.printed d0).ta true true 0) ((Rows.printed d0).ta_in true true 0)
      let v299 ← loadLand arg11 true 0
      let v303 ← loadSq arg8 ((Rows.printed d0).ta true true 0) ((Rows.printed d0).ta_in true true 0)
      putSq arg8 ((Rows.printed d0).ta true true 0) ((Rows.printed d0).ta_in true true 0) (k0_pay21 v298 v299)
      send (tileOf (Rows.printed d0) arg8 true true 0) (landTile arg12 true 0) (semOf arg13 1 true 0) (semOf arg14 1 true 0) ((Rows.printed d0).dv 0 1 true 0)
      K ⟨⟩) := rfl

/-- part11 and a continuation, as tile operations. -/
theorem part11_k {β : Type} (d0 : Dev nD) (v4 : BitVec 32) (v9 : BitVec 32) (v13 : BitVec 32) (K : ((Vec F S128x128 .f32)) → Pr F β) :
    (k0_part11 arg0 harg0 arg1 harg1 arg2 harg2 arg3 harg3 arg4 harg4 arg5 harg5 arg6 harg6 arg7 harg7 arg8 harg8 arg9 harg9 arg10 harg10 arg11 harg11 arg12 harg12 arg13 arg14 d0 v4 v9 v13 >>= K) = (do
      await (semOf arg14 0 false 1) (tileOf (Rows.printed d0) arg8 false false 1) (landTile arg11 false 1)
      let v325 ← loadSq arg8 ((Rows.printed d0).ta true false 1) ((Rows.printed d0).ta_in true false 1)
      let v326 ← loadLand arg11 false 1
      let v330 ← loadSq arg8 ((Rows.printed d0).ta true false 1) ((Rows.printed d0).ta_in true false 1)
      putSq arg8 ((Rows.printed d0).ta true false 1) ((Rows.printed d0).ta_in true false 1) (k0_pay22 v325 v326)
      send (tileOf (Rows.printed d0) arg8 true false 1) (landTile arg12 false 1) (semOf arg13 1 false 1) (semOf arg14 1 false 1) ((Rows.printed d0).dv 0 1 false 1)
      await (semOf arg14 0 true 1) (tileOf (Rows.printed d0) arg8 false true 1) (landTile arg11 true 1)
      let v352 ← loadSq arg8 ((Rows.printed d0).ta true true 1) ((Rows.printed d0).ta_in true true 1)
      K v352) := rfl

/-- part12 and a continuation, as tile operations. -/
theorem part12_k {β : Type} (d0 : Dev nD) (v3 : BitVec 32) (v9 : BitVec 32) (v13 : BitVec 32) (v352 : Vec F S128x128 .f32) (K : ((Σ' (v379 : Vec F S128x128 .f32), FVec F S128x128 .f32)) → Pr F β) :
    (k0_part12 arg0 harg0 arg1 harg1 arg2 harg2 arg3 harg3 arg4 harg4 arg5 harg5 arg6 harg6 arg7 harg7 arg8 harg8 arg9 harg9 arg10 harg10 arg11 harg11 arg12 harg12 arg13 arg14 d0 v3 v9 v13 v352 >>= K) = (do
      let v353 ← loadLand arg11 true 1
      let v357 ← loadSq arg8 ((Rows.printed d0).ta true true 1) ((Rows.printed d0).ta_in true true 1)
      putSq arg8 ((Rows.printed d0).ta true true 1) ((Rows.printed d0).ta_in true true 1) (k0_pay23 v352 v353)
      send (tileOf (Rows.printed d0) arg8 true true 1) (landTile arg12 true 1) (semOf arg13 1 true 1) (semOf arg14 1 true 1) ((Rows.printed d0).dv 0 1 true 1)
      await (semOf arg14 0 false 2) (tileOf (Rows.printed d0) arg8 false false 2) (landTile arg11 false 2)
      let v379 ← loadSq arg8 ((Rows.printed d0).ta true false 2) ((Rows.printed d0).ta_in true false 2)
      let v380 ← loadLand arg11 false 2
      K ⟨v379, k0_pay24 v380⟩) := rfl

/-- part13 and a continuation, as tile operations. -/
theorem part13_k {β : Type} (d0 : Dev nD) (v4 : BitVec 32) (v9 : BitVec 32) (v13 : BitVec 32) (v379 : Vec F S128x128 .f32) (v381 : FVec F S128x128 .f32) (K : ((FVec F S128x128 .f32)) → Pr F β) :
    (k0_part13 arg0 harg0 arg1 harg1 arg2 harg2 arg3 harg3 arg4 harg4 arg5 harg5 arg6 harg6 arg7 harg7 arg8 harg8 arg9 harg9 arg10 harg10 arg11 harg11 arg12 harg12 arg13 arg14 d0 v4 v9 v13 v379 v381 >>= K) = (do
      let v384 ← loadSq arg8 ((Rows.printed d0).ta true false 2) ((Rows.printed d0).ta_in true false 2)
      putSq arg8 ((Rows.printed d0).ta true false 2) ((Rows.printed d0).ta_in true false 2) (k0_pay25 v379 v381)
      send (tileOf (Rows.printed d0) arg8 true false 2) (landTile arg12 false 2) (semOf arg13 1 false 2) (semOf arg14 1 false 2) ((Rows.printed d0).dv 0 1 false 2)
      await (semOf arg14 0 true 2) (tileOf (Rows.printed d0) arg8 false true 2) (landTile arg11 true 2)
      let v406 ← loadSq arg8 ((Rows.printed d0).ta true true 2) ((Rows.printed d0).ta_in true true 2)
      let v407 ← loadLand arg11 true 2
      let v411 ← loadSq arg8 ((Rows.printed d0).ta true true 2) ((Rows.printed d0).ta_in true true 2)
      K ((k0_pay26 v406 v407))) := rfl

/-- part14 and a continuation, as tile operations. -/
theorem part14_k {β : Type} (d0 : Dev nD) (v3 : BitVec 32) (v9 : BitVec 32) (v409 : FVec F S128x128 .f32) (K : ((PUnit)) → Pr F β) :
    (k0_part14 arg0 harg0 arg1 harg1 arg2 harg2 arg3 harg3 arg4 harg4 arg5 harg5 arg6 harg6 arg7 harg7 arg8 harg8 arg9 harg9 arg10 harg10 arg11 harg11 arg12 harg12 arg13 arg14 d0 v3 v9 v409 >>= K) = (do
      putSq arg8 ((Rows.printed d0).ta true true 2) ((Rows.printed d0).ta_in true true 2) (k0_pay27 v409)
      send (tileOf (Rows.printed d0) arg8 true true 2) (landTile arg12 true 2) (semOf arg13 1 true 2) (semOf arg14 1 true 2) ((Rows.printed d0).dv 0 1 true 2)
      await (semOf arg14 0 false 3) (tileOf (Rows.printed d0) arg8 false false 3) (landTile arg11 false 3)
      let v433 ← loadSq arg8 ((Rows.printed d0).ta true false 3) ((Rows.printed d0).ta_in true false 3)
      let v434 ← loadLand arg11 false 3
      let v438 ← loadSq arg8 ((Rows.printed d0).ta true false 3) ((Rows.printed d0).ta_in true false 3)
      putSq arg8 ((Rows.printed d0).ta true false 3) ((Rows.printed d0).ta_in true false 3) (k0_pay28 v433 v434)
      K ⟨⟩) := rfl

/-- part15 and a continuation, as tile operations. -/
theorem part15_k {β : Type} (d0 : Dev nD) (v3 : BitVec 32) (v4 : BitVec 32) (v13 : BitVec 32) (K : ((PUnit)) → Pr F β) :
    (k0_part15 arg0 harg0 arg1 harg1 arg2 harg2 arg3 harg3 arg4 harg4 arg5 harg5 arg6 harg6 arg7 harg7 arg8 harg8 arg9 harg9 arg10 harg10 arg11 harg11 arg12 harg12 arg13 arg14 d0 v3 v4 v13 >>= K) = (do
      send (tileOf (Rows.printed d0) arg8 true false 3) (landTile arg12 false 3) (semOf arg13 1 false 3) (semOf arg14 1 false 3) ((Rows.printed d0).dv 0 1 false 3)
      await (semOf arg14 0 true 3) (tileOf (Rows.printed d0) arg8 false true 3) (landTile arg11 true 3)
      let v460 ← loadSq arg8 ((Rows.printed d0).ta true true 3) ((Rows.printed d0).ta_in true true 3)
      let v461 ← loadLand arg11 true 3
      let v465 ← loadSq arg8 ((Rows.printed d0).ta true true 3) ((Rows.printed d0).ta_in true true 3)
      putSq arg8 ((Rows.printed d0).ta true true 3) ((Rows.printed d0).ta_in true true 3) (k0_pay29 v460 v461)
      K ⟨⟩) := rfl

/-- part16 and a continuation, as tile operations. -/
theorem part16_k {β : Type} (d0 : Dev nD) (v3 : BitVec 32) (v4 : BitVec 32) (v9 : BitVec 32) (K : ((PUnit)) → Pr F β) :
    (k0_part16 arg0 harg0 arg1 harg1 arg2 harg2 arg3 harg3 arg4 harg4 arg5 harg5 arg6 harg6 arg7 harg7 arg8 harg8 arg9 harg9 arg10 harg10 arg11 harg11 arg12 harg12 arg13 arg14 d0 v3 v4 v9 >>= K) = (do
      send (tileOf (Rows.printed d0) arg8 true true 3) (landTile arg12 true 3) (semOf arg13 1 true 3) (semOf arg14 1 true 3) ((Rows.printed d0).dv 0 1 true 3)
      await (semOf arg14 1 false 0) (tileOf (Rows.printed d0) arg8 true false 0) (landTile arg12 false 0)
      let v487 ← loadSq arg8 ((Rows.printed d0).ta true false 0) ((Rows.printed d0).ta_in true false 0)
      let v488 ← loadLand arg12 false 0
      let v494 ← loadSq arg9 ((Rows.printed d0).ta true false 0) ((Rows.printed d0).ta_in true false 0)
      putSq arg9 ((Rows.printed d0).ta true false 0) ((Rows.printed d0).ta_in true false 0) (k0_pay30 v487 v488)
      K ⟨⟩) := rfl

/-- part17 and a continuation, as tile operations. -/
theorem part17_k {β : Type} (d0 : Dev nD) (v3 : BitVec 32) (v4 : BitVec 32) (v13 : BitVec 32) (K : ((PUnit)) → Pr F β) :
    (k0_part17 arg0 harg0 arg1 harg1 arg2 harg2 arg3 harg3 arg4 harg4 arg5 harg5 arg6 harg6 arg7 harg7 arg8 harg8 arg9 harg9 arg10 harg10 arg11 harg11 arg12 harg12 arg13 arg14 d0 v3 v4 v13 >>= K) = (do
      send (tileOf (Rows.printed d0) arg9 true false 0) (tileOf (Rows.printed d0) arg9 true false 0) (semOf arg13 2 false 0) (semOf arg14 2 false 0) ((Rows.printed d0).dv 0 2 false 0)
      await (semOf arg14 1 true 0) (tileOf (Rows.printed d0) arg8 true true 0) (landTile arg12 true 0)
      let v514 ← loadSq arg8 ((Rows.printed d0).ta true true 0) ((Rows.printed d0).ta_in true true 0)
      let v515 ← loadLand arg12 true 0
      let v521 ← loadSq arg9 ((Rows.printed d0).ta true true 0) ((Rows.printed d0).ta_in true true 0)
      putSq arg9 ((Rows.printed d0).ta true true 0) ((Rows.printed d0).ta_in true true 0) (k0_pay31 v514 v515)
      send (tileOf (Rows.printed d0) arg9 true true 0) (tileOf (Rows.printed d0) arg9 true true 0) (semOf arg13 2 true 0) (semOf arg14 2 true 0) ((Rows.printed d0).dv 0 2 true 0)
      K ⟨⟩) := rfl

/-- part18 and a continuation, as tile operations. -/
theorem part18_k {β : Type} (d0 : Dev nD) (v3 : BitVec 32) (v4 : BitVec 32) (v9 : BitVec 32) (K : ((PUnit)) → Pr F β) :
    (k0_part18 arg0 harg0 arg1 harg1 arg2 harg2 arg3 harg3 arg4 harg4 arg5 harg5 arg6 harg6 arg7 harg7 arg8 harg8 arg9 harg9 arg10 harg10 arg11 harg11 arg12 harg12 arg13 arg14 d0 v3 v4 v9 >>= K) = (do
      await (semOf arg14 1 false 1) (tileOf (Rows.printed d0) arg8 true false 1) (landTile arg12 false 1)
      let v541 ← loadSq arg8 ((Rows.printed d0).ta true false 1) ((Rows.printed d0).ta_in true false 1)
      let v542 ← loadLand arg12 false 1
      let v548 ← loadSq arg9 ((Rows.printed d0).ta true false 1) ((Rows.printed d0).ta_in true false 1)
      putSq arg9 ((Rows.printed d0).ta true false 1) ((Rows.printed d0).ta_in true false 1) (k0_pay32 v541 v542)
      send (tileOf (Rows.printed d0) arg9 true false 1) (tileOf (Rows.printed d0) arg9 true false 1) (semOf arg13 2 false 1) (semOf arg14 2 false 1) ((Rows.printed d0).dv 0 2 false 1)
      K ⟨⟩) := rfl

/-- part19 and a continuation, as tile operations. -/
theorem part19_k {β : Type} (d0 : Dev nD) (v4 : BitVec 32) (v13 : BitVec 32) (K : ((PUnit)) → Pr F β) :
    (k0_part19 arg0 harg0 arg1 harg1 arg2 harg2 arg3 harg3 arg4 harg4 arg5 harg5 arg6 harg6 arg7 harg7 arg8 harg8 arg9 harg9 arg10 harg10 arg11 harg11 arg12 harg12 arg13 arg14 d0 v4 v13 >>= K) = (do
      await (semOf arg14 1 true 1) (tileOf (Rows.printed d0) arg8 true true 1) (landTile arg12 true 1)
      let v568 ← loadSq arg8 ((Rows.printed d0).ta true true 1) ((Rows.printed d0).ta_in true true 1)
      let v569 ← loadLand arg12 true 1
      let v575 ← loadSq arg9 ((Rows.printed d0).ta true true 1) ((Rows.printed d0).ta_in true true 1)
      putSq arg9 ((Rows.printed d0).ta true true 1) ((Rows.printed d0).ta_in true true 1) (k0_pay33 v568 v569)
      send (tileOf (Rows.printed d0) arg9 true true 1) (tileOf (Rows.printed d0) arg9 true true 1) (semOf arg13 2 true 1) (semOf arg14 2 true 1) ((Rows.printed d0).dv 0 2 true 1)
      await (semOf arg14 1 false 2) (tileOf (Rows.printed d0) arg8 true false 2) (landTile arg12 false 2)
      K ⟨⟩) := rfl

/-- part20 and a continuation, as tile operations. -/
theorem part20_k {β : Type} (d0 : Dev nD) (v3 : BitVec 32) (v9 : BitVec 32) (v13 : BitVec 32) (K : ((Σ' (v622 : Vec F S128x128 .f32), FVec F S128x128 .f32)) → Pr F β) :
    (k0_part20 arg0 harg0 arg1 harg1 arg2 harg2 arg3 harg3 arg4 harg4 arg5 harg5 arg6 harg6 arg7 harg7 arg8 harg8 arg9 harg9 arg10 harg10 arg11 harg11 arg12 harg12 arg13 arg14 d0 v3 v9 v13 >>= K) = (do
      let v595 ← loadSq arg8 ((Rows.printed d0).ta true false 2) ((Rows.printed d0).ta_in true false 2)
      let v596 ← loadLand arg12 false 2
      let v602 ← loadSq arg9 ((Rows.printed d0).ta true false 2) ((Rows.printed d0).ta_in true false 2)
      putSq arg9 ((Rows.printed d0).ta true false 2) ((Rows.printed d0).ta_in true false 2) (k0_pay34 v595 v596)
      send (tileOf (Rows.printed d0) arg9 true false 2) (tileOf (Rows.printed d0) arg9 true false 2) (semOf arg13 2 false 2) (semOf arg14 2 false 2) ((Rows.printed d0).dv 0 2 false 2)
      await (semOf arg14 1 true 2) (tileOf (Rows.printed d0) arg8 true true 2) (landTile arg12 true 2)
      let v622 ← loadSq arg8 ((Rows.printed d0).ta true true 2) ((Rows.printed d0).ta_in true true 2)
      let v623 ← loadLand arg12 true 2
      K ⟨v622, k0_pay35 v623⟩) := rfl

/-- part21 and a continuation, as tile operations. -/
theorem part21_k {β : Type} (d0 : Dev nD) (v4 : BitVec 32) (v9 : BitVec 32) (v13 : BitVec 32) (v622 : Vec F S128x128 .f32) (v624 : FVec F S128x128 .f32) (K : ((FVec F S128x128 .f32)) → Pr F β) :
    (k0_part21 arg0 harg0 arg1 harg1 arg2 harg2 arg3 harg3 arg4 harg4 arg5 harg5 arg6 harg6 arg7 harg7 arg8 harg8 arg9 harg9 arg10 harg10 arg11 harg11 arg12 harg12 arg13 arg14 d0 v4 v9 v13 v622 v624 >>= K) = (do
      let v629 ← loadSq arg9 ((Rows.printed d0).ta true true 2) ((Rows.printed d0).ta_in true true 2)
      putSq arg9 ((Rows.printed d0).ta true true 2) ((Rows.printed d0).ta_in true true 2) (k0_pay36 v622 v624)
      send (tileOf (Rows.printed d0) arg9 true true 2) (tileOf (Rows.printed d0) arg9 true true 2) (semOf arg13 2 true 2) (semOf arg14 2 true 2) ((Rows.printed d0).dv 0 2 true 2)
      await (semOf arg14 1 false 3) (tileOf (Rows.printed d0) arg8 true false 3) (landTile arg12 false 3)
      let v649 ← loadSq arg8 ((Rows.printed d0).ta true false 3) ((Rows.printed d0).ta_in true false 3)
      let v650 ← loadLand arg12 false 3
      let v656 ← loadSq arg9 ((Rows.printed d0).ta true false 3) ((Rows.printed d0).ta_in true false 3)
      K ((k0_pay37 v649 v650))) := rfl

/-- part22 and a continuation, as tile operations. -/
theorem part22_k {β : Type} (d0 : Dev nD) (v3 : BitVec 32) (v4 : BitVec 32) (v13 : BitVec 32) (v654 : FVec F S128x128 .f32) (K : ((PUnit)) → Pr F β) :
    (k0_part22 arg0 harg0 arg1 harg1 arg2 harg2 arg3 harg3 arg4 harg4 arg5 harg5 arg6 harg6 arg7 harg7 arg8 harg8 arg9 harg9 arg10 harg10 arg11 harg11 arg12 harg12 arg13 arg14 d0 v3 v4 v13 v654 >>= K) = (do
      putSq arg9 ((Rows.printed d0).ta true false 3) ((Rows.printed d0).ta_in true false 3) (k0_pay38 v654)
      send (tileOf (Rows.printed d0) arg9 true false 3) (tileOf (Rows.printed d0) arg9 true false 3) (semOf arg13 2 false 3) (semOf arg14 2 false 3) ((Rows.printed d0).dv 0 2 false 3)
      await (semOf arg14 1 true 3) (tileOf (Rows.printed d0) arg8 true true 3) (landTile arg12 true 3)
      let v676 ← loadSq arg8 ((Rows.printed d0).ta true true 3) ((Rows.printed d0).ta_in true true 3)
      let v677 ← loadLand arg12 true 3
      let v683 ← loadSq arg9 ((Rows.printed d0).ta true true 3) ((Rows.printed d0).ta_in true true 3)
      putSq arg9 ((Rows.printed d0).ta true true 3) ((Rows.printed d0).ta_in true true 3) (k0_pay39 v676 v677)
      K ⟨⟩) := rfl

/-- part23 and a continuation, as tile operations. -/
theorem part23_k {β : Type} (d0 : Dev nD) (v3 : BitVec 32) (v9 : BitVec 32) (v13 : BitVec 32) (K : ((PUnit)) → Pr F β) :
    (k0_part23 arg0 harg0 arg1 harg1 arg2 harg2 arg3 harg3 arg4 harg4 arg5 harg5 arg6 harg6 arg7 harg7 arg8 harg8 arg9 harg9 arg10 harg10 arg11 harg11 arg12 harg12 arg13 arg14 d0 v3 v9 v13 >>= K) = (do
      send (tileOf (Rows.printed d0) arg9 true true 3) (tileOf (Rows.printed d0) arg9 true true 3) (semOf arg13 2 true 3) (semOf arg14 2 true 3) ((Rows.printed d0).dv 0 2 true 3)
      let v695 ← loadHid arg9 ((Rows.printed d0).ho true false) ((Rows.printed d0).ho_in true false)
      let v696 ← loadOut arg2
      let v700 ← loadRow arg10 ((Rows.printed d0).xo true false) ((Rows.printed d0).xo_in true false)
      putRow arg10 ((Rows.printed d0).xo true false) ((Rows.printed d0).xo_in true false) (k0_pay40 v695 v696)
      let v704 ← loadHid arg9 ((Rows.printed d0).ho true true) ((Rows.printed d0).ho_in true true)
      let v705 ← loadOut arg2
      let v709 ← loadRow arg10 ((Rows.printed d0).xo true true) ((Rows.printed d0).xo_in true true)
      putRow arg10 ((Rows.printed d0).xo true true) ((Rows.printed d0).xo_in true true) (k0_pay41 v704 v705)
      await (semOf arg14 2 false 0) (tileOf (Rows.printed d0) arg9 true false 0) (tileOf (Rows.printed d0) arg9 true false 0)
      K ⟨⟩) := rfl

/-- part24 and a continuation, as tile operations. -/
theorem part24_k {β : Type} (d0 : Dev nD) (v3 : BitVec 32) (v4 : BitVec 32) (v11 : BitVec 32) (K : ((PUnit)) → Pr F β) :
    (k0_part24 arg0 harg0 arg1 harg1 arg2 harg2 arg3 harg3 arg4 harg4 arg5 harg5 arg6 harg6 arg7 harg7 arg8 harg8 arg9 harg9 arg10 harg10 arg11 harg11 arg12 harg12 arg13 arg14 d0 v3 v4 v11 >>= K) = (do
      await (semOf arg14 2 false 1) (tileOf (Rows.printed d0) arg9 true false 1) (tileOf (Rows.printed d0) arg9 true false 1)
      await (semOf arg14 2 false 2) (tileOf (Rows.printed d0) arg9 true false 2) (tileOf (Rows.printed d0) arg9 true false 2)
      await (semOf arg14 2 false 3) (tileOf (Rows.printed d0) arg9 true false 3) (tileOf (Rows.printed d0) arg9 true false 3)
      let v737 ← loadHid arg9 ((Rows.printed d0).ho false false) ((Rows.printed d0).ho_in false false)
      let v738 ← loadOut arg2
      let v742 ← loadRow arg10 ((Rows.printed d0).xo false false) ((Rows.printed d0).xo_in false false)
      putRow arg10 ((Rows.printed d0).xo false false) ((Rows.printed d0).xo_in false false) (k0_pay42 v737 v738)
      await (semOf arg14 2 true 0) (tileOf (Rows.printed d0) arg9 true true 0) (tileOf (Rows.printed d0) arg9 true true 0)
      K ⟨⟩) := rfl

/-- part25 and a continuation, as tile operations. -/
theorem part25_k {β : Type} (d0 : Dev nD) (v4 : BitVec 32) (v16 : BitVec 32) (K : ((PUnit)) → Pr F β) :
    (k0_part25 arg0 harg0 arg1 harg1 arg2 harg2 arg3 harg3 arg4 harg4 arg5 harg5 arg6 harg6 arg7 harg7 arg8 harg8 arg9 harg9 arg10 harg10 arg11 harg11 arg12 harg12 arg13 arg14 d0 v4 v16 >>= K) = (do
      await (semOf arg14 2 true 1) (tileOf (Rows.printed d0) arg9 true true 1) (tileOf (Rows.printed d0) arg9 true true 1)
      await (semOf arg14 2 true 2) (tileOf (Rows.printed d0) arg9 true true 2) (tileOf (Rows.printed d0) arg9 true true 2)
      await (semOf arg14 2 true 3) (tileOf (Rows.printed d0) arg9 true true 3) (tileOf (Rows.printed d0) arg9 true true 3)
      let v770 ← loadHid arg9 ((Rows.printed d0).ho false true) ((Rows.printed d0).ho_in false true)
      let v771 ← loadOut arg2
      let v775 ← loadRow arg10 ((Rows.printed d0).xo false true) ((Rows.printed d0).xo_in false true)
      putRow arg10 ((Rows.printed d0).xo false true) ((Rows.printed d0).xo_in false true) (k0_pay43 v770 v771)
      K ⟨⟩) := rfl

/-- part26 and a continuation, as tile operations. -/
theorem part26_k {β : Type} (d0 : Dev nD) (K : ((PUnit)) → Pr F β) :
    (k0_part26 arg0 harg0 arg1 harg1 arg2 harg2 arg3 harg3 arg4 harg4 arg5 harg5 arg6 harg6 arg7 harg7 arg8 harg8 arg9 harg9 arg10 harg10 arg11 harg11 arg12 harg12 arg13 arg14 d0 >>= K) = (do
      await (semOf arg13 0 false 0) (landTile arg11 false 0) (tileOf (Rows.printed d0) arg8 false false 0)
      await (semOf arg13 0 true 0) (landTile arg11 true 0) (tileOf (Rows.printed d0) arg8 false true 0)
      await (semOf arg13 0 false 1) (landTile arg11 false 1) (tileOf (Rows.printed d0) arg8 false false 1)
      await (semOf arg13 0 true 1) (landTile arg11 true 1) (tileOf (Rows.printed d0) arg8 false true 1)
      K ⟨⟩) := rfl

/-- part27 and a continuation, as tile operations. -/
theorem part27_k {β : Type} (d0 : Dev nD) (K : ((PUnit)) → Pr F β) :
    (k0_part27 arg0 harg0 arg1 harg1 arg2 harg2 arg3 harg3 arg4 harg4 arg5 harg5 arg6 harg6 arg7 harg7 arg8 harg8 arg9 harg9 arg10 harg10 arg11 harg11 arg12 harg12 arg13 arg14 d0 >>= K) = (do
      await (semOf arg13 0 false 2) (landTile arg11 false 2) (tileOf (Rows.printed d0) arg8 false false 2)
      await (semOf arg13 0 true 2) (landTile arg11 true 2) (tileOf (Rows.printed d0) arg8 false true 2)
      await (semOf arg13 0 false 3) (landTile arg11 false 3) (tileOf (Rows.printed d0) arg8 false false 3)
      K ⟨⟩) := rfl

/-- part28 and a continuation, as tile operations. -/
theorem part28_k {β : Type} (d0 : Dev nD) (K : ((PUnit)) → Pr F β) :
    (k0_part28 arg0 harg0 arg1 harg1 arg2 harg2 arg3 harg3 arg4 harg4 arg5 harg5 arg6 harg6 arg7 harg7 arg8 harg8 arg9 harg9 arg10 harg10 arg11 harg11 arg12 harg12 arg13 arg14 d0 >>= K) = (do
      await (semOf arg13 0 true 3) (landTile arg11 true 3) (tileOf (Rows.printed d0) arg8 false true 3)
      await (semOf arg13 1 false 0) (landTile arg12 false 0) (tileOf (Rows.printed d0) arg8 true false 0)
      await (semOf arg13 1 true 0) (landTile arg12 true 0) (tileOf (Rows.printed d0) arg8 true true 0)
      await (semOf arg13 1 false 1) (landTile arg12 false 1) (tileOf (Rows.printed d0) arg8 true false 1)
      K ⟨⟩) := rfl

/-- part29 and a continuation, as tile operations. -/
theorem part29_k {β : Type} (d0 : Dev nD) (K : ((PUnit)) → Pr F β) :
    (k0_part29 arg0 harg0 arg1 harg1 arg2 harg2 arg3 harg3 arg4 harg4 arg5 harg5 arg6 harg6 arg7 harg7 arg8 harg8 arg9 harg9 arg10 harg10 arg11 harg11 arg12 harg12 arg13 arg14 d0 >>= K) = (do
      await (semOf arg13 1 true 1) (landTile arg12 true 1) (tileOf (Rows.printed d0) arg8 true true 1)
      await (semOf arg13 1 false 2) (landTile arg12 false 2) (tileOf (Rows.printed d0) arg8 true false 2)
      await (semOf arg13 1 true 2) (landTile arg12 true 2) (tileOf (Rows.printed d0) arg8 true true 2)
      await (semOf arg13 1 false 3) (landTile arg12 false 3) (tileOf (Rows.printed d0) arg8 true false 3)
      K ⟨⟩) := rfl

/-- part30 and a continuation, as tile operations. -/
theorem part30_k {β : Type} (d0 : Dev nD) (K : ((PUnit)) → Pr F β) :
    (k0_part30 arg0 harg0 arg1 harg1 arg2 harg2 arg3 harg3 arg4 harg4 arg5 harg5 arg6 harg6 arg7 harg7 arg8 harg8 arg9 harg9 arg10 harg10 arg11 harg11 arg12 harg12 arg13 arg14 d0 >>= K) = (do
      await (semOf arg13 1 true 3) (landTile arg12 true 3) (tileOf (Rows.printed d0) arg8 true true 3)
      await (semOf arg13 2 false 0) (tileOf (Rows.printed d0) arg9 true false 0) (tileOf (Rows.printed d0) arg9 true false 0)
      await (semOf arg13 2 true 0) (tileOf (Rows.printed d0) arg9 true true 0) (tileOf (Rows.printed d0) arg9 true true 0)
      await (semOf arg13 2 false 1) (tileOf (Rows.printed d0) arg9 true false 1) (tileOf (Rows.printed d0) arg9 true false 1)
      await (semOf arg13 2 true 1) (tileOf (Rows.printed d0) arg9 true true 1) (tileOf (Rows.printed d0) arg9 true true 1)
      await (semOf arg13 2 false 2) (tileOf (Rows.printed d0) arg9 true false 2) (tileOf (Rows.printed d0) arg9 true false 2)
      K ⟨⟩) := rfl

/-- part31 and a continuation, as tile operations. -/
theorem part31_k {β : Type} (d0 : Dev nD) (v3 : BitVec 32) (v11 : BitVec 32) (K : ((PUnit)) → Pr F β) :
    (k0_part31 arg0 harg0 arg1 harg1 arg2 harg2 arg3 harg3 arg4 harg4 arg5 harg5 arg6 harg6 arg7 harg7 arg8 harg8 arg9 harg9 arg10 harg10 arg11 harg11 arg12 harg12 arg13 arg14 d0 v3 v11 >>= K) = (do
      await (semOf arg13 2 true 2) (tileOf (Rows.printed d0) arg9 true true 2) (tileOf (Rows.printed d0) arg9 true true 2)
      await (semOf arg13 2 false 3) (tileOf (Rows.printed d0) arg9 true false 3) (tileOf (Rows.printed d0) arg9 true false 3)
      await (semOf arg13 2 true 3) (tileOf (Rows.printed d0) arg9 true true 3) (tileOf (Rows.printed d0) arg9 true true 3)
      let v907 ← loadRow arg10 ((Rows.printed d0).xo false false) ((Rows.printed d0).xo_in false false)
      let v908 ← loadCol arg3 0
      let v912 ← loadSq arg8 ((Rows.printed d0).ta false false 0) ((Rows.printed d0).ta_in false false 0)
      putSq arg8 ((Rows.printed d0).ta false false 0) ((Rows.printed d0).ta_in false false 0) (k0_pay44 v907 v908)
      K ⟨⟩) := rfl

/-- part32 and a continuation, as tile operations. -/
theorem part32_k {β : Type} (d0 : Dev nD) (v4 : BitVec 32) (v11 : BitVec 32) (v16 : BitVec 32) (K : ((BitVec 32)) → Pr F β) :
    (k0_part32 arg0 harg0 arg1 harg1 arg2 harg2 arg3 harg3 arg4 harg4 arg5 harg5 arg6 harg6 arg7 harg7 arg8 harg8 arg9 harg9 arg10 harg10 arg11 harg11 arg12 harg12 arg13 arg14 d0 v4 v11 v16 >>= K) = (do
      send (tileOf (Rows.printed d0) arg8 false false 0) (landTile arg11 false 0) (semOf arg13 0 false 0) (semOf arg14 0 false 0) ((Rows.printed d0).dv 1 0 false 0)
      let v926 ← loadRow arg10 ((Rows.printed d0).xo false true) ((Rows.printed d0).xo_in false true)
      let v927 ← loadCol arg3 0
      let v931 ← loadSq arg8 ((Rows.printed d0).ta false true 0) ((Rows.printed d0).ta_in false true 0)
      putSq arg8 ((Rows.printed d0).ta false true 0) ((Rows.printed d0).ta_in false true 0) (k0_pay45 v926 v927)
      send (tileOf (Rows.printed d0) arg8 false true 0) (landTile arg11 true 0) (semOf arg13 0 true 0) (semOf arg14 0 true 0) ((Rows.printed d0).dv 1 0 true 0)
      let v945 ← loadRow arg10 ((Rows.printed d0).xo false false) ((Rows.printed d0).xo_in false false)
      let v946 ← loadCol arg3 1
      let v950 ← loadSq arg8 ((Rows.printed d0).ta false false 1) ((Rows.printed d0).ta_in false false 1)
      putSq arg8 ((Rows.printed d0).ta false false 1) ((Rows.printed d0).ta_in false false 1) (k0_pay46 v945 v946)
      K (1#32)) := rfl

/-- part33 and a continuation, as tile operations. -/
theorem part33_k {β : Type} (d0 : Dev nD) (v3 : BitVec 32) (v4 : BitVec 32) (v11 : BitVec 32) (v16 : BitVec 32) (c1_i32_815 : BitVec 32) (K : ((Σ' (v983 : Vec F S128x256 .f32), FVec F S256x128 .f32)) → Pr F β) :
    (k0_part33 arg0 harg0 arg1 harg1 arg2 harg2 arg3 harg3 arg4 harg4 arg5 harg5 arg6 harg6 arg7 harg7 arg8 harg8 arg9 harg9 arg10 harg10 arg11 harg11 arg12 harg12 arg13 arg14 d0 v3 v4 v11 v16 c1_i32_815 >>= K) = (do
      send (tileOf (Rows.printed d0) arg8 false false 1) (landTile arg11 false 1) (semOf arg13 0 false 1) (semOf arg14 0 false 1) ((Rows.printed d0).dv 1 0 false 1)
      let v964 ← loadRow arg10 ((Rows.printed d0).xo false true) ((Rows.printed d0).xo_in false true)
      let v965 ← loadCol arg3 1
      let v969 ← loadSq arg8 ((Rows.printed d0).ta false true 1) ((Rows.printed d0).ta_in false true 1)
      putSq arg8 ((Rows.printed d0).ta false true 1) ((Rows.printed d0).ta_in false true 1) (k0_pay47 v964 v965)
      send (tileOf (Rows.printed d0) arg8 false true 1) (landTile arg11 true 1) (semOf arg13 0 true 1) (semOf arg14 0 true 1) ((Rows.printed d0).dv 1 0 true 1)
      let v983 ← loadRow arg10 ((Rows.printed d0).xo false false) ((Rows.printed d0).xo_in false false)
      let v984 ← loadCol arg3 2
      K ⟨v983, k0_pay48 v984⟩) := rfl

/-- part34 and a continuation, as tile operations. -/
theorem part34_k {β : Type} (d0 : Dev nD) (v3 : BitVec 32) (v4 : BitVec 32) (v11 : BitVec 32) (v16 : BitVec 32) (v983 : Vec F S128x256 .f32) (v985 : FVec F S256x128 .f32) (K : ((PUnit)) → Pr F β) :
    (k0_part34 arg0 harg0 arg1 harg1 arg2 harg2 arg3 harg3 arg4 harg4 arg5 harg5 arg6 harg6 arg7 harg7 arg8 harg8 arg9 harg9 arg10 harg10 arg11 harg11 arg12 harg12 arg13 arg14 d0 v3 v4 v11 v16 v983 v985 >>= K) = (do
      let v988 ← loadSq arg8 ((Rows.printed d0).ta false false 2) ((Rows.printed d0).ta_in false false 2)
      putSq arg8 ((Rows.printed d0).ta false false 2) ((Rows.printed d0).ta_in false false 2) (k0_pay49 v983 v985)
      send (tileOf (Rows.printed d0) arg8 false false 2) (landTile arg11 false 2) (semOf arg13 0 false 2) (semOf arg14 0 false 2) ((Rows.printed d0).dv 1 0 false 2)
      let v1002 ← loadRow arg10 ((Rows.printed d0).xo false true) ((Rows.printed d0).xo_in false true)
      let v1003 ← loadCol arg3 2
      let v1007 ← loadSq arg8 ((Rows.printed d0).ta false true 2) ((Rows.printed d0).ta_in false true 2)
      putSq arg8 ((Rows.printed d0).ta false true 2) ((Rows.printed d0).ta_in false true 2) (k0_pay50 v1002 v1003)
      K ⟨⟩) := rfl

/-- part35 and a continuation, as tile operations. -/
theorem part35_k {β : Type} (d0 : Dev nD) (v3 : BitVec 32) (v11 : BitVec 32) (v16 : BitVec 32) (K : ((BitVec 32)) → Pr F β) :
    (k0_part35 arg0 harg0 arg1 harg1 arg2 harg2 arg3 harg3 arg4 harg4 arg5 harg5 arg6 harg6 arg7 harg7 arg8 harg8 arg9 harg9 arg10 harg10 arg11 harg11 arg12 harg12 arg13 arg14 d0 v3 v11 v16 >>= K) = (do
      send (tileOf (Rows.printed d0) arg8 false true 2) (landTile arg11 true 2) (semOf arg13 0 true 2) (semOf arg14 0 true 2) ((Rows.printed d0).dv 1 0 true 2)
      let v1021 ← loadRow arg10 ((Rows.printed d0).xo false false) ((Rows.printed d0).xo_in false false)
      let v1022 ← loadCol arg3 3
      let v1026 ← loadSq arg8 ((Rows.printed d0).ta false false 3) ((Rows.printed d0).ta_in false false 3)
      putSq arg8 ((Rows.printed d0).ta false false 3) ((Rows.printed d0).ta_in false false 3) (k0_pay51 v1021 v1022)
      send (tileOf (Rows.printed d0) arg8 false false 3) (landTile arg11 false 3) (semOf arg13 0 false 3) (semOf arg14 0 false 3) ((Rows.printed d0).dv 1 0 false 3)
      let v1040 ← loadRow arg10 ((Rows.printed d0).xo false true) ((Rows.printed d0).xo_in false true)
      let v1041 ← loadCol arg3 3
      let v1045 ← loadSq arg8 ((Rows.printed d0).ta false true 3) ((Rows.printed d0).ta_in false true 3)
      putSq arg8 ((Rows.printed d0).ta false true 3) ((Rows.printed d0).ta_in false true 3) (k0_pay52 v1040 v1041)
      K (1#32)) := rfl

/-- part36 and a continuation, as tile operations. -/
theorem part36_k {β : Type} (d0 : Dev nD) (v4 : BitVec 32) (v9 : BitVec 32) (v13 : BitVec 32) (c1_i32_890 : BitVec 32) (K : ((FVec F S128x128 .f32)) → Pr F β) :
    (k0_part36 arg0 harg0 arg1 harg1 arg2 harg2 arg3 harg3 arg4 harg4 arg5 harg5 arg6 harg6 arg7 harg7 arg8 harg8 arg9 harg9 arg10 harg10 arg11 harg11 arg12 harg12 arg13 arg14 d0 v4 v9 v13 c1_i32_890 >>= K) = (do
      send (tileOf (Rows.printed d0) arg8 false true 3) (landTile arg11 true 3) (semOf arg13 0 true 3) (semOf arg14 0 true 3) ((Rows.printed d0).dv 1 0 true 3)
      let v1059 ← loadRow arg10 ((Rows.printed d0).xo true false) ((Rows.printed d0).xo_in true false)
      let v1060 ← loadCol arg3 0
      let v1064 ← loadSq arg8 ((Rows.printed d0).ta true false 0) ((Rows.printed d0).ta_in true false 0)
      putSq arg8 ((Rows.printed d0).ta true false 0) ((Rows.printed d0).ta_in true false 0) (k0_pay53 v1059 v1060)
      let v1068 ← loadRow arg10 ((Rows.printed d0).xo true true) ((Rows.printed d0).xo_in true true)
      let v1069 ← loadCol arg3 0
      let v1073 ← loadSq arg8 ((Rows.printed d0).ta true true 0) ((Rows.printed d0).ta_in true true 0)
      putSq arg8 ((Rows.printed d0).ta true true 0) ((Rows.printed d0).ta_in true true 0) (k0_pay54 v1068 v1069)
      let v1077 ← loadRow arg10 ((Rows.printed d0).xo true false) ((Rows.printed d0).xo_in true false)
      let v1078 ← loadCol arg3 1
      let v1082 ← loadSq arg8 ((Rows.printed d0).ta true false 1) ((Rows.printed d0).ta_in true false 1)
      K ((k0_pay55 v1077 v1078))) := rfl

/-- part37 and a continuation, as tile operations. -/
theorem part37_k {β : Type} (d0 : Dev nD) (v9 : BitVec 32) (v13 : BitVec 32) (v1080 : FVec F S128x128 .f32) (K : ((FVec F S128x128 .f32)) → Pr F β) :
    (k0_part37 arg0 harg0 arg1 harg1 arg2 harg2 arg3 harg3 arg4 harg4 arg5 harg5 arg6 harg6 arg7 harg7 arg8 harg8 arg9 harg9 arg10 harg10 arg11 harg11 arg12 harg12 arg13 arg14 d0 v9 v13 v1080 >>= K) = (do
      putSq arg8 ((Rows.printed d0).ta true false 1) ((Rows.printed d0).ta_in true false 1) (k0_pay56 v1080)
      let v1086 ← loadRow arg10 ((Rows.printed d0).xo true true) ((Rows.printed d0).xo_in true true)
      let v1087 ← loadCol arg3 1
      let v1091 ← loadSq arg8 ((Rows.printed d0).ta true true 1) ((Rows.printed d0).ta_in true true 1)
      putSq arg8 ((Rows.printed d0).ta true true 1) ((Rows.printed d0).ta_in true true 1) (k0_pay57 v1086 v1087)
      let v1095 ← loadRow arg10 ((Rows.printed d0).xo true false) ((Rows.printed d0).xo_in true false)
      let v1096 ← loadCol arg3 2
      let v1100 ← loadSq arg8 ((Rows.printed d0).ta true false 2) ((Rows.printed d0).ta_in true false 2)
      putSq arg8 ((Rows.printed d0).ta true false 2) ((Rows.printed d0).ta_in true false 2) (k0_pay58 v1095 v1096)
      let v1104 ← loadRow arg10 ((Rows.printed d0).xo true true) ((Rows.printed d0).xo_in true true)
      let v1105 ← loadCol arg3 2
      let v1109 ← loadSq arg8 ((Rows.printed d0).ta true true 2) ((Rows.printed d0).ta_in true true 2)
      putSq arg8 ((Rows.printed d0).ta true true 2) ((Rows.printed d0).ta_in true true 2) (k0_pay59 v1104 v1105)
      let v1113 ← loadRow arg10 ((Rows.printed d0).xo true false) ((Rows.printed d0).xo_in true false)
      let v1114 ← loadCol arg3 3
      let v1118 ← loadSq arg8 ((Rows.printed d0).ta true false 3) ((Rows.printed d0).ta_in true false 3)
      K ((k0_pay60 v1113 v1114))) := rfl

/-- part38 and a continuation, as tile operations. -/
theorem part38_k {β : Type} (d0 : Dev nD) (v3 : BitVec 32) (v4 : BitVec 32) (v9 : BitVec 32) (v13 : BitVec 32) (v1116 : FVec F S128x128 .f32) (K : ((PUnit)) → Pr F β) :
    (k0_part38 arg0 harg0 arg1 harg1 arg2 harg2 arg3 harg3 arg4 harg4 arg5 harg5 arg6 harg6 arg7 harg7 arg8 harg8 arg9 harg9 arg10 harg10 arg11 harg11 arg12 harg12 arg13 arg14 d0 v3 v4 v9 v13 v1116 >>= K) = (do
      putSq arg8 ((Rows.printed d0).ta true false 3) ((Rows.printed d0).ta_in true false 3) (k0_pay61 v1116)
      let v1122 ← loadRow arg10 ((Rows.printed d0).xo true true) ((Rows.printed d0).xo_in true true)
      let v1123 ← loadCol arg3 3
      let v1127 ← loadSq arg8 ((Rows.printed d0).ta true true 3) ((Rows.printed d0).ta_in true true 3)
      putSq arg8 ((Rows.printed d0).ta true true 3) ((Rows.printed d0).ta_in true true 3) (k0_pay62 v1122 v1123)
      await (semOf arg14 0 false 0) (tileOf (Rows.printed d0) arg8 false false 0) (landTile arg11 false 0)
      let v1139 ← loadSq arg8 ((Rows.printed d0).ta true false 0) ((Rows.printed d0).ta_in true false 0)
      let v1140 ← loadLand arg11 false 0
      let v1144 ← loadSq arg8 ((Rows.printed d0).ta true false 0) ((Rows.printed d0).ta_in true false 0)
      putSq arg8 ((Rows.printed d0).ta true false 0) ((Rows.printed d0).ta_in true false 0) (k0_pay63 v1139 v1140)
      K ⟨⟩) := rfl

/-- part39 and a continuation, as tile operations. -/
theorem part39_k {β : Type} (d0 : Dev nD) (v3 : BitVec 32) (v4 : BitVec 32) (v13 : BitVec 32) (K : ((PUnit)) → Pr F β) :
    (k0_part39 arg0 harg0 arg1 harg1 arg2 harg2 arg3 harg3 arg4 harg4 arg5 harg5 arg6 harg6 arg7 harg7 arg8 harg8 arg9 harg9 arg10 harg10 arg11 harg11 arg12 harg12 arg13 arg14 d0 v3 v4 v13 >>= K) = (do
      send (tileOf (Rows.printed d0) arg8 true false 0) (landTile arg12 false 0) (semOf arg13 1 false 0) (semOf arg14 1 false 0) ((Rows.printed d0).dv 1 1 false 0)
      await (semOf arg14 0 true 0) (tileOf (Rows.printed d0) arg8 false true 0) (landTile arg11 true 0)
      let v1166 ← loadSq arg8 ((Rows.printed d0).ta true true 0) ((Rows.printed d0).ta_in true true 0)
      let v1167 ← loadLand arg11 true 0
      let v1171 ← loadSq arg8 ((Rows.printed d0).ta true true 0) ((Rows.printed d0).ta_in true true 0)
      putSq arg8 ((Rows.printed d0).ta true true 0) ((Rows.printed d0).ta_in true true 0) (k0_pay64 v1166 v1167)
      K ⟨⟩) := rfl

/-- part40 and a continuation, as tile operations. -/
theorem part40_k {β : Type} (d0 : Dev nD) (v3 : BitVec 32) (v4 : BitVec 32) (v9 : BitVec 32) (K : ((PUnit)) → Pr F β) :
    (k0_part40 arg0 harg0 arg1 harg1 arg2 harg2 arg3 harg3 arg4 harg4 arg5 harg5 arg6 harg6 arg7 harg7 arg8 harg8 arg9 harg9 arg10 harg10 arg11 harg11 arg12 harg12 arg13 arg14 d0 v3 v4 v9 >>= K) = (do
      send (tileOf (Rows.printed d0) arg8 true true 0) (landTile arg12 true 0) (semOf arg13 1 true 0) (semOf arg14 1 true 0) ((Rows.printed d0).dv 1 1 true 0)
      await (semOf arg14 0 false 1) (tileOf (Rows.printed d0) arg8 false false 1) (landTile arg11 false 1)
      let v1193 ← loadSq arg8 ((Rows.printed d0).ta true false 1) ((Rows.printed d0).ta_in true false 1)
      let v1194 ← loadLand arg11 false 1
      let v1198 ← loadSq arg8 ((Rows.printed d0).ta true false 1) ((Rows.printed d0).ta_in true false 1)
      putSq arg8 ((Rows.printed d0).ta true false 1) ((Rows.printed d0).ta_in true false 1) (k0_pay65 v1193 v1194)
      K ⟨⟩) := rfl

/-- part41 and a continuation, as tile operations. -/
theorem part41_k {β : Type} (d0 : Dev nD) (v3 : BitVec 32) (v4 : BitVec 32) (v13 : BitVec 32) (K : ((PUnit)) → Pr F β) :
    (k0_part41 arg0 harg0 arg1 harg1 arg2 harg2 arg3 harg3 arg4 harg4 arg5 harg5 arg6 harg6 arg7 harg7 arg8 harg8 arg9 harg9 arg10 harg10 arg11 harg11 arg12 harg12 arg13 arg14 d0 v3 v4 v13 >>= K) = (do
      send (tileOf (Rows.printed d0) arg8 true false 1) (landTile arg12 false 1) (semOf arg13 1 false 1) (semOf arg14 1 false 1) ((Rows.printed d0).dv 1 1 false 1)
      await (semOf arg14 0 true 1) (tileOf (Rows.printed d0) arg8 false true 1) (landTile arg11 true 1)
      let v1220 ← loadSq arg8 ((Rows.printed d0).ta true true 1) ((Rows.printed d0).ta_in true true 1)
      let v1221 ← loadLand arg11 true 1
      let v1225 ← loadSq arg8 ((Rows.printed d0).ta true true 1) ((Rows.printed d0).ta_in true true 1)
      putSq arg8 ((Rows.printed d0).ta true true 1) ((Rows.printed d0).ta_in true true 1) (k0_pay66 v1220 v1221)
      send (tileOf (Rows.printed d0) arg8 true true 1) (landTile arg12 true 1) (semOf arg13 1 true 1) (semOf arg14 1 true 1) ((Rows.printed d0).dv 1 1 true 1)
      K ⟨⟩) := rfl

/-- part42 and a continuation, as tile operations. -/
theorem part42_k {β : Type} (d0 : Dev nD) (v3 : BitVec 32) (v4 : BitVec 32) (v9 : BitVec 32) (K : ((PUnit)) → Pr F β) :
    (k0_part42 arg0 harg0 arg1 harg1 arg2 harg2 arg3 harg3 arg4 harg4 arg5 harg5 arg6 harg6 arg7 harg7 arg8 harg8 arg9 harg9 arg10 harg10 arg11 harg11 arg12 harg12 arg13 arg14 d0 v3 v4 v9 >>= K) = (do
      await (semOf arg14 0 false 2) (tileOf (Rows.printed d0) arg8 false false 2) (landTile arg11 false 2)
      let v1247 ← loadSq arg8 ((Rows.printed d0).ta true false 2) ((Rows.printed d0).ta_in true false 2)
      let v1248 ← loadLand arg11 false 2
      let v1252 ← loadSq arg8 ((Rows.printed d0).ta true false 2) ((Rows.printed d0).ta_in true false 2)
      putSq arg8 ((Rows.printed d0).ta true false 2) ((Rows.printed d0).ta_in true false 2) (k0_pay67 v1247 v1248)
      send (tileOf (Rows.printed d0) arg8 true false 2) (landTile arg12 false 2) (semOf arg13 1 false 2) (semOf arg14 1 false 2) ((Rows.printed d0).dv 1 1 false 2)
      K ⟨⟩) := rfl

/-- part43 and a continuation, as tile operations. -/
theorem part43_k {β : Type} (d0 : Dev nD) (v3 : BitVec 32) (v13 : BitVec 32) (K : ((PUnit)) → Pr F β) :
    (k0_part43 arg0 harg0 arg1 harg1 arg2 harg2 arg3 harg3 arg4 harg4 arg5 harg5 arg6 harg6 arg7 harg7 arg8 harg8 arg9 harg9 arg10 harg10 arg11 harg11 arg12 harg12 arg13 arg14 d0 v3 v13 >>= K) = (do
      await (semOf arg14 0 true 2) (tileOf (Rows.printed d0) arg8 false true 2) (landTile arg11 true 2)
      let v1274 ← loadSq arg8 ((Rows.printed d0).ta true true 2) ((Rows.printed d0).ta_in true true 2)
      let v1275 ← loadLand arg11 true 2
      let v1279 ← loadSq arg8 ((Rows.printed d0).ta true true 2) ((Rows.printed d0).ta_in true true 2)
      putSq arg8 ((Rows.printed d0).ta true true 2) ((Rows.printed d0).ta_in true true 2) (k0_pay68 v1274 v1275)
      send (tileOf (Rows.printed d0) arg8 true true 2) (landTile arg12 true 2) (semOf arg13 1 true 2) (semOf arg14 1 true 2) ((Rows.printed d0).dv 1 1 true 2)
      K ⟨⟩) := rfl

/-- part44 and a continuation, as tile operations. -/
theorem part44_k {β : Type} (d0 : Dev nD) (v4 : BitVec 32) (v9 : BitVec 32) (K : ((PUnit)) → Pr F β) :
    (k0_part44 arg0 harg0 arg1 harg1 arg2 harg2 arg3 harg3 arg4 harg4 arg5 harg5 arg6 harg6 arg7 harg7 arg8 harg8 arg9 harg9 arg10 harg10 arg11 harg11 arg12 harg12 arg13 arg14 d0 v4 v9 >>= K) = (do
      await (semOf arg14 0 false 3) (tileOf (Rows.printed d0) arg8 false false 3) (landTile arg11 false 3)
      let v1301 ← loadSq arg8 ((Rows.printed d0).ta true false 3) ((Rows.printed d0).ta_in true false 3)
      let v1302 ← loadLand arg11 false 3
      let v1306 ← loadSq arg8 ((Rows.printed d0).ta true false 3) ((Rows.printed d0).ta_in true false 3)
      putSq arg8 ((Rows.printed d0).ta true false 3) ((Rows.printed d0).ta_in true false 3) (k0_pay69 v1301 v1302)
      send (tileOf (Rows.printed d0) arg8 true false 3) (landTile arg12 false 3) (semOf arg13 1 false 3) (semOf arg14 1 false 3) ((Rows.printed d0).dv 1 1 false 3)
      K ⟨⟩) := rfl

/-- part45 and a continuation, as tile operations. -/
theorem part45_k {β : Type} (d0 : Dev nD) (v3 : BitVec 32) (v4 : BitVec 32) (v9 : BitVec 32) (v13 : BitVec 32) (K : ((Vec F S128x128 .f32)) → Pr F β) :
    (k0_part45 arg0 harg0 arg1 harg1 arg2 harg2 arg3 harg3 arg4 harg4 arg5 harg5 arg6 harg6 arg7 harg7 arg8 harg8 arg9 harg9 arg10 harg10 arg11 harg11 arg12 harg12 arg13 arg14 d0 v3 v4 v9 v13 >>= K) = (do
      await (semOf arg14 0 true 3) (tileOf (Rows.printed d0) arg8 false true 3) (landTile arg11 true 3)
      let v1328 ← loadSq arg8 ((Rows.printed d0).ta true true 3) ((Rows.printed d0).ta_in true true 3)
      let v1329 ← loadLand arg11 true 3
      let v1333 ← loadSq arg8 ((Rows.printed d0).ta true true 3) ((Rows.printed d0).ta_in true true 3)
      putSq arg8 ((Rows.printed d0).ta true true 3) ((Rows.printed d0).ta_in true true 3) (k0_pay70 v1328 v1329)
      send (tileOf (Rows.printed d0) arg8 true true 3) (landTile arg12 true 3) (semOf arg13 1 true 3) (semOf arg14 1 true 3) ((Rows.printed d0).dv 1 1 true 3)
      await (semOf arg14 1 false 0) (tileOf (Rows.printed d0) arg8 true false 0) (landTile arg12 false 0)
      let v1355 ← loadSq arg8 ((Rows.printed d0).ta true false 0) ((Rows.printed d0).ta_in true false 0)
      let c0_1148 : Index := 0#32
      K v1355) := rfl

/-- part46 and a continuation, as tile operations. -/
theorem part46_k {β : Type} (d0 : Dev nD) (v3 : BitVec 32) (v9 : BitVec 32) (v13 : BitVec 32) (v1355 : Vec F S128x128 .f32) (K : ((FVec F S128x128 .f32)) → Pr F β) :
    (k0_part46 arg0 harg0 arg1 harg1 arg2 harg2 arg3 harg3 arg4 harg4 arg5 harg5 arg6 harg6 arg7 harg7 arg8 harg8 arg9 harg9 arg10 harg10 arg11 harg11 arg12 harg12 arg13 arg14 d0 v3 v9 v13 v1355 >>= K) = (do
      let v1356 ← loadLand arg12 false 0
      let v1362 ← loadSq arg9 ((Rows.printed d0).ta true false 0) ((Rows.printed d0).ta_in true false 0)
      putSq arg9 ((Rows.printed d0).ta true false 0) ((Rows.printed d0).ta_in true false 0) (k0_pay71 v1355 v1356)
      send (tileOf (Rows.printed d0) arg9 true false 0) (tileOf (Rows.printed d0) arg9 true false 0) (semOf arg13 2 false 0) (semOf arg14 2 false 0) ((Rows.printed d0).dv 1 2 false 0)
      await (semOf arg14 1 true 0) (tileOf (Rows.printed d0) arg8 true true 0) (landTile arg12 true 0)
      let v1382 ← loadSq arg8 ((Rows.printed d0).ta true true 0) ((Rows.printed d0).ta_in true true 0)
      let v1383 ← loadLand arg12 true 0
      K ((k0_pay72 v1382 v1383))) := rfl

/-- part47 and a continuation, as tile operations. -/
theorem part47_k {β : Type} (d0 : Dev nD) (v4 : BitVec 32) (v9 : BitVec 32) (v13 : BitVec 32) (v1387 : FVec F S128x128 .f32) (K : ((PUnit)) → Pr F β) :
    (k0_part47 arg0 harg0 arg1 harg1 arg2 harg2 arg3 harg3 arg4 harg4 arg5 harg5 arg6 harg6 arg7 harg7 arg8 harg8 arg9 harg9 arg10 harg10 arg11 harg11 arg12 harg12 arg13 arg14 d0 v4 v9 v13 v1387 >>= K) = (do
      let v1389 ← loadSq arg9 ((Rows.printed d0).ta true true 0) ((Rows.printed d0).ta_in true true 0)
      putSq arg9 ((Rows.printed d0).ta true true 0) ((Rows.printed d0).ta_in true true 0) (k0_pay73 v1387)
      send (tileOf (Rows.printed d0) arg9 true true 0) (tileOf (Rows.printed d0) arg9 true true 0) (semOf arg13 2 true 0) (semOf arg14 2 true 0) ((Rows.printed d0).dv 1 2 true 0)
      await (semOf arg14 1 false 1) (tileOf (Rows.printed d0) arg8 true false 1) (landTile arg12 false 1)
      let v1409 ← loadSq arg8 ((Rows.printed d0).ta true false 1) ((Rows.printed d0).ta_in true false 1)
      let v1410 ← loadLand arg12 false 1
      let v1416 ← loadSq arg9 ((Rows.printed d0).ta true false 1) ((Rows.printed d0).ta_in true false 1)
      putSq arg9 ((Rows.printed d0).ta true false 1) ((Rows.printed d0).ta_in true false 1) (k0_pay74 v1409 v1410)
      K ⟨⟩) := rfl

/-- part48 and a continuation, as tile operations. -/
theorem part48_k {β : Type} (d0 : Dev nD) (v3 : BitVec 32) (v4 : BitVec 32) (v13 : BitVec 32) (K : ((PUnit)) → Pr F β) :
    (k0_part48 arg0 harg0 arg1 harg1 arg2 harg2 arg3 harg3 arg4 harg4 arg5 harg5 arg6 harg6 arg7 harg7 arg8 harg8 arg9 harg9 arg10 harg10 arg11 harg11 arg12 harg12 arg13 arg14 d0 v3 v4 v13 >>= K) = (do
      send (tileOf (Rows.printed d0) arg9 true false 1) (tileOf (Rows.printed d0) arg9 true false 1) (semOf arg13 2 false 1) (semOf arg14 2 false 1) ((Rows.printed d0).dv 1 2 false 1)
      await (semOf arg14 1 true 1) (tileOf (Rows.printed d0) arg8 true true 1) (landTile arg12 true 1)
      let v1436 ← loadSq arg8 ((Rows.printed d0).ta true true 1) ((Rows.printed d0).ta_in true true 1)
      let v1437 ← loadLand arg12 true 1
      let v1443 ← loadSq arg9 ((Rows.printed d0).ta true true 1) ((Rows.printed d0).ta_in true true 1)
      putSq arg9 ((Rows.printed d0).ta true true 1) ((Rows.printed d0).ta_in true true 1) (k0_pay75 v1436 v1437)
      K ⟨⟩) := rfl

/-- part49 and a continuation, as tile operations. -/
theorem part49_k {β : Type} (d0 : Dev nD) (v3 : BitVec 32) (v4 : BitVec 32) (v9 : BitVec 32) (K : ((PUnit)) → Pr F β) :
    (k0_part49 arg0 harg0 arg1 harg1 arg2 harg2 arg3 harg3 arg4 harg4 arg5 harg5 arg6 harg6 arg7 harg7 arg8 harg8 arg9 harg9 arg10 harg10 arg11 harg11 arg12 harg12 arg13 arg14 d0 v3 v4 v9 >>= K) = (do
      send (tileOf (Rows.printed d0) arg9 true true 1) (tileOf (Rows.printed d0) arg9 true true 1) (semOf arg13 2 true 1) (semOf arg14 2 true 1) ((Rows.printed d0).dv 1 2 true 1)
      await (semOf arg14 1 false 2) (tileOf (Rows.printed d0) arg8 true false 2) (landTile arg12 false 2)
      let v1463 ← loadSq arg8 ((Rows.printed d0).ta true false 2) ((Rows.printed d0).ta_in true false 2)
      let v1464 ← loadLand arg12 false 2
      let v1470 ← loadSq arg9 ((Rows.printed d0).ta true false 2) ((Rows.printed d0).ta_in true false 2)
      putSq arg9 ((Rows.printed d0).ta true false 2) ((Rows.printed d0).ta_in true false 2) (k0_pay76 v1463 v1464)
      send (tileOf (Rows.printed d0) arg9 true false 2) (tileOf (Rows.printed d0) arg9 true false 2) (semOf arg13 2 false 2) (semOf arg14 2 false 2) ((Rows.printed d0).dv 1 2 false 2)
      K ⟨⟩) := rfl

/-- part50 and a continuation, as tile operations. -/
theorem part50_k {β : Type} (d0 : Dev nD) (v3 : BitVec 32) (v4 : BitVec 32) (v13 : BitVec 32) (K : ((PUnit)) → Pr F β) :
    (k0_part50 arg0 harg0 arg1 harg1 arg2 harg2 arg3 harg3 arg4 harg4 arg5 harg5 arg6 harg6 arg7 harg7 arg8 harg8 arg9 harg9 arg10 harg10 arg11 harg11 arg12 harg12 arg13 arg14 d0 v3 v4 v13 >>= K) = (do
      await (semOf arg14 1 true 2) (tileOf (Rows.printed d0) arg8 true true 2) (landTile arg12 true 2)
      let v1490 ← loadSq arg8 ((Rows.printed d0).ta true true 2) ((Rows.printed d0).ta_in true true 2)
      let v1491 ← loadLand arg12 true 2
      let v1497 ← loadSq arg9 ((Rows.printed d0).ta true true 2) ((Rows.printed d0).ta_in true true 2)
      putSq arg9 ((Rows.printed d0).ta true true 2) ((Rows.printed d0).ta_in true true 2) (k0_pay77 v1490 v1491)
      send (tileOf (Rows.printed d0) arg9 true true 2) (tileOf (Rows.printed d0) arg9 true true 2) (semOf arg13 2 true 2) (semOf arg14 2 true 2) ((Rows.printed d0).dv 1 2 true 2)
      K ⟨⟩) := rfl

/-- part51 and a continuation, as tile operations. -/
theorem part51_k {β : Type} (d0 : Dev nD) (v3 : BitVec 32) (v9 : BitVec 32) (K : ((PUnit)) → Pr F β) :
    (k0_part51 arg0 harg0 arg1 harg1 arg2 harg2 arg3 harg3 arg4 harg4 arg5 harg5 arg6 harg6 arg7 harg7 arg8 harg8 arg9 harg9 arg10 harg10 arg11 harg11 arg12 harg12 arg13 arg14 d0 v3 v9 >>= K) = (do
      await (semOf arg14 1 false 3) (tileOf (Rows.printed d0) arg8 true false 3) (landTile arg12 false 3)
      let v1517 ← loadSq arg8 ((Rows.printed d0).ta true false 3) ((Rows.printed d0).ta_in true false 3)
      let v1518 ← loadLand arg12 false 3
      let v1524 ← loadSq arg9 ((Rows.printed d0).ta true false 3) ((Rows.printed d0).ta_in true false 3)
      putSq arg9 ((Rows.printed d0).ta true false 3) ((Rows.printed d0).ta_in true false 3) (k0_pay78 v1517 v1518)
      send (tileOf (Rows.printed d0) arg9 true false 3) (tileOf (Rows.printed d0) arg9 true false 3) (semOf arg13 2 false 3) (semOf arg14 2 false 3) ((Rows.printed d0).dv 1 2 false 3)
      await (semOf arg14 1 true 3) (tileOf (Rows.printed d0) arg8 true true 3) (landTile arg12 true 3)
      K ⟨⟩) := rfl

/-- part52 and a continuation, as tile operations. -/
theorem part52_k {β : Type} (d0 : Dev nD) (v4 : BitVec 32) (v9 : BitVec 32) (v13 : BitVec 32) (K : ((Σ' (v1575 : FVec F S128x256 .f32), Vec F S128x256 .f32)) → Pr F β) :
    (k0_part52 arg0 harg0 arg1 harg1 arg2 harg2 arg3 harg3 arg4 harg4 arg5 harg5 arg6 harg6 arg7 harg7 arg8 harg8 arg9 harg9 arg10 harg10 arg11 harg11 arg12 harg12 arg13 arg14 d0 v4 v9 v13 >>= K) = (do
      let v1544 ← loadSq arg8 ((Rows.printed d0).ta true true 3) ((Rows.printed d0).ta_in true true 3)
      let v1545 ← loadLand arg12 true 3
      let v1551 ← loadSq arg9 ((Rows.printed d0).ta true true 3) ((Rows.printed d0).ta_in true true 3)
      putSq arg9 ((Rows.printed d0).ta true true 3) ((Rows.printed d0).ta_in true true 3) (k0_pay79 v1544 v1545)
      send (tileOf (Rows.printed d0) arg9 true true 3) (tileOf (Rows.printed d0) arg9 true true 3) (semOf arg13 2 true 3) (semOf arg14 2 true 3) ((Rows.printed d0).dv 1 2 true 3)
      let v1563 ← loadHid arg9 ((Rows.printed d0).ho true false) ((Rows.printed d0).ho_in true false)
      let v1564 ← loadOut arg4
      let v1568 ← loadRow arg10 ((Rows.printed d0).xo true false) ((Rows.printed d0).xo_in true false)
      putRow arg10 ((Rows.printed d0).xo true false) ((Rows.printed d0).xo_in true false) (k0_pay80 v1563 v1564)
      let v1572 ← loadHid arg9 ((Rows.printed d0).ho true true) ((Rows.printed d0).ho_in true true)
      let v1573 ← loadOut arg4
      let v1577 ← loadRow arg10 ((Rows.printed d0).xo true true) ((Rows.printed d0).xo_in true true)
      K ⟨k0_pay81 v1572 v1573, v1577⟩) := rfl

/-- part53 and a continuation, as tile operations. -/
theorem part53_k {β : Type} (d0 : Dev nD) (v3 : BitVec 32) (v11 : BitVec 32) (v1575 : FVec F S128x256 .f32) (v1577 : Vec F S128x256 .f32) (K : ((Vec F S128x512 .f32)) → Pr F β) :
    (k0_part53 arg0 harg0 arg1 harg1 arg2 harg2 arg3 harg3 arg4 harg4 arg5 harg5 arg6 harg6 arg7 harg7 arg8 harg8 arg9 harg9 arg10 harg10 arg11 harg11 arg12 harg12 arg13 arg14 d0 v3 v11 v1575 v1577 >>= K) = (do
      putRow arg10 ((Rows.printed d0).xo true true) ((Rows.printed d0).xo_in true true) (k0_pay82 v1575)
      await (semOf arg14 2 false 0) (tileOf (Rows.printed d0) arg9 true false 0) (tileOf (Rows.printed d0) arg9 true false 0)
      await (semOf arg14 2 false 1) (tileOf (Rows.printed d0) arg9 true false 1) (tileOf (Rows.printed d0) arg9 true false 1)
      await (semOf arg14 2 false 2) (tileOf (Rows.printed d0) arg9 true false 2) (tileOf (Rows.printed d0) arg9 true false 2)
      await (semOf arg14 2 false 3) (tileOf (Rows.printed d0) arg9 true false 3) (tileOf (Rows.printed d0) arg9 true false 3)
      let v1605 ← loadHid arg9 ((Rows.printed d0).ho false false) ((Rows.printed d0).ho_in false false)
      let c0_1348 : Index := 0#32
      let c0_1349 : Index := 0#32
      K v1605) := rfl

/-- part54 and a continuation, as tile operations. -/
theorem part54_k {β : Type} (d0 : Dev nD) (v4 : BitVec 32) (v11 : BitVec 32) (v1605 : Vec F S128x512 .f32) (K : ((PUnit)) → Pr F β) :
    (k0_part54 arg0 harg0 arg1 harg1 arg2 harg2 arg3 harg3 arg4 harg4 arg5 harg5 arg6 harg6 arg7 harg7 arg8 harg8 arg9 harg9 arg10 harg10 arg11 harg11 arg12 harg12 arg13 arg14 d0 v4 v11 v1605 >>= K) = (do
      let v1606 ← loadOut arg4
      let v1610 ← loadRow arg10 ((Rows.printed d0).xo false false) ((Rows.printed d0).xo_in false false)
      putRow arg10 ((Rows.printed d0).xo false false) ((Rows.printed d0).xo_in false false) (k0_pay83 v1605 v1606)
      await (semOf arg14 2 true 0) (tileOf (Rows.printed d0) arg9 true true 0) (tileOf (Rows.printed d0) arg9 true true 0)
      await (semOf arg14 2 true 1) (tileOf (Rows.printed d0) arg9 true true 1) (tileOf (Rows.printed d0) arg9 true true 1)
      await (semOf arg14 2 true 2) (tileOf (Rows.printed d0) arg9 true true 2) (tileOf (Rows.printed d0) arg9 true true 2)
      K ⟨⟩) := rfl

/-- part55 and a continuation, as tile operations. -/
theorem part55_k {β : Type} (d0 : Dev nD) (v16 : BitVec 32) (K : ((PUnit)) → Pr F β) :
    (k0_part55 arg0 harg0 arg1 harg1 arg2 harg2 arg3 harg3 arg4 harg4 arg5 harg5 arg6 harg6 arg7 harg7 arg8 harg8 arg9 harg9 arg10 harg10 arg11 harg11 arg12 harg12 arg13 arg14 d0 v16 >>= K) = (do
      await (semOf arg14 2 true 3) (tileOf (Rows.printed d0) arg9 true true 3) (tileOf (Rows.printed d0) arg9 true true 3)
      let v1638 ← loadHid arg9 ((Rows.printed d0).ho false true) ((Rows.printed d0).ho_in false true)
      let v1639 ← loadOut arg4
      let v1643 ← loadRow arg10 ((Rows.printed d0).xo false true) ((Rows.printed d0).xo_in false true)
      putRow arg10 ((Rows.printed d0).xo false true) ((Rows.printed d0).xo_in false true) (k0_pay84 v1638 v1639)
      await (semOf arg13 0 false 0) (landTile arg11 false 0) (tileOf (Rows.printed d0) arg8 false false 0)
      await (semOf arg13 0 true 0) (landTile arg11 true 0) (tileOf (Rows.printed d0) arg8 false true 0)
      K ⟨⟩) := rfl

/-- part56 and a continuation, as tile operations. -/
theorem part56_k {β : Type} (d0 : Dev nD) (K : ((PUnit)) → Pr F β) :
    (k0_part56 arg0 harg0 arg1 harg1 arg2 harg2 arg3 harg3 arg4 harg4 arg5 harg5 arg6 harg6 arg7 harg7 arg8 harg8 arg9 harg9 arg10 harg10 arg11 harg11 arg12 harg12 arg13 arg14 d0 >>= K) = (do
      await (semOf arg13 0 false 1) (landTile arg11 false 1) (tileOf (Rows.printed d0) arg8 false false 1)
      await (semOf arg13 0 true 1) (landTile arg11 true 1) (tileOf (Rows.printed d0) arg8 false true 1)
      await (semOf arg13 0 false 2) (landTile arg11 false 2) (tileOf (Rows.printed d0) arg8 false false 2)
      await (semOf arg13 0 true 2) (landTile arg11 true 2) (tileOf (Rows.printed d0) arg8 false true 2)
      K ⟨⟩) := rfl

/-- part57 and a continuation, as tile operations. -/
theorem part57_k {β : Type} (d0 : Dev nD) (K : ((PUnit)) → Pr F β) :
    (k0_part57 arg0 harg0 arg1 harg1 arg2 harg2 arg3 harg3 arg4 harg4 arg5 harg5 arg6 harg6 arg7 harg7 arg8 harg8 arg9 harg9 arg10 harg10 arg11 harg11 arg12 harg12 arg13 arg14 d0 >>= K) = (do
      await (semOf arg13 0 false 3) (landTile arg11 false 3) (tileOf (Rows.printed d0) arg8 false false 3)
      await (semOf arg13 0 true 3) (landTile arg11 true 3) (tileOf (Rows.printed d0) arg8 false true 3)
      await (semOf arg13 1 false 0) (landTile arg12 false 0) (tileOf (Rows.printed d0) arg8 true false 0)
      await (semOf arg13 1 true 0) (landTile arg12 true 0) (tileOf (Rows.printed d0) arg8 true true 0)
      K ⟨⟩) := rfl

/-- part58 and a continuation, as tile operations. -/
theorem part58_k {β : Type} (d0 : Dev nD) (K : ((PUnit)) → Pr F β) :
    (k0_part58 arg0 harg0 arg1 harg1 arg2 harg2 arg3 harg3 arg4 harg4 arg5 harg5 arg6 harg6 arg7 harg7 arg8 harg8 arg9 harg9 arg10 harg10 arg11 harg11 arg12 harg12 arg13 arg14 d0 >>= K) = (do
      await (semOf arg13 1 false 1) (landTile arg12 false 1) (tileOf (Rows.printed d0) arg8 true false 1)
      await (semOf arg13 1 true 1) (landTile arg12 true 1) (tileOf (Rows.printed d0) arg8 true true 1)
      await (semOf arg13 1 false 2) (landTile arg12 false 2) (tileOf (Rows.printed d0) arg8 true false 2)
      K ⟨⟩) := rfl

/-- part59 and a continuation, as tile operations. -/
theorem part59_k {β : Type} (d0 : Dev nD) (K : ((PUnit)) → Pr F β) :
    (k0_part59 arg0 harg0 arg1 harg1 arg2 harg2 arg3 harg3 arg4 harg4 arg5 harg5 arg6 harg6 arg7 harg7 arg8 harg8 arg9 harg9 arg10 harg10 arg11 harg11 arg12 harg12 arg13 arg14 d0 >>= K) = (do
      await (semOf arg13 1 true 2) (landTile arg12 true 2) (tileOf (Rows.printed d0) arg8 true true 2)
      await (semOf arg13 1 false 3) (landTile arg12 false 3) (tileOf (Rows.printed d0) arg8 true false 3)
      await (semOf arg13 1 true 3) (landTile arg12 true 3) (tileOf (Rows.printed d0) arg8 true true 3)
      await (semOf arg13 2 false 0) (tileOf (Rows.printed d0) arg9 true false 0) (tileOf (Rows.printed d0) arg9 true false 0)
      await (semOf arg13 2 true 0) (tileOf (Rows.printed d0) arg9 true true 0) (tileOf (Rows.printed d0) arg9 true true 0)
      K ⟨⟩) := rfl

/-- part60 and a continuation, as tile operations. -/
theorem part60_k {β : Type} (d0 : Dev nD) (v11 : BitVec 32) (K : ((Σ' (v1775 : Vec F S128x256 .f32), FVec F S256x128 .f32)) → Pr F β) :
    (k0_part60 arg0 harg0 arg1 harg1 arg2 harg2 arg3 harg3 arg4 harg4 arg5 harg5 arg6 harg6 arg7 harg7 arg8 harg8 arg9 harg9 arg10 harg10 arg11 harg11 arg12 harg12 arg13 arg14 d0 v11 >>= K) = (do
      await (semOf arg13 2 false 1) (tileOf (Rows.printed d0) arg9 true false 1) (tileOf (Rows.printed d0) arg9 true false 1)
      await (semOf arg13 2 true 1) (tileOf (Rows.printed d0) arg9 true true 1) (tileOf (Rows.printed d0) arg9 true true 1)
      await (semOf arg13 2 false 2) (tileOf (Rows.printed d0) arg9 true false 2) (tileOf (Rows.printed d0) arg9 true false 2)
      await (semOf arg13 2 true 2) (tileOf (Rows.printed d0) arg9 true true 2) (tileOf (Rows.printed d0) arg9 true true 2)
      await (semOf arg13 2 false 3) (tileOf (Rows.printed d0) arg9 true false 3) (tileOf (Rows.printed d0) arg9 true false 3)
      await (semOf arg13 2 true 3) (tileOf (Rows.printed d0) arg9 true true 3) (tileOf (Rows.printed d0) arg9 true true 3)
      let v1775 ← loadRow arg10 ((Rows.printed d0).xo false false) ((Rows.printed d0).xo_in false false)
      let v1776 ← loadCol arg5 0
      K ⟨v1775, k0_pay85 v1776⟩) := rfl

/-- part61 and a continuation, as tile operations. -/
theorem part61_k {β : Type} (d0 : Dev nD) (v3 : BitVec 32) (v4 : BitVec 32) (v11 : BitVec 32) (v16 : BitVec 32) (v1775 : Vec F S128x256 .f32) (v1777 : FVec F S256x128 .f32) (K : ((PUnit)) → Pr F β) :
    (k0_part61 arg0 harg0 arg1 harg1 arg2 harg2 arg3 harg3 arg4 harg4 arg5 harg5 arg6 harg6 arg7 harg7 arg8 harg8 arg9 harg9 arg10 harg10 arg11 harg11 arg12 harg12 arg13 arg14 d0 v3 v4 v11 v16 v1775 v1777 >>= K) = (do
      let v1780 ← loadSq arg8 ((Rows.printed d0).ta false false 0) ((Rows.printed d0).ta_in false false 0)
      putSq arg8 ((Rows.printed d0).ta false false 0) ((Rows.printed d0).ta_in false false 0) (k0_pay86 v1775 v1777)
      send (tileOf (Rows.printed d0) arg8 false false 0) (landTile arg11 false 0) (semOf arg13 0 false 0) (semOf arg14 0 false 0) ((Rows.printed d0).dv 2 0 false 0)
      let v1794 ← loadRow arg10 ((Rows.printed d0).xo false true) ((Rows.printed d0).xo_in false true)
      let v1795 ← loadCol arg5 0
      let v1799 ← loadSq arg8 ((Rows.printed d0).ta false true 0) ((Rows.printed d0).ta_in false true 0)
      putSq arg8 ((Rows.printed d0).ta false true 0) ((Rows.printed d0).ta_in false true 0) (k0_pay87 v1794 v1795)
      K ⟨⟩) := rfl

/-- part62 and a continuation, as tile operations. -/
theorem part62_k {β : Type} (d0 : Dev nD) (v3 : BitVec 32) (v11 : BitVec 32) (v16 : BitVec 32) (K : ((BitVec 32)) → Pr F β) :
    (k0_part62 arg0 harg0 arg1 harg1 arg2 harg2 arg3 harg3 arg4 harg4 arg5 harg5 arg6 harg6 arg7 harg7 arg8 harg8 arg9 harg9 arg10 harg10 arg11 harg11 arg12 harg12 arg13 arg14 d0 v3 v11 v16 >>= K) = (do
      send (tileOf (Rows.printed d0) arg8 false true 0) (landTile arg11 true 0) (semOf arg13 0 true 0) (semOf arg14 0 true 0) ((Rows.printed d0).dv 2 0 true 0)
      let v1813 ← loadRow arg10 ((Rows.printed d0).xo false false) ((Rows.printed d0).xo_in false false)
      let v1814 ← loadCol arg5 1
      let v1818 ← loadSq arg8 ((Rows.printed d0).ta false false 1) ((Rows.printed d0).ta_in false false 1)
      putSq arg8 ((Rows.printed d0).ta false false 1) ((Rows.printed d0).ta_in false false 1) (k0_pay88 v1813 v1814)
      send (tileOf (Rows.printed d0) arg8 false false 1) (landTile arg11 false 1) (semOf arg13 0 false 1) (semOf arg14 0 false 1) ((Rows.printed d0).dv 2 0 false 1)
      let v1832 ← loadRow arg10 ((Rows.printed d0).xo false true) ((Rows.printed d0).xo_in false true)
      let v1833 ← loadCol arg5 1
      let v1837 ← loadSq arg8 ((Rows.printed d0).ta false true 1) ((Rows.printed d0).ta_in false true 1)
      putSq arg8 ((Rows.printed d0).ta false true 1) ((Rows.printed d0).ta_in false true 1) (k0_pay89 v1832 v1833)
      K (1#32)) := rfl

/-- part63 and a continuation, as tile operations. -/
theorem part63_k {β : Type} (d0 : Dev nD) (v3 : BitVec 32) (v4 : BitVec 32) (v11 : BitVec 32) (v16 : BitVec 32) (c1_i32_1618 : BitVec 32) (K : ((Σ' (v1870 : Vec F S128x256 .f32), FVec F S256x128 .f32)) → Pr F β) :
    (k0_part63 arg0 harg0 arg1 harg1 arg2 harg2 arg3 harg3 arg4 harg4 arg5 harg5 arg6 harg6 arg7 harg7 arg8 harg8 arg9 harg9 arg10 harg10 arg11 harg11 arg12 harg12 arg13 arg14 d0 v3 v4 v11 v16 c1_i32_1618 >>= K) = (do
      send (tileOf (Rows.printed d0) arg8 false true 1) (landTile arg11 true 1) (semOf arg13 0 true 1) (semOf arg14 0 true 1) ((Rows.printed d0).dv 2 0 true 1)
      let v1851 ← loadRow arg10 ((Rows.printed d0).xo false false) ((Rows.printed d0).xo_in false false)
      let v1852 ← loadCol arg5 2
      let v1856 ← loadSq arg8 ((Rows.printed d0).ta false false 2) ((Rows.printed d0).ta_in false false 2)
      putSq arg8 ((Rows.printed d0).ta false false 2) ((Rows.printed d0).ta_in false false 2) (k0_pay90 v1851 v1852)
      send (tileOf (Rows.printed d0) arg8 false false 2) (landTile arg11 false 2) (semOf arg13 0 false 2) (semOf arg14 0 false 2) ((Rows.printed d0).dv 2 0 false 2)
      let v1870 ← loadRow arg10 ((Rows.printed d0).xo false true) ((Rows.printed d0).xo_in false true)
      let v1871 ← loadCol arg5 2
      K ⟨v1870, k0_pay91 v1871⟩) := rfl

/-- part64 and a continuation, as tile operations. -/
theorem part64_k {β : Type} (d0 : Dev nD) (v3 : BitVec 32) (v4 : BitVec 32) (v11 : BitVec 32) (v16 : BitVec 32) (v1870 : Vec F S128x256 .f32) (v1872 : FVec F S256x128 .f32) (K : ((PUnit)) → Pr F β) :
    (k0_part64 arg0 harg0 arg1 harg1 arg2 harg2 arg3 harg3 arg4 harg4 arg5 harg5 arg6 harg6 arg7 harg7 arg8 harg8 arg9 harg9 arg10 harg10 arg11 harg11 arg12 harg12 arg13 arg14 d0 v3 v4 v11 v16 v1870 v1872 >>= K) = (do
      let v1875 ← loadSq arg8 ((Rows.printed d0).ta false true 2) ((Rows.printed d0).ta_in false true 2)
      putSq arg8 ((Rows.printed d0).ta false true 2) ((Rows.printed d0).ta_in false true 2) (k0_pay92 v1870 v1872)
      send (tileOf (Rows.printed d0) arg8 false true 2) (landTile arg11 true 2) (semOf arg13 0 true 2) (semOf arg14 0 true 2) ((Rows.printed d0).dv 2 0 true 2)
      let v1889 ← loadRow arg10 ((Rows.printed d0).xo false false) ((Rows.printed d0).xo_in false false)
      let v1890 ← loadCol arg5 3
      let v1894 ← loadSq arg8 ((Rows.printed d0).ta false false 3) ((Rows.printed d0).ta_in false false 3)
      putSq arg8 ((Rows.printed d0).ta false false 3) ((Rows.printed d0).ta_in false false 3) (k0_pay93 v1889 v1890)
      K ⟨⟩) := rfl

/-- part65 and a continuation, as tile operations. -/
theorem part65_k {β : Type} (d0 : Dev nD) (v4 : BitVec 32) (v9 : BitVec 32) (v13 : BitVec 32) (v16 : BitVec 32) (K : ((Vec F S128x256 .f32)) → Pr F β) :
    (k0_part65 arg0 harg0 arg1 harg1 arg2 harg2 arg3 harg3 arg4 harg4 arg5 harg5 arg6 harg6 arg7 harg7 arg8 harg8 arg9 harg9 arg10 harg10 arg11 harg11 arg12 harg12 arg13 arg14 d0 v4 v9 v13 v16 >>= K) = (do
      send (tileOf (Rows.printed d0) arg8 false false 3) (landTile arg11 false 3) (semOf arg13 0 false 3) (semOf arg14 0 false 3) ((Rows.printed d0).dv 2 0 false 3)
      let v1908 ← loadRow arg10 ((Rows.printed d0).xo false true) ((Rows.printed d0).xo_in false true)
      let v1909 ← loadCol arg5 3
      let v1913 ← loadSq arg8 ((Rows.printed d0).ta false true 3) ((Rows.printed d0).ta_in false true 3)
      putSq arg8 ((Rows.printed d0).ta false true 3) ((Rows.printed d0).ta_in false true 3) (k0_pay94 v1908 v1909)
      send (tileOf (Rows.printed d0) arg8 false true 3) (landTile arg11 true 3) (semOf arg13 0 true 3) (semOf arg14 0 true 3) ((Rows.printed d0).dv 2 0 true 3)
      let v1927 ← loadRow arg10 ((Rows.printed d0).xo true false) ((Rows.printed d0).xo_in true false)
      let v1928 ← loadCol arg5 0
      let v1932 ← loadSq arg8 ((Rows.printed d0).ta true false 0) ((Rows.printed d0).ta_in true false 0)
      putSq arg8 ((Rows.printed d0).ta true false 0) ((Rows.printed d0).ta_in true false 0) (k0_pay95 v1927 v1928)
      let v1936 ← loadRow arg10 ((Rows.printed d0).xo true true) ((Rows.printed d0).xo_in true true)
      let c0_1691 : Index := 0#32
      K v1936) := rfl

/-- part66 and a continuation, as tile operations. -/
theorem part66_k {β : Type} (d0 : Dev nD) (v9 : BitVec 32) (v13 : BitVec 32) (v1936 : Vec F S128x256 .f32) (K : ((Vec F S128x256 .f32)) → Pr F β) :
    (k0_part66 arg0 harg0 arg1 harg1 arg2 harg2 arg3 harg3 arg4 harg4 arg5 harg5 arg6 harg6 arg7 harg7 arg8 harg8 arg9 harg9 arg10 harg10 arg11 harg11 arg12 harg12 arg13 arg14 d0 v9 v13 v1936 >>= K) = (do
      let v1937 ← loadCol arg5 0
      let v1941 ← loadSq arg8 ((Rows.printed d0).ta true true 0) ((Rows.printed d0).ta_in true true 0)
      putSq arg8 ((Rows.printed d0).ta true true 0) ((Rows.printed d0).ta_in true true 0) (k0_pay96 v1936 v1937)
      let v1945 ← loadRow arg10 ((Rows.printed d0).xo true false) ((Rows.printed d0).xo_in true false)
      let v1946 ← loadCol arg5 1
      let v1950 ← loadSq arg8 ((Rows.printed d0).ta true false 1) ((Rows.printed d0).ta_in true false 1)
      putSq arg8 ((Rows.printed d0).ta true false 1) ((Rows.printed d0).ta_in true false 1) (k0_pay97 v1945 v1946)
      let v1954 ← loadRow arg10 ((Rows.printed d0).xo true true) ((Rows.printed d0).xo_in true true)
      let v1955 ← loadCol arg5 1
      let v1959 ← loadSq arg8 ((Rows.printed d0).ta true true 1) ((Rows.printed d0).ta_in true true 1)
      putSq arg8 ((Rows.printed d0).ta true true 1) ((Rows.printed d0).ta_in true true 1) (k0_pay98 v1954 v1955)
      let v1963 ← loadRow arg10 ((Rows.printed d0).xo true false) ((Rows.printed d0).xo_in true false)
      let v1964 ← loadCol arg5 2
      let v1968 ← loadSq arg8 ((Rows.printed d0).ta true false 2) ((Rows.printed d0).ta_in true false 2)
      putSq arg8 ((Rows.printed d0).ta true false 2) ((Rows.printed d0).ta_in true false 2) (k0_pay99 v1963 v1964)
      let v1972 ← loadRow arg10 ((Rows.printed d0).xo true true) ((Rows.printed d0).xo_in true true)
      let c0_1711 : Index := 0#32
      K v1972) := rfl

/-- part67 and a continuation, as tile operations. -/
theorem part67_k {β : Type} (d0 : Dev nD) (v3 : BitVec 32) (v9 : BitVec 32) (v13 : BitVec 32) (v1972 : Vec F S128x256 .f32) (K : ((PUnit)) → Pr F β) :
    (k0_part67 arg0 harg0 arg1 harg1 arg2 harg2 arg3 harg3 arg4 harg4 arg5 harg5 arg6 harg6 arg7 harg7 arg8 harg8 arg9 harg9 arg10 harg10 arg11 harg11 arg12 harg12 arg13 arg14 d0 v3 v9 v13 v1972 >>= K) = (do
      let v1973 ← loadCol arg5 2
      let v1977 ← loadSq arg8 ((Rows.printed d0).ta true true 2) ((Rows.printed d0).ta_in true true 2)
      putSq arg8 ((Rows.printed d0).ta true true 2) ((Rows.printed d0).ta_in true true 2) (k0_pay100 v1972 v1973)
      let v1981 ← loadRow arg10 ((Rows.printed d0).xo true false) ((Rows.printed d0).xo_in true false)
      let v1982 ← loadCol arg5 3
      let v1986 ← loadSq arg8 ((Rows.printed d0).ta true false 3) ((Rows.printed d0).ta_in true false 3)
      putSq arg8 ((Rows.printed d0).ta true false 3) ((Rows.printed d0).ta_in true false 3) (k0_pay101 v1981 v1982)
      let v1990 ← loadRow arg10 ((Rows.printed d0).xo true true) ((Rows.printed d0).xo_in true true)
      let v1991 ← loadCol arg5 3
      let v1995 ← loadSq arg8 ((Rows.printed d0).ta true true 3) ((Rows.printed d0).ta_in true true 3)
      putSq arg8 ((Rows.printed d0).ta true true 3) ((Rows.printed d0).ta_in true true 3) (k0_pay102 v1990 v1991)
      await (semOf arg14 0 false 0) (tileOf (Rows.printed d0) arg8 false false 0) (landTile arg11 false 0)
      K ⟨⟩) := rfl

/-- part68 and a continuation, as tile operations. -/
theorem part68_k {β : Type} (d0 : Dev nD) (v4 : BitVec 32) (v9 : BitVec 32) (v13 : BitVec 32) (K : ((Vec F S128x128 .f32)) → Pr F β) :
    (k0_part68 arg0 harg0 arg1 harg1 arg2 harg2 arg3 harg3 arg4 harg4 arg5 harg5 arg6 harg6 arg7 harg7 arg8 harg8 arg9 harg9 arg10 harg10 arg11 harg11 arg12 harg12 arg13 arg14 d0 v4 v9 v13 >>= K) = (do
      let v2007 ← loadSq arg8 ((Rows.printed d0).ta true false 0) ((Rows.printed d0).ta_in true false 0)
      let v2008 ← loadLand arg11 false 0
      let v2012 ← loadSq arg8 ((Rows.printed d0).ta true false 0) ((Rows.printed d0).ta_in true false 0)
      putSq arg8 ((Rows.printed d0).ta true false 0) ((Rows.printed d0).ta_in true false 0) (k0_pay103 v2007 v2008)
      send (tileOf (Rows.printed d0) arg8 true false 0) (landTile arg12 false 0) (semOf arg13 1 false 0) (semOf arg14 1 false 0) ((Rows.printed d0).dv 2 1 false 0)
      await (semOf arg14 0 true 0) (tileOf (Rows.printed d0) arg8 false true 0) (landTile arg11 true 0)
      let v2034 ← loadSq arg8 ((Rows.printed d0).ta true true 0) ((Rows.printed d0).ta_in true true 0)
      let c1_1761 : Index := 1#32
      let c0_1762 : Index := 0#32
      K v2034) := rfl

/-- part69 and a continuation, as tile operations. -/
theorem part69_k {β : Type} (d0 : Dev nD) (v3 : BitVec 32) (v9 : BitVec 32) (v13 : BitVec 32) (v2034 : Vec F S128x128 .f32) (K : ((FVec F S128x128 .f32)) → Pr F β) :
    (k0_part69 arg0 harg0 arg1 harg1 arg2 harg2 arg3 harg3 arg4 harg4 arg5 harg5 arg6 harg6 arg7 harg7 arg8 harg8 arg9 harg9 arg10 harg10 arg11 harg11 arg12 harg12 arg13 arg14 d0 v3 v9 v13 v2034 >>= K) = (do
      let v2035 ← loadLand arg11 true 0
      let v2039 ← loadSq arg8 ((Rows.printed d0).ta true true 0) ((Rows.printed d0).ta_in true true 0)
      putSq arg8 ((Rows.printed d0).ta true true 0) ((Rows.printed d0).ta_in true true 0) (k0_pay104 v2034 v2035)
      send (tileOf (Rows.printed d0) arg8 true true 0) (landTile arg12 true 0) (semOf arg13 1 true 0) (semOf arg14 1 true 0) ((Rows.printed d0).dv 2 1 true 0)
      await (semOf arg14 0 false 1) (tileOf (Rows.printed d0) arg8 false false 1) (landTile arg11 false 1)
      let v2061 ← loadSq arg8 ((Rows.printed d0).ta true false 1) ((Rows.printed d0).ta_in true false 1)
      let v2062 ← loadLand arg11 false 1
      K ((k0_pay105 v2061 v2062))) := rfl

/-- part70 and a continuation, as tile operations. -/
theorem part70_k {β : Type} (d0 : Dev nD) (v4 : BitVec 32) (v13 : BitVec 32) (v2064 : FVec F S128x128 .f32) (K : ((PUnit)) → Pr F β) :
    (k0_part70 arg0 harg0 arg1 harg1 arg2 harg2 arg3 harg3 arg4 harg4 arg5 harg5 arg6 harg6 arg7 harg7 arg8 harg8 arg9 harg9 arg10 harg10 arg11 harg11 arg12 harg12 arg13 arg14 d0 v4 v13 v2064 >>= K) = (do
      let v2066 ← loadSq arg8 ((Rows.printed d0).ta true false 1) ((Rows.printed d0).ta_in true false 1)
      putSq arg8 ((Rows.printed d0).ta true false 1) ((Rows.printed d0).ta_in true false 1) (k0_pay106 v2064)
      send (tileOf (Rows.printed d0) arg8 true false 1) (landTile arg12 false 1) (semOf arg13 1 false 1) (semOf arg14 1 false 1) ((Rows.printed d0).dv 2 1 false 1)
      await (semOf arg14 0 true 1) (tileOf (Rows.printed d0) arg8 false true 1) (landTile arg11 true 1)
      let v2088 ← loadSq arg8 ((Rows.printed d0).ta true true 1) ((Rows.printed d0).ta_in true true 1)
      let v2089 ← loadLand arg11 true 1
      let v2093 ← loadSq arg8 ((Rows.printed d0).ta true true 1) ((Rows.printed d0).ta_in true true 1)
      putSq arg8 ((Rows.printed d0).ta true true 1) ((Rows.printed d0).ta_in true true 1) (k0_pay107 v2088 v2089)
      K ⟨⟩) := rfl

/-- part71 and a continuation, as tile operations. -/
theorem part71_k {β : Type} (d0 : Dev nD) (v3 : BitVec 32) (v4 : BitVec 32) (v9 : BitVec 32) (K : ((BitVec 32)) → Pr F β) :
    (k0_part71 arg0 harg0 arg1 harg1 arg2 harg2 arg3 harg3 arg4 harg4 arg5 harg5 arg6 harg6 arg7 harg7 arg8 harg8 arg9 harg9 arg10 harg10 arg11 harg11 arg12 harg12 arg13 arg14 d0 v3 v4 v9 >>= K) = (do
      send (tileOf (Rows.printed d0) arg8 true true 1) (landTile arg12 true 1) (semOf arg13 1 true 1) (semOf arg14 1 true 1) ((Rows.printed d0).dv 2 1 true 1)
      await (semOf arg14 0 false 2) (tileOf (Rows.printed d0) arg8 false false 2) (landTile arg11 false 2)
      let v2115 ← loadSq arg8 ((Rows.printed d0).ta true false 2) ((Rows.printed d0).ta_in true false 2)
      let v2116 ← loadLand arg11 false 2
      let v2120 ← loadSq arg8 ((Rows.printed d0).ta true false 2) ((Rows.printed d0).ta_in true false 2)
      putSq arg8 ((Rows.printed d0).ta true false 2) ((Rows.printed d0).ta_in true false 2) (k0_pay108 v2115 v2116)
      let v2123 : BitVec 32 := Scalar.muli v4 1#32
      K v2123) := rfl

/-- part72 and a continuation, as tile operations. -/
theorem part72_k {β : Type} (d0 : Dev nD) (v3 : BitVec 32) (v4 : BitVec 32) (v13 : BitVec 32) (v2123 : BitVec 32) (K : ((PUnit)) → Pr F β) :
    (k0_part72 arg0 harg0 arg1 harg1 arg2 harg2 arg3 harg3 arg4 harg4 arg5 harg5 arg6 harg6 arg7 harg7 arg8 harg8 arg9 harg9 arg10 harg10 arg11 harg11 arg12 harg12 arg13 arg14 d0 v3 v4 v13 v2123 >>= K) = (do
      send (tileOf (Rows.printed d0) arg8 true false 2) (landTile arg12 false 2) (semOf arg13 1 false 2) (semOf arg14 1 false 2) ((Rows.printed d0).dv 2 1 false 2)
      await (semOf arg14 0 true 2) (tileOf (Rows.printed d0) arg8 false true 2) (landTile arg11 true 2)
      let v2142 ← loadSq arg8 ((Rows.printed d0).ta true true 2) ((Rows.printed d0).ta_in true true 2)
      let v2143 ← loadLand arg11 true 2
      let v2147 ← loadSq arg8 ((Rows.printed d0).ta true true 2) ((Rows.printed d0).ta_in true true 2)
      putSq arg8 ((Rows.printed d0).ta true true 2) ((Rows.printed d0).ta_in true true 2) (k0_pay109 v2142 v2143)
      K ⟨⟩) := rfl

/-- part73 and a continuation, as tile operations. -/
theorem part73_k {β : Type} (d0 : Dev nD) (v3 : BitVec 32) (v4 : BitVec 32) (v9 : BitVec 32) (K : ((PUnit)) → Pr F β) :
    (k0_part73 arg0 harg0 arg1 harg1 arg2 harg2 arg3 harg3 arg4 harg4 arg5 harg5 arg6 harg6 arg7 harg7 arg8 harg8 arg9 harg9 arg10 harg10 arg11 harg11 arg12 harg12 arg13 arg14 d0 v3 v4 v9 >>= K) = (do
      send (tileOf (Rows.printed d0) arg8 true true 2) (landTile arg12 true 2) (semOf arg13 1 true 2) (semOf arg14 1 true 2) ((Rows.printed d0).dv 2 1 true 2)
      await (semOf arg14 0 false 3) (tileOf (Rows.printed d0) arg8 false false 3) (landTile arg11 false 3)
      let v2169 ← loadSq arg8 ((Rows.printed d0).ta true false 3) ((Rows.printed d0).ta_in true false 3)
      let v2170 ← loadLand arg11 false 3
      let v2174 ← loadSq arg8 ((Rows.printed d0).ta true false 3) ((Rows.printed d0).ta_in true false 3)
      putSq arg8 ((Rows.printed d0).ta true false 3) ((Rows.printed d0).ta_in true false 3) (k0_pay110 v2169 v2170)
      K ⟨⟩) := rfl

/-- part74 and a continuation, as tile operations. -/
theorem part74_k {β : Type} (d0 : Dev nD) (v3 : BitVec 32) (v4 : BitVec 32) (v13 : BitVec 32) (K : ((PUnit)) → Pr F β) :
    (k0_part74 arg0 harg0 arg1 harg1 arg2 harg2 arg3 harg3 arg4 harg4 arg5 harg5 arg6 harg6 arg7 harg7 arg8 harg8 arg9 harg9 arg10 harg10 arg11 harg11 arg12 harg12 arg13 arg14 d0 v3 v4 v13 >>= K) = (do
      send (tileOf (Rows.printed d0) arg8 true false 3) (landTile arg12 false 3) (semOf arg13 1 false 3) (semOf arg14 1 false 3) ((Rows.printed d0).dv 2 1 false 3)
      await (semOf arg14 0 true 3) (tileOf (Rows.printed d0) arg8 false true 3) (landTile arg11 true 3)
      let v2196 ← loadSq arg8 ((Rows.printed d0).ta true true 3) ((Rows.printed d0).ta_in true true 3)
      let v2197 ← loadLand arg11 true 3
      let v2201 ← loadSq arg8 ((Rows.printed d0).ta true true 3) ((Rows.printed d0).ta_in true true 3)
      putSq arg8 ((Rows.printed d0).ta true true 3) ((Rows.printed d0).ta_in true true 3) (k0_pay111 v2196 v2197)
      K ⟨⟩) := rfl

/-- part75 and a continuation, as tile operations. -/
theorem part75_k {β : Type} (d0 : Dev nD) (v3 : BitVec 32) (v4 : BitVec 32) (v9 : BitVec 32) (K : ((PUnit)) → Pr F β) :
    (k0_part75 arg0 harg0 arg1 harg1 arg2 harg2 arg3 harg3 arg4 harg4 arg5 harg5 arg6 harg6 arg7 harg7 arg8 harg8 arg9 harg9 arg10 harg10 arg11 harg11 arg12 harg12 arg13 arg14 d0 v3 v4 v9 >>= K) = (do
      send (tileOf (Rows.printed d0) arg8 true true 3) (landTile arg12 true 3) (semOf arg13 1 true 3) (semOf arg14 1 true 3) ((Rows.printed d0).dv 2 1 true 3)
      await (semOf arg14 1 false 0) (tileOf (Rows.printed d0) arg8 true false 0) (landTile arg12 false 0)
      let v2223 ← loadSq arg8 ((Rows.printed d0).ta true false 0) ((Rows.printed d0).ta_in true false 0)
      let v2224 ← loadLand arg12 false 0
      let v2230 ← loadSq arg9 ((Rows.printed d0).ta true false 0) ((Rows.printed d0).ta_in true false 0)
      putSq arg9 ((Rows.printed d0).ta true false 0) ((Rows.printed d0).ta_in true false 0) (k0_pay112 v2223 v2224)
      send (tileOf (Rows.printed d0) arg9 true false 0) (tileOf (Rows.printed d0) arg9 true false 0) (semOf arg13 2 false 0) (semOf arg14 2 false 0) ((Rows.printed d0).dv 2 2 false 0)
      K ⟨⟩) := rfl

/-- part76 and a continuation, as tile operations. -/
theorem part76_k {β : Type} (d0 : Dev nD) (v4 : BitVec 32) (v13 : BitVec 32) (K : ((PUnit)) → Pr F β) :
    (k0_part76 arg0 harg0 arg1 harg1 arg2 harg2 arg3 harg3 arg4 harg4 arg5 harg5 arg6 harg6 arg7 harg7 arg8 harg8 arg9 harg9 arg10 harg10 arg11 harg11 arg12 harg12 arg13 arg14 d0 v4 v13 >>= K) = (do
      await (semOf arg14 1 true 0) (tileOf (Rows.printed d0) arg8 true true 0) (landTile arg12 true 0)
      let v2250 ← loadSq arg8 ((Rows.printed d0).ta true true 0) ((Rows.printed d0).ta_in true true 0)
      let v2251 ← loadLand arg12 true 0
      let v2257 ← loadSq arg9 ((Rows.printed d0).ta true true 0) ((Rows.printed d0).ta_in true true 0)
      putSq arg9 ((Rows.printed d0).ta true true 0) ((Rows.printed d0).ta_in true true 0) (k0_pay113 v2250 v2251)
      send (tileOf (Rows.printed d0) arg9 true true 0) (tileOf (Rows.printed d0) arg9 true true 0) (semOf arg13 2 true 0) (semOf arg14 2 true 0) ((Rows.printed d0).dv 2 2 true 0)
      K ⟨⟩) := rfl

/-- part77 and a continuation, as tile operations. -/
theorem part77_k {β : Type} (d0 : Dev nD) (v3 : BitVec 32) (v9 : BitVec 32) (v13 : BitVec 32) (K : ((Vec F S128x128 .f32)) → Pr F β) :
    (k0_part77 arg0 harg0 arg1 harg1 arg2 harg2 arg3 harg3 arg4 harg4 arg5 harg5 arg6 harg6 arg7 harg7 arg8 harg8 arg9 harg9 arg10 harg10 arg11 harg11 arg12 harg12 arg13 arg14 d0 v3 v9 v13 >>= K) = (do
      await (semOf arg14 1 false 1) (tileOf (Rows.printed d0) arg8 true false 1) (landTile arg12 false 1)
      let v2277 ← loadSq arg8 ((Rows.printed d0).ta true false 1) ((Rows.printed d0).ta_in true false 1)
      let v2278 ← loadLand arg12 false 1
      let v2284 ← loadSq arg9 ((Rows.printed d0).ta true false 1) ((Rows.printed d0).ta_in true false 1)
      putSq arg9 ((Rows.printed d0).ta true false 1) ((Rows.printed d0).ta_in true false 1) (k0_pay114 v2277 v2278)
      send (tileOf (Rows.printed d0) arg9 true false 1) (tileOf (Rows.printed d0) arg9 true false 1) (semOf arg13 2 false 1) (semOf arg14 2 false 1) ((Rows.printed d0).dv 2 2 false 1)
      await (semOf arg14 1 true 1) (tileOf (Rows.printed d0) arg8 true true 1) (landTile arg12 true 1)
      let v2304 ← loadSq arg8 ((Rows.printed d0).ta true true 1) ((Rows.printed d0).ta_in true true 1)
      let c1_2002 : Index := 1#32
      K v2304) := rfl

/-- part78 and a continuation, as tile operations. -/
theorem part78_k {β : Type} (d0 : Dev nD) (v4 : BitVec 32) (v9 : BitVec 32) (v13 : BitVec 32) (v2304 : Vec F S128x128 .f32) (K : ((FVec F S128x128 .f32)) → Pr F β) :
    (k0_part78 arg0 harg0 arg1 harg1 arg2 harg2 arg3 harg3 arg4 harg4 arg5 harg5 arg6 harg6 arg7 harg7 arg8 harg8 arg9 harg9 arg10 harg10 arg11 harg11 arg12 harg12 arg13 arg14 d0 v4 v9 v13 v2304 >>= K) = (do
      let v2305 ← loadLand arg12 true 1
      let v2311 ← loadSq arg9 ((Rows.printed d0).ta true true 1) ((Rows.printed d0).ta_in true true 1)
      putSq arg9 ((Rows.printed d0).ta true true 1) ((Rows.printed d0).ta_in true true 1) (k0_pay115 v2304 v2305)
      send (tileOf (Rows.printed d0) arg9 true true 1) (tileOf (Rows.printed d0) arg9 true true 1) (semOf arg13 2 true 1) (semOf arg14 2 true 1) ((Rows.printed d0).dv 2 2 true 1)
      await (semOf arg14 1 false 2) (tileOf (Rows.printed d0) arg8 true false 2) (landTile arg12 false 2)
      let v2331 ← loadSq arg8 ((Rows.printed d0).ta true false 2) ((Rows.printed d0).ta_in true false 2)
      let v2332 ← loadLand arg12 false 2
      K ((k0_pay116 v2331 v2332))) := rfl

/-- part79 and a continuation, as tile operations. -/
theorem part79_k {β : Type} (d0 : Dev nD) (v3 : BitVec 32) (v9 : BitVec 32) (v13 : BitVec 32) (v2336 : FVec F S128x128 .f32) (K : ((PUnit)) → Pr F β) :
    (k0_part79 arg0 harg0 arg1 harg1 arg2 harg2 arg3 harg3 arg4 harg4 arg5 harg5 arg6 harg6 arg7 harg7 arg8 harg8 arg9 harg9 arg10 harg10 arg11 harg11 arg12 harg12 arg13 arg14 d0 v3 v9 v13 v2336 >>= K) = (do
      let v2338 ← loadSq arg9 ((Rows.printed d0).ta true false 2) ((Rows.printed d0).ta_in true false 2)
      putSq arg9 ((Rows.printed d0).ta true false 2) ((Rows.printed d0).ta_in true false 2) (k0_pay117 v2336)
      send (tileOf (Rows.printed d0) arg9 true false 2) (tileOf (Rows.printed d0) arg9 true false 2) (semOf arg13 2 false 2) (semOf arg14 2 false 2) ((Rows.printed d0).dv 2 2 false 2)
      await (semOf arg14 1 true 2) (tileOf (Rows.printed d0) arg8 true true 2) (landTile arg12 true 2)
      let v2358 ← loadSq arg8 ((Rows.printed d0).ta true true 2) ((Rows.printed d0).ta_in true true 2)
      let v2359 ← loadLand arg12 true 2
      let v2365 ← loadSq arg9 ((Rows.printed d0).ta true true 2) ((Rows.printed d0).ta_in true true 2)
      putSq arg9 ((Rows.printed d0).ta true true 2) ((Rows.printed d0).ta_in true true 2) (k0_pay118 v2358 v2359)
      K ⟨⟩) := rfl

/-- part80 and a continuation, as tile operations. -/
theorem part80_k {β : Type} (d0 : Dev nD) (v3 : BitVec 32) (v4 : BitVec 32) (v9 : BitVec 32) (K : ((PUnit)) → Pr F β) :
    (k0_part80 arg0 harg0 arg1 harg1 arg2 harg2 arg3 harg3 arg4 harg4 arg5 harg5 arg6 harg6 arg7 harg7 arg8 harg8 arg9 harg9 arg10 harg10 arg11 harg11 arg12 harg12 arg13 arg14 d0 v3 v4 v9 >>= K) = (do
      send (tileOf (Rows.printed d0) arg9 true true 2) (tileOf (Rows.printed d0) arg9 true true 2) (semOf arg13 2 true 2) (semOf arg14 2 true 2) ((Rows.printed d0).dv 2 2 true 2)
      await (semOf arg14 1 false 3) (tileOf (Rows.printed d0) arg8 true false 3) (landTile arg12 false 3)
      let v2385 ← loadSq arg8 ((Rows.printed d0).ta true false 3) ((Rows.printed d0).ta_in true false 3)
      let v2386 ← loadLand arg12 false 3
      let v2392 ← loadSq arg9 ((Rows.printed d0).ta true false 3) ((Rows.printed d0).ta_in true false 3)
      putSq arg9 ((Rows.printed d0).ta true false 3) ((Rows.printed d0).ta_in true false 3) (k0_pay119 v2385 v2386)
      K ⟨⟩) := rfl

/-- part81 and a continuation, as tile operations. -/
theorem part81_k {β : Type} (d0 : Dev nD) (v3 : BitVec 32) (v4 : BitVec 32) (v9 : BitVec 32) (v13 : BitVec 32) (K : ((Vec F S128x512 .f32)) → Pr F β) :
    (k0_part81 arg0 harg0 arg1 harg1 arg2 harg2 arg3 harg3 arg4 harg4 arg5 harg5 arg6 harg6 arg7 harg7 arg8 harg8 arg9 harg9 arg10 harg10 arg11 harg11 arg12 harg12 arg13 arg14 d0 v3 v4 v9 v13 >>= K) = (do
      send (tileOf (Rows.printed d0) arg9 true false 3) (tileOf (Rows.printed d0) arg9 true false 3) (semOf arg13 2 false 3) (semOf arg14 2 false 3) ((Rows.printed d0).dv 2 2 false 3)
      await (semOf arg14 1 true 3) (tileOf (Rows.printed d0) arg8 true true 3) (landTile arg12 true 3)
      let v2412 ← loadSq arg8 ((Rows.printed d0).ta true true 3) ((Rows.printed d0).ta_in true true 3)
      let v2413 ← loadLand arg12 true 3
      let v2419 ← loadSq arg9 ((Rows.printed d0).ta true true 3) ((Rows.printed d0).ta_in true true 3)
      putSq arg9 ((Rows.printed d0).ta true true 3) ((Rows.printed d0).ta_in true true 3) (k0_pay120 v2412 v2413)
      send (tileOf (Rows.printed d0) arg9 true true 3) (tileOf (Rows.printed d0) arg9 true true 3) (semOf arg13 2 true 3) (semOf arg14 2 true 3) ((Rows.printed d0).dv 2 2 true 3)
      let v2431 ← loadHid arg9 ((Rows.printed d0).ho true false) ((Rows.printed d0).ho_in true false)
      K v2431) := rfl

/-- part82 and a continuation, as tile operations. -/
theorem part82_k {β : Type} (d0 : Dev nD) (v3 : BitVec 32) (v9 : BitVec 32) (v13 : BitVec 32) (v2431 : Vec F S128x512 .f32) (K : ((PUnit)) → Pr F β) :
    (k0_part82 arg0 harg0 arg1 harg1 arg2 harg2 arg3 harg3 arg4 harg4 arg5 harg5 arg6 harg6 arg7 harg7 arg8 harg8 arg9 harg9 arg10 harg10 arg11 harg11 arg12 harg12 arg13 arg14 d0 v3 v9 v13 v2431 >>= K) = (do
      let v2432 ← loadOut arg6
      let v2436 ← loadRow arg7 ((Rows.printed d0).xo true false) ((Rows.printed d0).xo_in true false)
      putRow arg7 ((Rows.printed d0).xo true false) ((Rows.printed d0).xo_in true false) (k0_pay121 v2431 v2432)
      let v2438 ← loadHid arg9 ((Rows.printed d0).ho true true) ((Rows.printed d0).ho_in true true)
      let v2439 ← loadOut arg6
      let v2443 ← loadRow arg7 ((Rows.printed d0).xo true true) ((Rows.printed d0).xo_in true true)
      putRow arg7 ((Rows.printed d0).xo true true) ((Rows.printed d0).xo_in true true) (k0_pay122 v2438 v2439)
      await (semOf arg14 2 false 0) (tileOf (Rows.printed d0) arg9 true false 0) (tileOf (Rows.printed d0) arg9 true false 0)
      await (semOf arg14 2 false 1) (tileOf (Rows.printed d0) arg9 true false 1) (tileOf (Rows.printed d0) arg9 true false 1)
      K ⟨⟩) := rfl

/-- part83 and a continuation, as tile operations. -/
theorem part83_k {β : Type} (d0 : Dev nD) (v3 : BitVec 32) (v4 : BitVec 32) (v11 : BitVec 32) (K : ((PUnit)) → Pr F β) :
    (k0_part83 arg0 harg0 arg1 harg1 arg2 harg2 arg3 harg3 arg4 harg4 arg5 harg5 arg6 harg6 arg7 harg7 arg8 harg8 arg9 harg9 arg10 harg10 arg11 harg11 arg12 harg12 arg13 arg14 d0 v3 v4 v11 >>= K) = (do
      await (semOf arg14 2 false 2) (tileOf (Rows.printed d0) arg9 true false 2) (tileOf (Rows.printed d0) arg9 true false 2)
      await (semOf arg14 2 false 3) (tileOf (Rows.printed d0) arg9 true false 3) (tileOf (Rows.printed d0) arg9 true false 3)
      let v2469 ← loadHid arg9 ((Rows.printed d0).ho false false) ((Rows.printed d0).ho_in false false)
      let v2470 ← loadOut arg6
      let v2474 ← loadRow arg7 ((Rows.printed d0).xo false false) ((Rows.printed d0).xo_in false false)
      putRow arg7 ((Rows.printed d0).xo false false) ((Rows.printed d0).xo_in false false) (k0_pay123 v2469 v2470)
      await (semOf arg14 2 true 0) (tileOf (Rows.printed d0) arg9 true true 0) (tileOf (Rows.printed d0) arg9 true true 0)
      await (semOf arg14 2 true 1) (tileOf (Rows.printed d0) arg9 true true 1) (tileOf (Rows.printed d0) arg9 true true 1)
      K ⟨⟩) := rfl

/-- part84 and a continuation, as tile operations. -/
theorem part84_k {β : Type} (d0 : Dev nD) (v4 : BitVec 32) (v16 : BitVec 32) (K : ((PUnit)) → Pr F β) :
    (k0_part84 arg0 harg0 arg1 harg1 arg2 harg2 arg3 harg3 arg4 harg4 arg5 harg5 arg6 harg6 arg7 harg7 arg8 harg8 arg9 harg9 arg10 harg10 arg11 harg11 arg12 harg12 arg13 arg14 d0 v4 v16 >>= K) = (do
      await (semOf arg14 2 true 2) (tileOf (Rows.printed d0) arg9 true true 2) (tileOf (Rows.printed d0) arg9 true true 2)
      await (semOf arg14 2 true 3) (tileOf (Rows.printed d0) arg9 true true 3) (tileOf (Rows.printed d0) arg9 true true 3)
      let v2500 ← loadHid arg9 ((Rows.printed d0).ho false true) ((Rows.printed d0).ho_in false true)
      let v2501 ← loadOut arg6
      let v2505 ← loadRow arg7 ((Rows.printed d0).xo false true) ((Rows.printed d0).xo_in false true)
      putRow arg7 ((Rows.printed d0).xo false true) ((Rows.printed d0).xo_in false true) (k0_pay124 v2500 v2501)
      await (semOf arg13 0 false 0) (landTile arg11 false 0) (tileOf (Rows.printed d0) arg8 false false 0)
      K ⟨⟩) := rfl

/-- part85 and a continuation, as tile operations. -/
theorem part85_k {β : Type} (d0 : Dev nD) (K : ((PUnit)) → Pr F β) :
    (k0_part85 arg0 harg0 arg1 harg1 arg2 harg2 arg3 harg3 arg4 harg4 arg5 harg5 arg6 harg6 arg7 harg7 arg8 harg8 arg9 harg9 arg10 harg10 arg11 harg11 arg12 harg12 arg13 arg14 d0 >>= K) = (do
      await (semOf arg13 0 true 0) (landTile arg11 true 0) (tileOf (Rows.printed d0) arg8 false true 0)
      await (semOf arg13 0 false 1) (landTile arg11 false 1) (tileOf (Rows.printed d0) arg8 false false 1)
      await (semOf arg13 0 true 1) (landTile arg11 true 1) (tileOf (Rows.printed d0) arg8 false true 1)
      await (semOf arg13 0 false 2) (landTile arg11 false 2) (tileOf (Rows.printed d0) arg8 false false 2)
      K ⟨⟩) := rfl

/-- part86 and a continuation, as tile operations. -/
theorem part86_k {β : Type} (d0 : Dev nD) (K : ((PUnit)) → Pr F β) :
    (k0_part86 arg0 harg0 arg1 harg1 arg2 harg2 arg3 harg3 arg4 harg4 arg5 harg5 arg6 harg6 arg7 harg7 arg8 harg8 arg9 harg9 arg10 harg10 arg11 harg11 arg12 harg12 arg13 arg14 d0 >>= K) = (do
      await (semOf arg13 0 true 2) (landTile arg11 true 2) (tileOf (Rows.printed d0) arg8 false true 2)
      await (semOf arg13 0 false 3) (landTile arg11 false 3) (tileOf (Rows.printed d0) arg8 false false 3)
      await (semOf arg13 0 true 3) (landTile arg11 true 3) (tileOf (Rows.printed d0) arg8 false true 3)
      await (semOf arg13 1 false 0) (landTile arg12 false 0) (tileOf (Rows.printed d0) arg8 true false 0)
      K ⟨⟩) := rfl

/-- part87 and a continuation, as tile operations. -/
theorem part87_k {β : Type} (d0 : Dev nD) (K : ((PUnit)) → Pr F β) :
    (k0_part87 arg0 harg0 arg1 harg1 arg2 harg2 arg3 harg3 arg4 harg4 arg5 harg5 arg6 harg6 arg7 harg7 arg8 harg8 arg9 harg9 arg10 harg10 arg11 harg11 arg12 harg12 arg13 arg14 d0 >>= K) = (do
      await (semOf arg13 1 true 0) (landTile arg12 true 0) (tileOf (Rows.printed d0) arg8 true true 0)
      await (semOf arg13 1 false 1) (landTile arg12 false 1) (tileOf (Rows.printed d0) arg8 true false 1)
      await (semOf arg13 1 true 1) (landTile arg12 true 1) (tileOf (Rows.printed d0) arg8 true true 1)
      K ⟨⟩) := rfl

/-- part88 and a continuation, as tile operations. -/
theorem part88_k {β : Type} (d0 : Dev nD) (K : ((PUnit)) → Pr F β) :
    (k0_part88 arg0 harg0 arg1 harg1 arg2 harg2 arg3 harg3 arg4 harg4 arg5 harg5 arg6 harg6 arg7 harg7 arg8 harg8 arg9 harg9 arg10 harg10 arg11 harg11 arg12 harg12 arg13 arg14 d0 >>= K) = (do
      await (semOf arg13 1 false 2) (landTile arg12 false 2) (tileOf (Rows.printed d0) arg8 true false 2)
      await (semOf arg13 1 true 2) (landTile arg12 true 2) (tileOf (Rows.printed d0) arg8 true true 2)
      await (semOf arg13 1 false 3) (landTile arg12 false 3) (tileOf (Rows.printed d0) arg8 true false 3)
      await (semOf arg13 1 true 3) (landTile arg12 true 3) (tileOf (Rows.printed d0) arg8 true true 3)
      await (semOf arg13 2 false 0) (tileOf (Rows.printed d0) arg9 true false 0) (tileOf (Rows.printed d0) arg9 true false 0)
      K ⟨⟩) := rfl

/-- part89 and a continuation, as tile operations. -/
theorem part89_k {β : Type} (d0 : Dev nD) (K : ((PUnit)) → Pr F β) :
    (k0_part89 arg0 harg0 arg1 harg1 arg2 harg2 arg3 harg3 arg4 harg4 arg5 harg5 arg6 harg6 arg7 harg7 arg8 harg8 arg9 harg9 arg10 harg10 arg11 harg11 arg12 harg12 arg13 arg14 d0 >>= K) = (do
      await (semOf arg13 2 true 0) (tileOf (Rows.printed d0) arg9 true true 0) (tileOf (Rows.printed d0) arg9 true true 0)
      await (semOf arg13 2 false 1) (tileOf (Rows.printed d0) arg9 true false 1) (tileOf (Rows.printed d0) arg9 true false 1)
      await (semOf arg13 2 true 1) (tileOf (Rows.printed d0) arg9 true true 1) (tileOf (Rows.printed d0) arg9 true true 1)
      await (semOf arg13 2 false 2) (tileOf (Rows.printed d0) arg9 true false 2) (tileOf (Rows.printed d0) arg9 true false 2)
      await (semOf arg13 2 true 2) (tileOf (Rows.printed d0) arg9 true true 2) (tileOf (Rows.printed d0) arg9 true true 2)
      await (semOf arg13 2 false 3) (tileOf (Rows.printed d0) arg9 true false 3) (tileOf (Rows.printed d0) arg9 true false 3)
      K ⟨⟩) := rfl

/-- part90 and a continuation, as tile operations. -/
theorem part90_k {β : Type} (K : ((Σ' (d0 : Dev nD) (v3 : BitVec 32) (v4 : BitVec 32) (v9 : BitVec 32) (v11 : BitVec 32) (v13 : BitVec 32) (v16 : BitVec 32) (v1775 : Vec F S128x256 .f32), FVec F S256x128 .f32)) → Pr F β) :
    (k0_part90 arg0 harg0 arg1 harg1 arg2 harg2 arg3 harg3 arg4 harg4 arg5 harg5 arg6 harg6 arg7 harg7 arg8 harg8 arg9 harg9 arg10 harg10 arg11 harg11 arg12 harg12 arg13 arg14  >>= K) = (do
      let ⟨d0, v3, v4, v9, v11, v13, v16, v27⟩ : Σ' (d0 : Dev nD) (v3 : BitVec 32) (v4 : BitVec 32) (v9 : BitVec 32) (v11 : BitVec 32) (v13 : BitVec 32) (v16 : BitVec 32), FVec F S128x128 .f32 ← k0_part1 arg0 harg0 arg1 harg1 arg2 harg2 arg3 harg3 arg4 harg4 arg5 harg5 arg6 harg6 arg7 harg7 arg8 harg8 arg9 harg9 arg10 harg10 arg11 harg11 arg12 harg12 arg13 arg14
      k0_part2 arg0 harg0 arg1 harg1 arg2 harg2 arg3 harg3 arg4 harg4 arg5 harg5 arg6 harg6 arg7 harg7 arg8 harg8 arg9 harg9 arg10 harg10 arg11 harg11 arg12 harg12 arg13 arg14 d0 v3 v4 v16 v27
      let c1_i32_64 : BitVec 32 ← k0_part3 arg0 harg0 arg1 harg1 arg2 harg2 arg3 harg3 arg4 harg4 arg5 harg5 arg6 harg6 arg7 harg7 arg8 harg8 arg9 harg9 arg10 harg10 arg11 harg11 arg12 harg12 arg13 arg14 d0 v3 v11 v16
      let v124 : FVec F S128x256 .f32 ← k0_part4 arg0 harg0 arg1 harg1 arg2 harg2 arg3 harg3 arg4 harg4 arg5 harg5 arg6 harg6 arg7 harg7 arg8 harg8 arg9 harg9 arg10 harg10 arg11 harg11 arg12 harg12 arg13 arg14 d0 v3 v4 v11 v16 c1_i32_64
      k0_part5 arg0 harg0 arg1 harg1 arg2 harg2 arg3 harg3 arg4 harg4 arg5 harg5 arg6 harg6 arg7 harg7 arg8 harg8 arg9 harg9 arg10 harg10 arg11 harg11 arg12 harg12 arg13 arg14 d0 v3 v4 v11 v16 v124
      let v191 : FVec F S128x128 .f32 ← k0_part6 arg0 harg0 arg1 harg1 arg2 harg2 arg3 harg3 arg4 harg4 arg5 harg5 arg6 harg6 arg7 harg7 arg8 harg8 arg9 harg9 arg10 harg10 arg11 harg11 arg12 harg12 arg13 arg14 d0 v4 v9 v16
      let v227 : FVec F S128x128 .f32 ← k0_part7 arg0 harg0 arg1 harg1 arg2 harg2 arg3 harg3 arg4 harg4 arg5 harg5 arg6 harg6 arg7 harg7 arg8 harg8 arg9 harg9 arg10 harg10 arg11 harg11 arg12 harg12 arg13 arg14 d0 v9 v13 v191
      k0_part8 arg0 harg0 arg1 harg1 arg2 harg2 arg3 harg3 arg4 harg4 arg5 harg5 arg6 harg6 arg7 harg7 arg8 harg8 arg9 harg9 arg10 harg10 arg11 harg11 arg12 harg12 arg13 arg14 d0 v3 v9 v13 v227
      k0_part9 arg0 harg0 arg1 harg1 arg2 harg2 arg3 harg3 arg4 harg4 arg5 harg5 arg6 harg6 arg7 harg7 arg8 harg8 arg9 harg9 arg10 harg10 arg11 harg11 arg12 harg12 arg13 arg14 d0 v4 v9
      k0_part10 arg0 harg0 arg1 harg1 arg2 harg2 arg3 harg3 arg4 harg4 arg5 harg5 arg6 harg6 arg7 harg7 arg8 harg8 arg9 harg9 arg10 harg10 arg11 harg11 arg12 harg12 arg13 arg14 d0 v3 v13
      let v352 : Vec F S128x128 .f32 ← k0_part11 arg0 harg0 arg1 harg1 arg2 harg2 arg3 harg3 arg4 harg4 arg5 harg5 arg6 harg6 arg7 harg7 arg8 harg8 arg9 harg9 arg10 harg10 arg11 harg11 arg12 harg12 arg13 arg14 d0 v4 v9 v13
      let ⟨v379, v381⟩ : Σ' (v379 : Vec F S128x128 .f32), FVec F S128x128 .f32 ← k0_part12 arg0 harg0 arg1 harg1 arg2 harg2 arg3 harg3 arg4 harg4 arg5 harg5 arg6 harg6 arg7 harg7 arg8 harg8 arg9 harg9 arg10 harg10 arg11 harg11 arg12 harg12 arg13 arg14 d0 v3 v9 v13 v352
      let v409 : FVec F S128x128 .f32 ← k0_part13 arg0 harg0 arg1 harg1 arg2 harg2 arg3 harg3 arg4 harg4 arg5 harg5 arg6 harg6 arg7 harg7 arg8 harg8 arg9 harg9 arg10 harg10 arg11 harg11 arg12 harg12 arg13 arg14 d0 v4 v9 v13 v379 v381
      k0_part14 arg0 harg0 arg1 harg1 arg2 harg2 arg3 harg3 arg4 harg4 arg5 harg5 arg6 harg6 arg7 harg7 arg8 harg8 arg9 harg9 arg10 harg10 arg11 harg11 arg12 harg12 arg13 arg14 d0 v3 v9 v409
      k0_part15 arg0 harg0 arg1 harg1 arg2 harg2 arg3 harg3 arg4 harg4 arg5 harg5 arg6 harg6 arg7 harg7 arg8 harg8 arg9 harg9 arg10 harg10 arg11 harg11 arg12 harg12 arg13 arg14 d0 v3 v4 v13
      k0_part16 arg0 harg0 arg1 harg1 arg2 harg2 arg3 harg3 arg4 harg4 arg5 harg5 arg6 harg6 arg7 harg7 arg8 harg8 arg9 harg9 arg10 harg10 arg11 harg11 arg12 harg12 arg13 arg14 d0 v3 v4 v9
      k0_part17 arg0 harg0 arg1 harg1 arg2 harg2 arg3 harg3 arg4 harg4 arg5 harg5 arg6 harg6 arg7 harg7 arg8 harg8 arg9 harg9 arg10 harg10 arg11 harg11 arg12 harg12 arg13 arg14 d0 v3 v4 v13
      k0_part18 arg0 harg0 arg1 harg1 arg2 harg2 arg3 harg3 arg4 harg4 arg5 harg5 arg6 harg6 arg7 harg7 arg8 harg8 arg9 harg9 arg10 harg10 arg11 harg11 arg12 harg12 arg13 arg14 d0 v3 v4 v9
      k0_part19 arg0 harg0 arg1 harg1 arg2 harg2 arg3 harg3 arg4 harg4 arg5 harg5 arg6 harg6 arg7 harg7 arg8 harg8 arg9 harg9 arg10 harg10 arg11 harg11 arg12 harg12 arg13 arg14 d0 v4 v13
      let ⟨v622, v624⟩ : Σ' (v622 : Vec F S128x128 .f32), FVec F S128x128 .f32 ← k0_part20 arg0 harg0 arg1 harg1 arg2 harg2 arg3 harg3 arg4 harg4 arg5 harg5 arg6 harg6 arg7 harg7 arg8 harg8 arg9 harg9 arg10 harg10 arg11 harg11 arg12 harg12 arg13 arg14 d0 v3 v9 v13
      let v654 : FVec F S128x128 .f32 ← k0_part21 arg0 harg0 arg1 harg1 arg2 harg2 arg3 harg3 arg4 harg4 arg5 harg5 arg6 harg6 arg7 harg7 arg8 harg8 arg9 harg9 arg10 harg10 arg11 harg11 arg12 harg12 arg13 arg14 d0 v4 v9 v13 v622 v624
      k0_part22 arg0 harg0 arg1 harg1 arg2 harg2 arg3 harg3 arg4 harg4 arg5 harg5 arg6 harg6 arg7 harg7 arg8 harg8 arg9 harg9 arg10 harg10 arg11 harg11 arg12 harg12 arg13 arg14 d0 v3 v4 v13 v654
      k0_part23 arg0 harg0 arg1 harg1 arg2 harg2 arg3 harg3 arg4 harg4 arg5 harg5 arg6 harg6 arg7 harg7 arg8 harg8 arg9 harg9 arg10 harg10 arg11 harg11 arg12 harg12 arg13 arg14 d0 v3 v9 v13
      k0_part24 arg0 harg0 arg1 harg1 arg2 harg2 arg3 harg3 arg4 harg4 arg5 harg5 arg6 harg6 arg7 harg7 arg8 harg8 arg9 harg9 arg10 harg10 arg11 harg11 arg12 harg12 arg13 arg14 d0 v3 v4 v11
      k0_part25 arg0 harg0 arg1 harg1 arg2 harg2 arg3 harg3 arg4 harg4 arg5 harg5 arg6 harg6 arg7 harg7 arg8 harg8 arg9 harg9 arg10 harg10 arg11 harg11 arg12 harg12 arg13 arg14 d0 v4 v16
      k0_part26 arg0 harg0 arg1 harg1 arg2 harg2 arg3 harg3 arg4 harg4 arg5 harg5 arg6 harg6 arg7 harg7 arg8 harg8 arg9 harg9 arg10 harg10 arg11 harg11 arg12 harg12 arg13 arg14 d0
      k0_part27 arg0 harg0 arg1 harg1 arg2 harg2 arg3 harg3 arg4 harg4 arg5 harg5 arg6 harg6 arg7 harg7 arg8 harg8 arg9 harg9 arg10 harg10 arg11 harg11 arg12 harg12 arg13 arg14 d0
      k0_part28 arg0 harg0 arg1 harg1 arg2 harg2 arg3 harg3 arg4 harg4 arg5 harg5 arg6 harg6 arg7 harg7 arg8 harg8 arg9 harg9 arg10 harg10 arg11 harg11 arg12 harg12 arg13 arg14 d0
      k0_part29 arg0 harg0 arg1 harg1 arg2 harg2 arg3 harg3 arg4 harg4 arg5 harg5 arg6 harg6 arg7 harg7 arg8 harg8 arg9 harg9 arg10 harg10 arg11 harg11 arg12 harg12 arg13 arg14 d0
      k0_part30 arg0 harg0 arg1 harg1 arg2 harg2 arg3 harg3 arg4 harg4 arg5 harg5 arg6 harg6 arg7 harg7 arg8 harg8 arg9 harg9 arg10 harg10 arg11 harg11 arg12 harg12 arg13 arg14 d0
      k0_part31 arg0 harg0 arg1 harg1 arg2 harg2 arg3 harg3 arg4 harg4 arg5 harg5 arg6 harg6 arg7 harg7 arg8 harg8 arg9 harg9 arg10 harg10 arg11 harg11 arg12 harg12 arg13 arg14 d0 v3 v11
      let c1_i32_815 : BitVec 32 ← k0_part32 arg0 harg0 arg1 harg1 arg2 harg2 arg3 harg3 arg4 harg4 arg5 harg5 arg6 harg6 arg7 harg7 arg8 harg8 arg9 harg9 arg10 harg10 arg11 harg11 arg12 harg12 arg13 arg14 d0 v4 v11 v16
      let ⟨v983, v985⟩ : Σ' (v983 : Vec F S128x256 .f32), FVec F S256x128 .f32 ← k0_part33 arg0 harg0 arg1 harg1 arg2 harg2 arg3 harg3 arg4 harg4 arg5 harg5 arg6 harg6 arg7 harg7 arg8 harg8 arg9 harg9 arg10 harg10 arg11 harg11 arg12 harg12 arg13 arg14 d0 v3 v4 v11 v16 c1_i32_815
      k0_part34 arg0 harg0 arg1 harg1 arg2 harg2 arg3 harg3 arg4 harg4 arg5 harg5 arg6 harg6 arg7 harg7 arg8 harg8 arg9 harg9 arg10 harg10 arg11 harg11 arg12 harg12 arg13 arg14 d0 v3 v4 v11 v16 v983 v985
      let c1_i32_890 : BitVec 32 ← k0_part35 arg0 harg0 arg1 harg1 arg2 harg2 arg3 harg3 arg4 harg4 arg5 harg5 arg6 harg6 arg7 harg7 arg8 harg8 arg9 harg9 arg10 harg10 arg11 harg11 arg12 harg12 arg13 arg14 d0 v3 v11 v16
      let v1080 : FVec F S128x128 .f32 ← k0_part36 arg0 harg0 arg1 harg1 arg2 harg2 arg3 harg3 arg4 harg4 arg5 harg5 arg6 harg6 arg7 harg7 arg8 harg8 arg9 harg9 arg10 harg10 arg11 harg11 arg12 harg12 arg13 arg14 d0 v4 v9 v13 c1_i32_890
      let v1116 : FVec F S128x128 .f32 ← k0_part37 arg0 harg0 arg1 harg1 arg2 harg2 arg3 harg3 arg4 harg4 arg5 harg5 arg6 harg6 arg7 harg7 arg8 harg8 arg9 harg9 arg10 harg10 arg11 harg11 arg12 harg12 arg13 arg14 d0 v9 v13 v1080
      k0_part38 arg0 harg0 arg1 harg1 arg2 harg2 arg3 harg3 arg4 harg4 arg5 harg5 arg6 harg6 arg7 harg7 arg8 harg8 arg9 harg9 arg10 harg10 arg11 harg11 arg12 harg12 arg13 arg14 d0 v3 v4 v9 v13 v1116
      k0_part39 arg0 harg0 arg1 harg1 arg2 harg2 arg3 harg3 arg4 harg4 arg5 harg5 arg6 harg6 arg7 harg7 arg8 harg8 arg9 harg9 arg10 harg10 arg11 harg11 arg12 harg12 arg13 arg14 d0 v3 v4 v13
      k0_part40 arg0 harg0 arg1 harg1 arg2 harg2 arg3 harg3 arg4 harg4 arg5 harg5 arg6 harg6 arg7 harg7 arg8 harg8 arg9 harg9 arg10 harg10 arg11 harg11 arg12 harg12 arg13 arg14 d0 v3 v4 v9
      k0_part41 arg0 harg0 arg1 harg1 arg2 harg2 arg3 harg3 arg4 harg4 arg5 harg5 arg6 harg6 arg7 harg7 arg8 harg8 arg9 harg9 arg10 harg10 arg11 harg11 arg12 harg12 arg13 arg14 d0 v3 v4 v13
      k0_part42 arg0 harg0 arg1 harg1 arg2 harg2 arg3 harg3 arg4 harg4 arg5 harg5 arg6 harg6 arg7 harg7 arg8 harg8 arg9 harg9 arg10 harg10 arg11 harg11 arg12 harg12 arg13 arg14 d0 v3 v4 v9
      k0_part43 arg0 harg0 arg1 harg1 arg2 harg2 arg3 harg3 arg4 harg4 arg5 harg5 arg6 harg6 arg7 harg7 arg8 harg8 arg9 harg9 arg10 harg10 arg11 harg11 arg12 harg12 arg13 arg14 d0 v3 v13
      k0_part44 arg0 harg0 arg1 harg1 arg2 harg2 arg3 harg3 arg4 harg4 arg5 harg5 arg6 harg6 arg7 harg7 arg8 harg8 arg9 harg9 arg10 harg10 arg11 harg11 arg12 harg12 arg13 arg14 d0 v4 v9
      let v1355 : Vec F S128x128 .f32 ← k0_part45 arg0 harg0 arg1 harg1 arg2 harg2 arg3 harg3 arg4 harg4 arg5 harg5 arg6 harg6 arg7 harg7 arg8 harg8 arg9 harg9 arg10 harg10 arg11 harg11 arg12 harg12 arg13 arg14 d0 v3 v4 v9 v13
      let v1387 : FVec F S128x128 .f32 ← k0_part46 arg0 harg0 arg1 harg1 arg2 harg2 arg3 harg3 arg4 harg4 arg5 harg5 arg6 harg6 arg7 harg7 arg8 harg8 arg9 harg9 arg10 harg10 arg11 harg11 arg12 harg12 arg13 arg14 d0 v3 v9 v13 v1355
      k0_part47 arg0 harg0 arg1 harg1 arg2 harg2 arg3 harg3 arg4 harg4 arg5 harg5 arg6 harg6 arg7 harg7 arg8 harg8 arg9 harg9 arg10 harg10 arg11 harg11 arg12 harg12 arg13 arg14 d0 v4 v9 v13 v1387
      k0_part48 arg0 harg0 arg1 harg1 arg2 harg2 arg3 harg3 arg4 harg4 arg5 harg5 arg6 harg6 arg7 harg7 arg8 harg8 arg9 harg9 arg10 harg10 arg11 harg11 arg12 harg12 arg13 arg14 d0 v3 v4 v13
      k0_part49 arg0 harg0 arg1 harg1 arg2 harg2 arg3 harg3 arg4 harg4 arg5 harg5 arg6 harg6 arg7 harg7 arg8 harg8 arg9 harg9 arg10 harg10 arg11 harg11 arg12 harg12 arg13 arg14 d0 v3 v4 v9
      k0_part50 arg0 harg0 arg1 harg1 arg2 harg2 arg3 harg3 arg4 harg4 arg5 harg5 arg6 harg6 arg7 harg7 arg8 harg8 arg9 harg9 arg10 harg10 arg11 harg11 arg12 harg12 arg13 arg14 d0 v3 v4 v13
      k0_part51 arg0 harg0 arg1 harg1 arg2 harg2 arg3 harg3 arg4 harg4 arg5 harg5 arg6 harg6 arg7 harg7 arg8 harg8 arg9 harg9 arg10 harg10 arg11 harg11 arg12 harg12 arg13 arg14 d0 v3 v9
      let ⟨v1575, v1577⟩ : Σ' (v1575 : FVec F S128x256 .f32), Vec F S128x256 .f32 ← k0_part52 arg0 harg0 arg1 harg1 arg2 harg2 arg3 harg3 arg4 harg4 arg5 harg5 arg6 harg6 arg7 harg7 arg8 harg8 arg9 harg9 arg10 harg10 arg11 harg11 arg12 harg12 arg13 arg14 d0 v4 v9 v13
      let v1605 : Vec F S128x512 .f32 ← k0_part53 arg0 harg0 arg1 harg1 arg2 harg2 arg3 harg3 arg4 harg4 arg5 harg5 arg6 harg6 arg7 harg7 arg8 harg8 arg9 harg9 arg10 harg10 arg11 harg11 arg12 harg12 arg13 arg14 d0 v3 v11 v1575 v1577
      k0_part54 arg0 harg0 arg1 harg1 arg2 harg2 arg3 harg3 arg4 harg4 arg5 harg5 arg6 harg6 arg7 harg7 arg8 harg8 arg9 harg9 arg10 harg10 arg11 harg11 arg12 harg12 arg13 arg14 d0 v4 v11 v1605
      k0_part55 arg0 harg0 arg1 harg1 arg2 harg2 arg3 harg3 arg4 harg4 arg5 harg5 arg6 harg6 arg7 harg7 arg8 harg8 arg9 harg9 arg10 harg10 arg11 harg11 arg12 harg12 arg13 arg14 d0 v16
      k0_part56 arg0 harg0 arg1 harg1 arg2 harg2 arg3 harg3 arg4 harg4 arg5 harg5 arg6 harg6 arg7 harg7 arg8 harg8 arg9 harg9 arg10 harg10 arg11 harg11 arg12 harg12 arg13 arg14 d0
      k0_part57 arg0 harg0 arg1 harg1 arg2 harg2 arg3 harg3 arg4 harg4 arg5 harg5 arg6 harg6 arg7 harg7 arg8 harg8 arg9 harg9 arg10 harg10 arg11 harg11 arg12 harg12 arg13 arg14 d0
      k0_part58 arg0 harg0 arg1 harg1 arg2 harg2 arg3 harg3 arg4 harg4 arg5 harg5 arg6 harg6 arg7 harg7 arg8 harg8 arg9 harg9 arg10 harg10 arg11 harg11 arg12 harg12 arg13 arg14 d0
      k0_part59 arg0 harg0 arg1 harg1 arg2 harg2 arg3 harg3 arg4 harg4 arg5 harg5 arg6 harg6 arg7 harg7 arg8 harg8 arg9 harg9 arg10 harg10 arg11 harg11 arg12 harg12 arg13 arg14 d0
      let ⟨v1775, v1777⟩ : Σ' (v1775 : Vec F S128x256 .f32), FVec F S256x128 .f32 ← k0_part60 arg0 harg0 arg1 harg1 arg2 harg2 arg3 harg3 arg4 harg4 arg5 harg5 arg6 harg6 arg7 harg7 arg8 harg8 arg9 harg9 arg10 harg10 arg11 harg11 arg12 harg12 arg13 arg14 d0 v11
      K ⟨d0, v3, v4, v9, v11, v13, v16, v1775, v1777⟩) := rfl

/-- The printed body as its parts and the operations after the last of them. -/
theorem whole_k :
    cc0_body (F := F) arg0 harg0 arg1 harg1 arg2 harg2 arg3 harg3 arg4 harg4 arg5 harg5 arg6 harg6 arg7 harg7 arg8 harg8 arg9 harg9 arg10 harg10 arg11 harg11 arg12 harg12 arg13 arg14 = (do
      let ⟨d0, v3, v4, v9, v11, v13, v16, v1775, v1777⟩ : Σ' (d0 : Dev nD) (v3 : BitVec 32) (v4 : BitVec 32) (v9 : BitVec 32) (v11 : BitVec 32) (v13 : BitVec 32) (v16 : BitVec 32) (v1775 : Vec F S128x256 .f32), FVec F S256x128 .f32 ← k0_part90 arg0 harg0 arg1 harg1 arg2 harg2 arg3 harg3 arg4 harg4 arg5 harg5 arg6 harg6 arg7 harg7 arg8 harg8 arg9 harg9 arg10 harg10 arg11 harg11 arg12 harg12 arg13 arg14
      k0_part61 arg0 harg0 arg1 harg1 arg2 harg2 arg3 harg3 arg4 harg4 arg5 harg5 arg6 harg6 arg7 harg7 arg8 harg8 arg9 harg9 arg10 harg10 arg11 harg11 arg12 harg12 arg13 arg14 d0 v3 v4 v11 v16 v1775 v1777
      let c1_i32_1618 : BitVec 32 ← k0_part62 arg0 harg0 arg1 harg1 arg2 harg2 arg3 harg3 arg4 harg4 arg5 harg5 arg6 harg6 arg7 harg7 arg8 harg8 arg9 harg9 arg10 harg10 arg11 harg11 arg12 harg12 arg13 arg14 d0 v3 v11 v16
      let ⟨v1870, v1872⟩ : Σ' (v1870 : Vec F S128x256 .f32), FVec F S256x128 .f32 ← k0_part63 arg0 harg0 arg1 harg1 arg2 harg2 arg3 harg3 arg4 harg4 arg5 harg5 arg6 harg6 arg7 harg7 arg8 harg8 arg9 harg9 arg10 harg10 arg11 harg11 arg12 harg12 arg13 arg14 d0 v3 v4 v11 v16 c1_i32_1618
      k0_part64 arg0 harg0 arg1 harg1 arg2 harg2 arg3 harg3 arg4 harg4 arg5 harg5 arg6 harg6 arg7 harg7 arg8 harg8 arg9 harg9 arg10 harg10 arg11 harg11 arg12 harg12 arg13 arg14 d0 v3 v4 v11 v16 v1870 v1872
      let v1936 : Vec F S128x256 .f32 ← k0_part65 arg0 harg0 arg1 harg1 arg2 harg2 arg3 harg3 arg4 harg4 arg5 harg5 arg6 harg6 arg7 harg7 arg8 harg8 arg9 harg9 arg10 harg10 arg11 harg11 arg12 harg12 arg13 arg14 d0 v4 v9 v13 v16
      let v1972 : Vec F S128x256 .f32 ← k0_part66 arg0 harg0 arg1 harg1 arg2 harg2 arg3 harg3 arg4 harg4 arg5 harg5 arg6 harg6 arg7 harg7 arg8 harg8 arg9 harg9 arg10 harg10 arg11 harg11 arg12 harg12 arg13 arg14 d0 v9 v13 v1936
      k0_part67 arg0 harg0 arg1 harg1 arg2 harg2 arg3 harg3 arg4 harg4 arg5 harg5 arg6 harg6 arg7 harg7 arg8 harg8 arg9 harg9 arg10 harg10 arg11 harg11 arg12 harg12 arg13 arg14 d0 v3 v9 v13 v1972
      let v2034 : Vec F S128x128 .f32 ← k0_part68 arg0 harg0 arg1 harg1 arg2 harg2 arg3 harg3 arg4 harg4 arg5 harg5 arg6 harg6 arg7 harg7 arg8 harg8 arg9 harg9 arg10 harg10 arg11 harg11 arg12 harg12 arg13 arg14 d0 v4 v9 v13
      let v2064 : FVec F S128x128 .f32 ← k0_part69 arg0 harg0 arg1 harg1 arg2 harg2 arg3 harg3 arg4 harg4 arg5 harg5 arg6 harg6 arg7 harg7 arg8 harg8 arg9 harg9 arg10 harg10 arg11 harg11 arg12 harg12 arg13 arg14 d0 v3 v9 v13 v2034
      k0_part70 arg0 harg0 arg1 harg1 arg2 harg2 arg3 harg3 arg4 harg4 arg5 harg5 arg6 harg6 arg7 harg7 arg8 harg8 arg9 harg9 arg10 harg10 arg11 harg11 arg12 harg12 arg13 arg14 d0 v4 v13 v2064
      let v2123 : BitVec 32 ← k0_part71 arg0 harg0 arg1 harg1 arg2 harg2 arg3 harg3 arg4 harg4 arg5 harg5 arg6 harg6 arg7 harg7 arg8 harg8 arg9 harg9 arg10 harg10 arg11 harg11 arg12 harg12 arg13 arg14 d0 v3 v4 v9
      k0_part72 arg0 harg0 arg1 harg1 arg2 harg2 arg3 harg3 arg4 harg4 arg5 harg5 arg6 harg6 arg7 harg7 arg8 harg8 arg9 harg9 arg10 harg10 arg11 harg11 arg12 harg12 arg13 arg14 d0 v3 v4 v13 v2123
      k0_part73 arg0 harg0 arg1 harg1 arg2 harg2 arg3 harg3 arg4 harg4 arg5 harg5 arg6 harg6 arg7 harg7 arg8 harg8 arg9 harg9 arg10 harg10 arg11 harg11 arg12 harg12 arg13 arg14 d0 v3 v4 v9
      k0_part74 arg0 harg0 arg1 harg1 arg2 harg2 arg3 harg3 arg4 harg4 arg5 harg5 arg6 harg6 arg7 harg7 arg8 harg8 arg9 harg9 arg10 harg10 arg11 harg11 arg12 harg12 arg13 arg14 d0 v3 v4 v13
      k0_part75 arg0 harg0 arg1 harg1 arg2 harg2 arg3 harg3 arg4 harg4 arg5 harg5 arg6 harg6 arg7 harg7 arg8 harg8 arg9 harg9 arg10 harg10 arg11 harg11 arg12 harg12 arg13 arg14 d0 v3 v4 v9
      k0_part76 arg0 harg0 arg1 harg1 arg2 harg2 arg3 harg3 arg4 harg4 arg5 harg5 arg6 harg6 arg7 harg7 arg8 harg8 arg9 harg9 arg10 harg10 arg11 harg11 arg12 harg12 arg13 arg14 d0 v4 v13
      let v2304 : Vec F S128x128 .f32 ← k0_part77 arg0 harg0 arg1 harg1 arg2 harg2 arg3 harg3 arg4 harg4 arg5 harg5 arg6 harg6 arg7 harg7 arg8 harg8 arg9 harg9 arg10 harg10 arg11 harg11 arg12 harg12 arg13 arg14 d0 v3 v9 v13
      let v2336 : FVec F S128x128 .f32 ← k0_part78 arg0 harg0 arg1 harg1 arg2 harg2 arg3 harg3 arg4 harg4 arg5 harg5 arg6 harg6 arg7 harg7 arg8 harg8 arg9 harg9 arg10 harg10 arg11 harg11 arg12 harg12 arg13 arg14 d0 v4 v9 v13 v2304
      k0_part79 arg0 harg0 arg1 harg1 arg2 harg2 arg3 harg3 arg4 harg4 arg5 harg5 arg6 harg6 arg7 harg7 arg8 harg8 arg9 harg9 arg10 harg10 arg11 harg11 arg12 harg12 arg13 arg14 d0 v3 v9 v13 v2336
      k0_part80 arg0 harg0 arg1 harg1 arg2 harg2 arg3 harg3 arg4 harg4 arg5 harg5 arg6 harg6 arg7 harg7 arg8 harg8 arg9 harg9 arg10 harg10 arg11 harg11 arg12 harg12 arg13 arg14 d0 v3 v4 v9
      let v2431 : Vec F S128x512 .f32 ← k0_part81 arg0 harg0 arg1 harg1 arg2 harg2 arg3 harg3 arg4 harg4 arg5 harg5 arg6 harg6 arg7 harg7 arg8 harg8 arg9 harg9 arg10 harg10 arg11 harg11 arg12 harg12 arg13 arg14 d0 v3 v4 v9 v13
      k0_part82 arg0 harg0 arg1 harg1 arg2 harg2 arg3 harg3 arg4 harg4 arg5 harg5 arg6 harg6 arg7 harg7 arg8 harg8 arg9 harg9 arg10 harg10 arg11 harg11 arg12 harg12 arg13 arg14 d0 v3 v9 v13 v2431
      k0_part83 arg0 harg0 arg1 harg1 arg2 harg2 arg3 harg3 arg4 harg4 arg5 harg5 arg6 harg6 arg7 harg7 arg8 harg8 arg9 harg9 arg10 harg10 arg11 harg11 arg12 harg12 arg13 arg14 d0 v3 v4 v11
      k0_part84 arg0 harg0 arg1 harg1 arg2 harg2 arg3 harg3 arg4 harg4 arg5 harg5 arg6 harg6 arg7 harg7 arg8 harg8 arg9 harg9 arg10 harg10 arg11 harg11 arg12 harg12 arg13 arg14 d0 v4 v16
      k0_part85 arg0 harg0 arg1 harg1 arg2 harg2 arg3 harg3 arg4 harg4 arg5 harg5 arg6 harg6 arg7 harg7 arg8 harg8 arg9 harg9 arg10 harg10 arg11 harg11 arg12 harg12 arg13 arg14 d0
      k0_part86 arg0 harg0 arg1 harg1 arg2 harg2 arg3 harg3 arg4 harg4 arg5 harg5 arg6 harg6 arg7 harg7 arg8 harg8 arg9 harg9 arg10 harg10 arg11 harg11 arg12 harg12 arg13 arg14 d0
      k0_part87 arg0 harg0 arg1 harg1 arg2 harg2 arg3 harg3 arg4 harg4 arg5 harg5 arg6 harg6 arg7 harg7 arg8 harg8 arg9 harg9 arg10 harg10 arg11 harg11 arg12 harg12 arg13 arg14 d0
      k0_part88 arg0 harg0 arg1 harg1 arg2 harg2 arg3 harg3 arg4 harg4 arg5 harg5 arg6 harg6 arg7 harg7 arg8 harg8 arg9 harg9 arg10 harg10 arg11 harg11 arg12 harg12 arg13 arg14 d0
      k0_part89 arg0 harg0 arg1 harg1 arg2 harg2 arg3 harg3 arg4 harg4 arg5 harg5 arg6 harg6 arg7 harg7 arg8 harg8 arg9 harg9 arg10 harg10 arg11 harg11 arg12 harg12 arg13 arg14 d0
      await (semOf arg13 2 true 3) (tileOf (Rows.printed d0) arg9 true true 3) (tileOf (Rows.printed d0) arg9 true true 3)
      pure ⟨⟩) := rfl

end Cert.KernelIdeal.Tp

end
-- ==== Proof.ProgEq.lean ====
module

public import Idealize.ShloMosaic.Lib.Pointwise.Reshape
public import proofs.«01_k».proof.Proof.Parts

@[expose] public section

set_option maxRecDepth 1000000
set_option maxHeartbeats 0

/-!
# The printed body is the program over tiles
-/

noncomputable section

namespace Cert.KernelIdeal.Tp

open Idealize.ShloMosaic Idealize.SL.Sem
open Cert.KernelIdeal Gen

variable {F : FTy → Type} [FloatOps F]

section Flat

theorem lock {α β : Type} {x x' : Pr F α} {K K' : α → Pr F β} (hx : x = x')
    (hK : ∀ a, K a = K' a) : (x >>= K) = (x' >>= K') := by
  rw [hx, funext hK]

variable {α β γ ι : Type}

theorem loop_nil_k (f : ι → Pr F PUnit) (K : PUnit → Pr F β) : (loop [] f >>= K) = K ⟨⟩ := rfl

theorem loop_cons_k (i : ι) (is : List ι) (f : ι → Pr F PUnit) (K : PUnit → Pr F β) :
    (loop (i :: is) f >>= K) = (f i >>= fun _ => loop is f >>= K) := by
  show ((f i >>= fun _ => loop is f) >>= K) = _
  rw [bind_assoc]

/-- In the first layer the row block is cast to its own shape before the product. -/
theorem putSq_dot (b : Memref sig .tc .vmem S512x512 .f32) (o : Fin 2 → ℕ)
    (ho : ∀ a, o a + S128x128.size a ≤ S512x512.size a) {x : Vec F S128x256 .f32}
    {w : Vec F S256x128 .f32} {v : FVec F S128x128 .f32}
    (hv : v = dotVal (shapeCast S128x256 x shapeCasts_S128x256_S128x256 : FVec F S128x256 .f32) w) :
    putSq b o ho v = putSq b o ho (dotVal x w) := by
  rw [hv, shapeCast_id]

/-- In the last layer the product is not cast to its own shape before it is stored. -/
theorem putRow_dot (b : Memref sig .tc .vmem S512x256 .f32) (o : Fin 2 → ℕ)
    (ho : ∀ a, o a + S128x256.size a ≤ S512x256.size a) {h : Vec F S128x512 .f32}
    {w : Vec F S512x256 .f32} {v : FVec F S128x256 .f32}
    (hv : shapeCast S128x256 v shapeCasts_S128x256_S128x256 = rowVal h w) :
    putRow b o ho v = putRow b o ho (rowVal h w) := by
  rw [← hv, shapeCast_id]

end Flat

section Steps

variable {β : Type} (R : Rows) (l : Fin 3) (xs : Memref sig .tc .vmem S512x256 .f32)
  (win : Memref sig .tc .vmem S256x512 .f32) (wout xd : Memref sig .tc .vmem S512x256 .f32)
  (acc h : Memref sig .tc .vmem S512x512 .f32) (s1 s2 : Memref sig .tc .vmem S2x128x512 .f32)
  (ss rs : DmaSems sig S24) (t : Bool × Fin 4) (f : Bool) (K : PUnit → Pr F β)

theorem step1_k : (step1 R l xs win acc s1 ss rs t >>= K) = (do
    let x ← loadRow xs (R.xo false t.1) (R.xo_in false t.1)
    let w ← loadCol win t.2
    let _ ← loadSq acc (R.ta false t.1 t.2) (R.ta_in false t.1 t.2)
    putSq acc (R.ta false t.1 t.2) (R.ta_in false t.1 t.2) (dotVal x w)
    send (tileOf R acc false t.1 t.2) (landTile s1 t.1 t.2) (semOf ss 0 t.1 t.2)
      (semOf rs 0 t.1 t.2) (R.dv l 0 t.1 t.2)
    K ⟨⟩) := rfl

theorem step2_k : (step2 R xs win acc t >>= K) = (do
    let x ← loadRow xs (R.xo true t.1) (R.xo_in true t.1)
    let w ← loadCol win t.2
    let _ ← loadSq acc (R.ta true t.1 t.2) (R.ta_in true t.1 t.2)
    putSq acc (R.ta true t.1 t.2) (R.ta_in true t.1 t.2) (dotVal x w)
    K ⟨⟩) := rfl

theorem step3_k : (step3 R l acc s1 s2 ss rs t >>= K) = (do
    await (semOf rs 0 t.1 t.2) (tileOf R acc false t.1 t.2) (landTile s1 t.1 t.2)
    let a ← loadSq acc (R.ta true t.1 t.2) (R.ta_in true t.1 t.2)
    let b ← loadLand s1 t.1 t.2
    let _ ← loadSq acc (R.ta true t.1 t.2) (R.ta_in true t.1 t.2)
    putSq acc (R.ta true t.1 t.2) (R.ta_in true t.1 t.2) (addVal a b)
    send (tileOf R acc true t.1 t.2) (landTile s2 t.1 t.2) (semOf ss 1 t.1 t.2)
      (semOf rs 1 t.1 t.2) (R.dv l 1 t.1 t.2)
    K ⟨⟩) := rfl

theorem step4_k : (step4 R l acc h s2 ss rs t >>= K) = (do
    await (semOf rs 1 t.1 t.2) (tileOf R acc true t.1 t.2) (landTile s2 t.1 t.2)
    let a ← loadSq acc (R.ta true t.1 t.2) (R.ta_in true t.1 t.2)
    let b ← loadLand s2 t.1 t.2
    let _ ← loadSq h (R.ta true t.1 t.2) (R.ta_in true t.1 t.2)
    putSq h (R.ta true t.1 t.2) (R.ta_in true t.1 t.2) (reluVal a b)
    send (tileOf R h true t.1 t.2) (tileOf R h true t.1 t.2) (semOf ss 2 t.1 t.2)
      (semOf rs 2 t.1 t.2) (R.dv l 2 t.1 t.2)
    K ⟨⟩) := rfl

theorem step5_k : (step5 R wout xd h f >>= K) = (do
    let r ← loadHid h (R.ho true f) (R.ho_in true f)
    let w ← loadOut wout
    let _ ← loadRow xd (R.xo true f) (R.xo_in true f)
    putRow xd (R.xo true f) (R.xo_in true f) (rowVal r w)
    K ⟨⟩) := rfl

theorem step6_k : (step6 R wout xd h rs f >>= K) = (do
    loop (halfTiles f) fun t =>
      await (semOf rs 2 t.1 t.2) (tileOf R h true t.1 t.2) (tileOf R h true t.1 t.2)
    let r ← loadHid h (R.ho false f) (R.ho_in false f)
    let w ← loadOut wout
    let _ ← loadRow xd (R.xo false f) (R.xo_in false f)
    putRow xd (R.xo false f) (R.xo_in false f) (rowVal r w)
    K ⟨⟩) := by
  simp only [step6, rowDot, bind_assoc]

theorem step7_k : (step7 R acc h s1 s2 ss >>= K) = (do
    loop tiles fun t =>
      await (semOf ss 0 t.1 t.2) (landTile s1 t.1 t.2) (tileOf R acc false t.1 t.2)
    loop tiles fun t =>
      await (semOf ss 1 t.1 t.2) (landTile s2 t.1 t.2) (tileOf R acc true t.1 t.2)
    loop tiles fun t =>
      await (semOf ss 2 t.1 t.2) (tileOf R h true t.1 t.2) (tileOf R h true t.1 t.2)
    K ⟨⟩) := by
  simp only [step7, bind_assoc]

theorem layer_k : (layer R l xs win wout xd acc h s1 s2 ss rs >>= K) = (do
    loop tiles (step1 R l xs win acc s1 ss rs)
    loop tiles (step2 R xs win acc)
    loop tiles (step3 R l acc s1 s2 ss rs)
    loop tiles (step4 R l acc h s2 ss rs)
    loop [false, true] (step5 R wout xd h)
    loop [false, true] (step6 R wout xd h rs)
    step7 R acc h s1 s2 ss
    K ⟨⟩) := by
  simp only [layer, bind_assoc]

end Steps

theorem body_k (R : Dev nD → Rows) (x : Memref sig .tc .vmem S512x256 .f32)
    (wi0 : Memref sig .tc .vmem S256x512 .f32) (wo0 : Memref sig .tc .vmem S512x256 .f32)
    (wi1 : Memref sig .tc .vmem S256x512 .f32) (wo1 : Memref sig .tc .vmem S512x256 .f32)
    (wi2 : Memref sig .tc .vmem S256x512 .f32) (wo2 : Memref sig .tc .vmem S512x256 .f32)
    (out : Memref sig .tc .vmem S512x256 .f32) (acc h : Memref sig .tc .vmem S512x512 .f32)
    (xb : Memref sig .tc .vmem S512x256 .f32) (s1 s2 : Memref sig .tc .vmem S2x128x512 .f32)
    (ss rs : DmaSems sig S24) :
    body (F := F) R x wi0 wo0 wi1 wo1 wi2 wo2 out acc h xb s1 s2 ss rs = (do
  let d ← Prog.lift .deviceId
  semSignalWord (R d).pa (SemArray.scalar (sig.barrier 0 rfl) : Sems sig S_).sem 1#32
  semSignalWord (R d).pb (SemArray.scalar (sig.barrier 0 rfl) : Sems sig S_).sem 1#32
  semWaitWord (SemArray.scalar (sig.barrier 0 rfl) : Sems sig S_).sem 2#32
  layer (R d) 0 x wi0 wo0 xb acc h s1 s2 ss rs
  layer (R d) 1 xb wi1 wo1 xb acc h s1 s2 ss rs
  layer (R d) 2 xb wi2 wo2 out acc h s1 s2 ss rs
  pure ⟨⟩) := by
  simp only [body]
  congr

/-- The printed body is the program over tiles, at the printed offsets. -/
theorem printed_eq (arg0 : Memref sig .tc .vmem S512x256 .f32) (harg0 : arg0.IsWhole)
    (arg1 : Memref sig .tc .vmem S256x512 .f32) (harg1 : arg1.IsWhole)
    (arg2 : Memref sig .tc .vmem S512x256 .f32) (harg2 : arg2.IsWhole)
    (arg3 : Memref sig .tc .vmem S256x512 .f32) (harg3 : arg3.IsWhole)
    (arg4 : Memref sig .tc .vmem S512x256 .f32) (harg4 : arg4.IsWhole)
    (arg5 : Memref sig .tc .vmem S256x512 .f32) (harg5 : arg5.IsWhole)
    (arg6 : Memref sig .tc .vmem S512x256 .f32) (harg6 : arg6.IsWhole)
    (arg7 : Memref sig .tc .vmem S512x256 .f32) (harg7 : arg7.IsWhole)
    (arg8 : Memref sig .tc .vmem S512x512 .f32) (harg8 : arg8.IsWhole)
    (arg9 : Memref sig .tc .vmem S512x512 .f32) (harg9 : arg9.IsWhole)
    (arg10 : Memref sig .tc .vmem S512x256 .f32) (harg10 : arg10.IsWhole)
    (arg11 : Memref sig .tc .vmem S2x128x512 .f32) (harg11 : arg11.IsWhole)
    (arg12 : Memref sig .tc .vmem S2x128x512 .f32) (harg12 : arg12.IsWhole)
    (arg13 : DmaSems sig S24)
    (arg14 : DmaSems sig S24) :
    cc0_body (F := F) arg0 harg0 arg1 harg1 arg2 harg2 arg3 harg3 arg4 harg4 arg5 harg5 arg6 harg6 arg7 harg7 arg8 harg8 arg9 harg9 arg10 harg10 arg11 harg11 arg12 harg12 arg13 arg14 =
      body Rows.printed arg0 arg1 arg2 arg3 arg4 arg5 arg6 arg7 arg8 arg9 arg10 arg11 arg12 arg13 arg14 := by
  rw [whole_k]
  simp only [
    ↓part1_k, ↓part2_k, ↓part3_k, ↓part4_k, ↓part5_k, ↓part6_k, ↓part7_k, ↓part8_k, ↓part9_k,
    ↓part10_k, ↓part11_k, ↓part12_k, ↓part13_k, ↓part14_k, ↓part15_k, ↓part16_k, ↓part17_k,
    ↓part18_k, ↓part19_k, ↓part20_k, ↓part21_k, ↓part22_k, ↓part23_k, ↓part24_k, ↓part25_k,
    ↓part26_k, ↓part27_k, ↓part28_k, ↓part29_k, ↓part30_k, ↓part31_k, ↓part32_k, ↓part33_k,
    ↓part34_k, ↓part35_k, ↓part36_k, ↓part37_k, ↓part38_k, ↓part39_k, ↓part40_k, ↓part41_k,
    ↓part42_k, ↓part43_k, ↓part44_k, ↓part45_k, ↓part46_k, ↓part47_k, ↓part48_k, ↓part49_k,
    ↓part50_k, ↓part51_k, ↓part52_k, ↓part53_k, ↓part54_k, ↓part55_k, ↓part56_k, ↓part57_k,
    ↓part58_k, ↓part59_k, ↓part60_k, ↓part61_k, ↓part62_k, ↓part63_k, ↓part64_k, ↓part65_k,
    ↓part66_k, ↓part67_k, ↓part68_k, ↓part69_k, ↓part70_k, ↓part71_k, ↓part72_k, ↓part73_k,
    ↓part74_k, ↓part75_k, ↓part76_k, ↓part77_k, ↓part78_k, ↓part79_k, ↓part80_k, ↓part81_k,
    ↓part82_k, ↓part83_k, ↓part84_k, ↓part85_k, ↓part86_k, ↓part87_k, ↓part88_k, ↓part89_k,
    ↓part90_k]
  rw [body_k]
  simp only [↓layer_k, ↓step1_k, ↓step2_k, ↓step3_k, ↓step4_k, ↓step5_k, ↓step6_k, ↓step7_k,
    ↓loop_nil_k, ↓loop_cons_k, tiles, halfTiles]
  iterate 76
    refine lock (by
      first
      | with_reducible rfl
      | exact putSq_dot _ _ _ rfl) fun _ => ?_
  iterate 96
    refine lock (by
      first
      | with_reducible rfl
      | exact congrArg (putSq _ _ _) rfl) fun _ => ?_
  iterate 48
    refine lock (by
      first
      | with_reducible rfl
      | exact congrArg (putRow _ _ _) rfl) fun _ => ?_
  iterate 168
    refine lock (by
      first
      | with_reducible rfl
      | exact congrArg (putSq _ _ _) rfl) fun _ => ?_
  iterate 48
    refine lock (by
      first
      | with_reducible rfl
      | exact congrArg (putRow _ _ _) rfl) fun _ => ?_
  iterate 168
    refine lock (by
      first
      | with_reducible rfl
      | exact congrArg (putSq _ _ _) rfl) fun _ => ?_
  iterate 48
    refine lock (by
      first
      | with_reducible rfl
      | exact putRow_dot _ _ _ rfl) fun _ => ?_
  rfl

end Cert.KernelIdeal.Tp

end
-- ==== Proof.Device.lean ====
module

public import proofs.«01_k».proof.Proof.Deal
public import proofs.«01_k».proof.Proof.ProgEq

@[expose] public section

set_option maxRecDepth 16384

/-!
# The run

One device's body from what the launch deals it, then the run of the whole mesh.
-/

noncomputable section

namespace Cert.KernelIdeal.Tp

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.KernelIdeal Facts₀ Facts

variable {F : FTy → Type} [FloatOps F]

local notation "𝕄" => MT nD τ sig ℕ (Elt F) ℕ UU ℕ

/-! ## One device -/

section Device

variable (A : Inp F) (K : Dev nD × Cell → ℕ) (c : Dev nD)

/-- The rights of the copies, layer by layer and column by column. -/
theorem toks_cols :
    iprop((bigSep Finset.univ fun t : Ixx => cred (got c t))
        ∗ (bigSep Finset.univ fun t : Ixx => dutyTok ER (sendCell c t.2.1 t.2.2.1 t.2.2.2) t.1.val false)
        ∗ (bigSep Finset.univ fun t : Ixx => dutyTok ER (recvCell (peer t.2.1 t.2.2.1 c) t.2.1 t.2.2.1 t.2.2.2) t.1.val false))
      ⊢ iprop(bigL cols (Tok (F := F) c 0) ∗ bigL cols (Tok (F := F) c 1) ∗ bigL cols (Tok (F := F) c 2)) := by
  have h (l : Fin 3) : (bigSep Finset.univ fun j : Jx => tk (F := F) c l.val j.1 j.2.1 j.2.2) ⊢ bigL cols (Tok (F := F) c l.val) :=
    (Entails.of_eq (cols_eq fun s f q => tk (F := F) c l.val s f q)).trans (bigL_of_univ _)
  rw [← bigSep_sep', ← bigSep_sep', bigSep_univ_prod, thirds_eq]
  exact BIClass.sep_mono (h 0) (BIClass.sep_mono (h 1) (h 2))

theorem pos_cols (l : ℕ) : (bigSep Finset.univ fun j : Jx => pos (F := F) c l j.1 j.2.1 j.2.2) ⊢ bigL cols (colOf (pos (F := F) c l)) :=
  (Entails.of_eq (cols_eq (pos (F := F) c l))).trans (bigL_of_univ _)
theorem cols_pos (l : ℕ) : bigL cols (colOf (pos (F := F) c l)) ⊢ bigSep Finset.univ fun j : Jx => pos (F := F) c l j.1 j.2.1 j.2.2 :=
  (bigL_to_univ _).trans (Entails.of_eq (cols_eq (pos (F := F) c l)).symm)

/-- A column before the handshake, from the parts of the buffers and its rounds. -/
theorem col_init (q : Fin 4) :
    iprop(sqCol (F := F) c accM q ∗ sqCol (F := F) c hM q ∗ landCol (F := F) c s1M q ∗ landCol (F := F) c s2M q ∗ colOf (pos (F := F) c 0) q)
      ⊢ St0 (F := F) c q := by
  unfold sqCol landCol colOf St0 half lend1 lend2 pos
  iintro ⟨⟨A1, A2, A3, A4⟩, ⟨H1, H2, H3, H4⟩, ⟨L1, L2⟩, ⟨M1, M2⟩,
    ⟨⟨P1, #P2, P3, #P4⟩, ⟨P5, #P6, P7, #P8⟩, ⟨P9, #P10, P11, #P12⟩⟩, ⟨⟨Q1, #Q2, Q3, #Q4⟩, ⟨Q5, #Q6, Q7, #Q8⟩, ⟨Q9, #Q10, Q11, #Q12⟩⟩⟩
  isplitl [A1 A2 A3 A4 H1 H2 H3 H4 M2 P1 P3 P5 P7 P9 P11 Q1 Q3 Q5 Q7 Q9 Q11]
  · isplitl [A1 A3 H1 H3 P1 P3 P5 P7 P9 P11]
    · isplitl [A1]; · iexact A1
      isplitl [A3]; · iexact A3
      isplitl [H1]; · iexact H1
      isplitl [H3]; · iexact H3
      isplitl [P1 P3]
      · isplitl [P1]; · iexact P1
        isplitr; · iexact P2
        isplitl [P3]; · iexact P3
        iexact P4
      isplitl [P5 P7]
      · isplitl [P5]; · iexact P5
        isplitr; · iexact P6
        isplitl [P7]; · iexact P7
        iexact P8
      isplitl [P9]; · iexact P9
      isplitr; · iexact P10
      isplitl [P11]; · iexact P11
      iexact P12
    isplitl [A2 A4 H2 H4 Q1 Q3 Q5 Q7 Q9 Q11]
    · isplitl [A2]; · iexact A2
      isplitl [A4]; · iexact A4
      isplitl [H2]; · iexact H2
      isplitl [H4]; · iexact H4
      isplitl [Q1 Q3]
      · isplitl [Q1]; · iexact Q1
        isplitr; · iexact Q2
        isplitl [Q3]; · iexact Q3
        iexact Q4
      isplitl [Q5 Q7]
      · isplitl [Q5]; · iexact Q5
        isplitr; · iexact Q6
        isplitl [Q7]; · iexact Q7
        iexact Q8
      isplitl [Q9]; · iexact Q9
      isplitr; · iexact Q10
      isplitl [Q11]; · iexact Q11
      iexact Q12
    isplitl [M2]; · iexact M2
    iexact Q8
  isplitl [L1]
  · isplitl [L1]; · iexact L1
    iexact P4
  isplitl [L2]
  · isplitl [L2]; · iexact L2
    iexact Q4
  isplitl [M1]; · iexact M1
  iexact P8

/-- The parts of the buffers and the rounds, from a column after the last layer. -/
theorem col_fini (q : Fin 4) :
    St (F := F) c 3 q
      ⊢ iprop(sqCol (F := F) c accM q ∗ sqCol (F := F) c hM q ∗ landCol (F := F) c s1M q ∗ landCol (F := F) c s2M q ∗ colOf (pos (F := F) c 3) q) := by
  unfold sqCol landCol colOf St half lend2 landSt
  rw [if_neg (by decide : ¬ (3 < 3))]
  iintro ⟨⟨A1, A3, H1, H3, P⟩, ⟨A2, A4, H2, H4, Q⟩, ⟨M2, -⟩, L1, L2, M1⟩
  isplitl [A1 A2 A3 A4]
  · isplitl [A1]; · iexact A1
    isplitl [A2]; · iexact A2
    isplitl [A3]; · iexact A3
    iexact A4
  isplitl [H1 H2 H3 H4]
  · isplitl [H1]; · iexact H1
    isplitl [H2]; · iexact H2
    isplitl [H3]; · iexact H3
    iexact H4
  isplitl [L1 L2]
  · isplitl [L1]; · iexact L1
    iexact L2
  isplitl [M1 M2]
  · isplitl [M1]; · iexact M1
    iexact M2
  isplitl [P]; · iexact P
  iexact Q

/-- The kernel's own buffers, whatever they hold. -/
def scratch : sProp 𝕄 :=
  iprop(anyOwn (F := F) c accM ∗ anyOwn (F := F) c hM ∗ anyOwn (F := F) c xbM ∗ anyOwn (F := F) c s1M ∗ anyOwn (F := F) c s2M)

theorem cols_init :
    iprop(anyOwn (F := F) c accM ∗ anyOwn (F := F) c hM ∗ anyOwn (F := F) c s1M ∗ anyOwn (F := F) c s2M
        ∗ bigSep Finset.univ fun j : Jx => pos (F := F) c 0 j.1 j.2.1 j.2.2)
      ⊢ bigL cols (St0 (F := F) c) := by
  refine .trans (BIClass.sep_mono (sq_split c accM) (BIClass.sep_mono (sq_split c hM) (BIClass.sep_mono (land_split c s1M)
    (BIClass.sep_mono (land_split c s2M) (pos_cols c 0))))) ?_
  refine .trans (BIClass.sep_mono .rfl (BIClass.sep_mono .rfl (BIClass.sep_mono .rfl (bigL_join _ _ _)))) ?_
  refine .trans (BIClass.sep_mono .rfl (BIClass.sep_mono .rfl (bigL_join _ _ _))) ?_
  refine .trans (BIClass.sep_mono .rfl (bigL_join _ _ _)) ?_
  exact (bigL_join _ _ _).trans (bigL_mono (fun q => col_init c q) cols)

theorem cols_fini :
    bigL cols (St (F := F) c 3)
      ⊢ iprop(anyOwn (F := F) c accM ∗ anyOwn (F := F) c hM ∗ anyOwn (F := F) c s1M ∗ anyOwn (F := F) c s2M
        ∗ bigSep Finset.univ fun j : Jx => pos (F := F) c 3 j.1 j.2.1 j.2.2) := by
  refine .trans ((bigL_mono (fun q => col_fini c q) cols).trans (bigL_sep _ _ _)) ?_
  refine BIClass.sep_mono (sq_join c accM) ((bigL_sep _ _ _).trans ?_)
  refine BIClass.sep_mono (sq_join c hM) ((bigL_sep _ _ _).trans ?_)
  refine BIClass.sep_mono (land_join c s1M) ((bigL_sep _ _ _).trans ?_)
  exact BIClass.sep_mono (land_join c s2M) (cols_pos c 3)

/-- The arguments of the call on a device. -/
def args (x : Memref sig .tc .vmem S512x256 .f32)
    (wi0 : Memref sig .tc .vmem S256x512 .f32) (wo0 : Memref sig .tc .vmem S512x256 .f32)
    (wi1 : Memref sig .tc .vmem S256x512 .f32) (wo1 : Memref sig .tc .vmem S512x256 .f32)
    (wi2 : Memref sig .tc .vmem S256x512 .f32) (wo2 : Memref sig .tc .vmem S512x256 .f32) : sProp 𝕄 :=
  iprop(owns (c : Thread nD τ) x fullShare (A.x c)
    ∗ (owns (c : Thread nD τ) wi0 fullShare (A.wi 0 c) ∗ owns (c : Thread nD τ) wo0 fullShare (A.wo 0 c))
    ∗ (owns (c : Thread nD τ) wi1 fullShare (A.wi 1 c) ∗ owns (c : Thread nD τ) wo1 fullShare (A.wo 1 c))
    ∗ (owns (c : Thread nD τ) wi2 fullShare (A.wi 2 c) ∗ owns (c : Thread nD τ) wo2 fullShare (A.wo 2 c)))

/-- The levels and the credit a device starts with, besides its rights. -/
def start : sProp 𝕄 :=
  iprop((∃ K, ghost A K c) ∗ cred (tallyAt (barCell c) 0 2) ∗ (bigSep Finset.univ fun t : Ixx => cred (got c t)) ∗ levAts Lx lv)

/-- The body of a device: from its launch state and its arguments to the result. -/
theorem device_rule (W : Waits sig ℕ) (x : Memref sig .tc .vmem S512x256 .f32)
    (wi0 : Memref sig .tc .vmem S256x512 .f32) (wo0 : Memref sig .tc .vmem S512x256 .f32)
    (wi1 : Memref sig .tc .vmem S256x512 .f32) (wo1 : Memref sig .tc .vmem S512x256 .f32)
    (wi2 : Memref sig .tc .vmem S256x512 .f32) (wo2 : Memref sig .tc .vmem S512x256 .f32)
    (out : Memref sig .tc .vmem S512x256 .f32) (Φ : PUnit → sProp 𝕄) :
    iprop(start A c ∗ scratch (F := F) c ∗ owes (c : Thread nD τ) (O₀ c) W ∗ args A c x wi0 wo0 wi1 wo1 wi2 wo2 ∗ anyOwn (F := F) c out)
      ⊢ iprop(((unscopedSems0 c ∗ Pipeline.ownSems0 (Ix := ℕ) (Name := ℕ) (U := UU) (Lvl := ℕ) (Val := Elt F) (τ := τ) osem c
            ∗ scratch (F := F) c ∗ Ow (F := F) c [] ∗ args A c x wi0 wo0 wi1 wo1 wi2 wo2
            ∗ owns (c : Thread nD τ) out fullShare (A.flat 3 c)) -∗ Φ ⟨⟩)
        -∗ WP c (body Rows.closed x wi0 wo0 wi1 wo1 wi2 wo2 out accM hM xbM s1M s2M sendS recvS) Φ) := by
  unfold start ghost rights scratch args
  iintro ⟨⟨⟨%K, #HI, ⟨Hb, #Hra, #Hrb⟩, Hp, ⟨HtA, HtB⟩, HtS, HtR⟩, HcB, HcR, #Hlev⟩, ⟨Ha, Hh, Hxb, H1, H2⟩, HO, ⟨Hx, Hw0, Hw1, Hw2⟩, Hout⟩
  iintro HK
  iapply (wp_fupd frame (wpE (defs₀ (F := F)) 𝒱₀ (c : Thread nD τ) none) Set.univ _ Φ)
  ihave Hst := (cols_init (F := F) c) $$ [Ha Hh H1 H2 Hp]
  · isplitl [Ha]; · iexact Ha
    isplitl [Hh]; · iexact Hh
    isplitl [H1]; · iexact H1
    isplitl [H2]; · iexact H2
    iexact Hp
  ihave Htok := (toks_cols (F := F) c) $$ [HcR HtS HtR]
  · isplitl [HcR]; · iexact HcR
    isplitl [HtS]; · iexact HtS
    iexact HtR
  iapply (body_rule A K c W x wi0 wo0 wi1 wo1 wi2 wo2 out _) $$ [Hst Htok Hb HtA HtB HcB HO Hx Hxb Hout Hw0 Hw1 Hw2]
  · isplitr
    · unfold Ctx; isplitr; · iexact HI
      iexact Hlev
    isplitl [Hb HtA HtB HcB]
    · unfold Shake
      isplitl [HcB]; · iexact HcB
      isplitl [Hb]; · iexact Hb
      isplitl [HtA]; · iexact HtA
      isplitr; · iexact Hra
      isplitl [HtB]; · iexact HtB
      iexact Hrb
    isplitl [Hst]; · iexact Hst
    isplitl [HO]; · iexact HO
    isplitl [Htok]; · iexact Htok
    isplitl [Hx]; · iapply (rows_x A c x); iexact Hx
    isplitl [Hxb]; · iapply (rows_any c xbM); iexact Hxb
    isplitl [Hout]; · iapply (rows_any c out); iexact Hout
    isplitl [Hw0]; · iexact Hw0
    isplitl [Hw1]; · iexact Hw1
    iexact Hw2
  iintro ⟨Hst, Hb, HO, Hx, Hxb, Hout, Hw0, Hw1, Hw2⟩
  ihave Hst := (cols_fini (F := F) c) $$ Hst
  icases Hst with ⟨Ha, Hh, H1, H2, Hp⟩
  imod (close_all A K c) $$ [Hb Hp] with ⟨Hu, Hs⟩
  · isplitr
    · unfold Ctx; isplitr; · iexact HI
      iexact Hlev
    isplitl [Hb]; · iexact Hb
    iexact Hp
  imodintro
  iapply HK
  isplitl [Hu]; · iexact Hu
  isplitl [Hs]; · iexact Hs
  isplitl [Ha Hh Hxb H1 H2]
  · isplitl [Ha]; · iexact Ha
    isplitl [Hh]; · iexact Hh
    isplitl [Hxb]; · iapply (any_rows c xbM); iexact Hxb
    isplitl [H1]; · iexact H1
    iexact H2
  isplitl [HO]; · iexact HO
  isplitl [Hx Hw0 Hw1 Hw2]
  · isplitl [Hx]; · iapply (x_rows A c x); iexact Hx
    isplitl [Hw0]; · iexact Hw0
    isplitl [Hw1]; · iexact Hw1
    iexact Hw2
  iapply (flat_rows A c 3 out); iexact Hout

end Device

end Cert.KernelIdeal.Tp

end
-- ==== Proof.Launch.lean ====
module

public import proofs.«01_k».proof.Proof.Device
public import Idealize.ShloMosaic.Lib.Pipeline.CollectiveSegs

@[expose] public section

set_option maxRecDepth 16384

/-!
# The launch

The proof data of the call, the body obligation and the run of the mesh.
-/

noncomputable section

namespace Cert.KernelIdeal.Tp

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.KernelIdeal Facts₀ Facts

variable {F : FTy → Type} [FloatOps F]

local notation "𝕄" => MT nD τ sig ℕ (Elt F) ℕ UU ℕ

variable (m : (ℓ : Loc nD τ sig) → Buf (Elt F) ℓ) (ρ : Dev nD → PrngReg)

/-- The memory the mesh starts from. -/
def s₀ : MemSt nD τ sig (Elt F) := ⟨m, fun _ => 0, ρ⟩

/-- The arguments each device finds in memory. -/
def inp : Inp F where
  x := fun c => m ((c : Thread nD τ).loc main_arg0)
  wi := fun l c => match l with
    | 0 => m ((c : Thread nD τ).loc main_arg1)
    | 1 => m ((c : Thread nD τ).loc main_arg2)
    | _ => m ((c : Thread nD τ).loc main_arg3)
  wo := fun l c => match l with
    | 0 => m ((c : Thread nD τ).loc main_arg4)
    | 1 => m ((c : Thread nD τ).loc main_arg5)
    | _ => m ((c : Thread nD τ).loc main_arg6)

/-- The invariant before the body and after it. -/
def Φ₀ (c : Dev nD) : sProp 𝕄 := iprop(start (inp m) c ∗ scratch (F := F) c)
@[inherit_doc Φ₀]
def Φ₁ (c : Dev nD) : sProp 𝕄 :=
  iprop(unscopedSems0 c ∗ Pipeline.ownSems0 (Ix := ℕ) (Name := ℕ) (U := UU) (Lvl := ℕ) (Val := Elt F) (τ := τ) osem c ∗ scratch (F := F) c)

/-- The proof data of the call on a device. -/
def dats (_ : Fin 1) (c : Dev nD) : Dat τ (Elt F) ℕ ℕ UU ℕ cfg0 c where
  A := fun w => m ((cfg0.win w).arr.view.loc (c : Thread nD τ))
  after := fun w _ => match w with
    | 0 => m ((c : Thread nD τ).loc main_arg0)
    | 1 => m ((c : Thread nD τ).loc main_arg1)
    | 2 => m ((c : Thread nD τ).loc main_arg4)
    | 3 => m ((c : Thread nD τ).loc main_arg2)
    | 4 => m ((c : Thread nD τ).loc main_arg5)
    | 5 => m ((c : Thread nD τ).loc main_arg3)
    | 6 => m ((c : Thread nD τ).loc main_arg6)
    | 7 => (inp m).flat 3 c
    | ⟨_ + 8, h⟩ => absurd h (Nat.not_lt.2 (Nat.le_add_left _ _))
  Φ := fun t => match t with | ⟨0, _⟩ => Φ₀ m c | ⟨_ + 1, _⟩ => Φ₁ (F := F) c
  q := fun _ => fullShare
  owed := fun t => match t with | ⟨0, _⟩ => O₀ c | ⟨_ + 1, _⟩ => 0

abbrev t₀ : Fin cfg0.N := Gen.t0_0

/-! ## Blocks that are whole arrays -/

theorem blk0 (f : (Ref.ty (sig := sig) main_arg0).Contents (Elt F)) : (win0_0.blk t₀).view.read (Elt F) f = f :=
  Memref.read_access_unit_zero (Elt F) main_arg0 (funext fun a => by fin_cases a <;> decide) _ f
theorem blk1 (f : (Ref.ty (sig := sig) main_arg1).Contents (Elt F)) : (win0_1.blk t₀).view.read (Elt F) f = f :=
  Memref.read_access_unit_zero (Elt F) main_arg1 (funext fun a => by fin_cases a <;> decide) _ f
theorem blk2 (f : (Ref.ty (sig := sig) main_arg4).Contents (Elt F)) : (win0_2.blk t₀).view.read (Elt F) f = f :=
  Memref.read_access_unit_zero (Elt F) main_arg4 (funext fun a => by fin_cases a <;> decide) _ f
theorem blk3 (f : (Ref.ty (sig := sig) main_arg2).Contents (Elt F)) : (win0_3.blk t₀).view.read (Elt F) f = f :=
  Memref.read_access_unit_zero (Elt F) main_arg2 (funext fun a => by fin_cases a <;> decide) _ f
theorem blk4 (f : (Ref.ty (sig := sig) main_arg5).Contents (Elt F)) : (win0_4.blk t₀).view.read (Elt F) f = f :=
  Memref.read_access_unit_zero (Elt F) main_arg5 (funext fun a => by fin_cases a <;> decide) _ f
theorem blk5 (f : (Ref.ty (sig := sig) main_arg3).Contents (Elt F)) : (win0_5.blk t₀).view.read (Elt F) f = f :=
  Memref.read_access_unit_zero (Elt F) main_arg3 (funext fun a => by fin_cases a <;> decide) _ f
theorem blk6 (f : (Ref.ty (sig := sig) main_arg6).Contents (Elt F)) : (win0_6.blk t₀).view.read (Elt F) f = f :=
  Memref.read_access_unit_zero (Elt F) main_arg6 (funext fun a => by fin_cases a <;> decide) _ f
theorem blk7 (f : (Ref.ty (sig := sig) main_v1).Contents (Elt F)) : (win0_7.blk t₀).view.read (Elt F) f = f :=
  Memref.read_access_unit_zero (Elt F) main_v1 (funext fun a => by fin_cases a <;> decide) _ f

theorem before0 (c : Dev nD) (d) : (dats m 0 c).before (0 : Fin 8) t₀ d = (inp m).x c := by
  unfold Dat.before; rw [if_pos (by decide)]; exact blk0 (F := F) _
theorem before1 (c : Dev nD) (d) : (dats m 0 c).before (1 : Fin 8) t₀ d = (inp m).wi 0 c := by
  unfold Dat.before; rw [if_pos (by decide)]; exact blk1 (F := F) _
theorem before2 (c : Dev nD) (d) : (dats m 0 c).before (2 : Fin 8) t₀ d = (inp m).wo 0 c := by
  unfold Dat.before; rw [if_pos (by decide)]; exact blk2 (F := F) _
theorem before3 (c : Dev nD) (d) : (dats m 0 c).before (3 : Fin 8) t₀ d = (inp m).wi 1 c := by
  unfold Dat.before; rw [if_pos (by decide)]; exact blk3 (F := F) _
theorem before4 (c : Dev nD) (d) : (dats m 0 c).before (4 : Fin 8) t₀ d = (inp m).wo 1 c := by
  unfold Dat.before; rw [if_pos (by decide)]; exact blk4 (F := F) _
theorem before5 (c : Dev nD) (d) : (dats m 0 c).before (5 : Fin 8) t₀ d = (inp m).wi 2 c := by
  unfold Dat.before; rw [if_pos (by decide)]; exact blk5 (F := F) _
theorem before6 (c : Dev nD) (d) : (dats m 0 c).before (6 : Fin 8) t₀ d = (inp m).wo 2 c := by
  unfold Dat.before; rw [if_pos (by decide)]; exact blk6 (F := F) _

attribute [local irreducible] cc0_body

/-! ## The body obligation -/

section Body

variable (c : Dev nD)

/-- What the body is given, window by window. -/
def bodyPre : sProp 𝕄 :=
  iprop(Φ₀ m c ∗ (dats m 0 c).owesAt 0 t₀.castSucc
    ∗ (∃ d, owns (c : Thread nD τ) (Memref.whole cc0_stg0_0) fullShare ((dats m 0 c).before (0 : Fin 8) t₀ d))
    ∗ (∃ d, owns (c : Thread nD τ) (Memref.whole cc0_stg1_0) fullShare ((dats m 0 c).before (1 : Fin 8) t₀ d))
    ∗ (∃ d, owns (c : Thread nD τ) (Memref.whole cc0_stg2_0) fullShare ((dats m 0 c).before (2 : Fin 8) t₀ d))
    ∗ (∃ d, owns (c : Thread nD τ) (Memref.whole cc0_stg3_0) fullShare ((dats m 0 c).before (3 : Fin 8) t₀ d))
    ∗ (∃ d, owns (c : Thread nD τ) (Memref.whole cc0_stg4_0) fullShare ((dats m 0 c).before (4 : Fin 8) t₀ d))
    ∗ (∃ d, owns (c : Thread nD τ) (Memref.whole cc0_stg5_0) fullShare ((dats m 0 c).before (5 : Fin 8) t₀ d))
    ∗ (∃ d, owns (c : Thread nD τ) (Memref.whole cc0_stg6_0) fullShare ((dats m 0 c).before (6 : Fin 8) t₀ d))
    ∗ (∃ d, owns (c : Thread nD τ) (Memref.whole cc0_stg7_0) fullShare ((dats m 0 c).before (7 : Fin 8) t₀ d)))

/-- What the body leaves, window by window. -/
def bodyPost : sProp 𝕄 :=
  iprop(Φ₁ (F := F) c ∗ (dats m 0 c).owesAt 0 t₀.succ
    ∗ owns (c : Thread nD τ) (Memref.whole cc0_stg0_0) fullShare ((inp m).x c)
    ∗ owns (c : Thread nD τ) (Memref.whole cc0_stg1_0) fullShare ((inp m).wi 0 c)
    ∗ owns (c : Thread nD τ) (Memref.whole cc0_stg2_0) fullShare ((inp m).wo 0 c)
    ∗ owns (c : Thread nD τ) (Memref.whole cc0_stg3_0) fullShare ((inp m).wi 1 c)
    ∗ owns (c : Thread nD τ) (Memref.whole cc0_stg4_0) fullShare ((inp m).wo 1 c)
    ∗ owns (c : Thread nD τ) (Memref.whole cc0_stg5_0) fullShare ((inp m).wi 2 c)
    ∗ owns (c : Thread nD τ) (Memref.whole cc0_stg6_0) fullShare ((inp m).wo 2 c)
    ∗ owns (c : Thread nD τ) (Memref.whole cc0_stg7_0) fullShare ((inp m).flat 3 c))

/-- The body, from what it is given to what it leaves. -/
theorem device_body :
    bodyPre m c ⊢ WP c (body Rows.closed (Memref.whole cc0_stg0_0) (Memref.whole cc0_stg1_0) (Memref.whole cc0_stg2_0) (Memref.whole cc0_stg3_0)
      (Memref.whole cc0_stg4_0) (Memref.whole cc0_stg5_0) (Memref.whole cc0_stg6_0) (Memref.whole cc0_stg7_0) accM hM xbM s1M s2M sendS recvS)
      (fun _ => bodyPost m c) := by
  unfold bodyPre Φ₀ Dat.owesAt Pipeline.owesWithin
  simp only [before0, before1, before2, before3, before4, before5, before6]
  rw [show (dats m 0 c).owed t₀.castSucc = O₀ c from rfl]
  iintro ⟨⟨Hs, Hscr⟩, ⟨%W, %hW, HO⟩, ⟨%d0, H0⟩, ⟨%d1, H1⟩, ⟨%d2, H2⟩, ⟨%d3, H3⟩, ⟨%d4, H4⟩, ⟨%d5, H5⟩, ⟨%d6, H6⟩, ⟨%d7, H7⟩⟩
  iapply (device_rule (inp m) c W (Memref.whole cc0_stg0_0) (Memref.whole cc0_stg1_0) (Memref.whole cc0_stg2_0) (Memref.whole cc0_stg3_0)
      (Memref.whole cc0_stg4_0) (Memref.whole cc0_stg5_0) (Memref.whole cc0_stg6_0) (Memref.whole cc0_stg7_0) (fun _ => bodyPost m c))
    $$ [Hs Hscr HO H0 H1 H2 H3 H4 H5 H6 H7]
  · isplitl [Hs]; · iexact Hs
    isplitl [Hscr]; · iexact Hscr
    isplitl [HO]; · iexact HO
    isplitl [H0 H1 H2 H3 H4 H5 H6]
    · unfold args
      isplitl [H0]; · iexact H0
      isplitl [H1 H2]; · isplitl [H1] <;> iassumption
      isplitl [H3 H4]; · isplitl [H3] <;> iassumption
      isplitl [H5] <;> iassumption
    iexists _; iexact H7
  unfold bodyPost Φ₁ args Ow Dat.owesAt Pipeline.owesWithin
  rw [show (dats m 0 c).owed t₀.succ = 0 from rfl]
  iintro ⟨Hu, Hsm, Hscr, ⟨%W', HO⟩, ⟨H0, ⟨H1, H2⟩, ⟨H3, H4⟩, ⟨H5, H6⟩⟩, H7⟩
  isplitl [Hu Hsm Hscr]
  · isplitl [Hu]; · iexact Hu
    isplitl [Hsm] <;> iassumption
  isplitl [HO]
  · iexists W'
    isplitr; · ipureintro; exact fun _ _ => Or.inl trivial
    iexact HO
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body the program calls is the body over tiles. -/
theorem body_obligation : BodyObligation (dats (F := F) m 0 c) (defs₀ (F := F)) 𝒱₀ 0 Set.univ := fun t => by
  rw [show t = t₀ from Gen.fin_N0 t]
  rw [Gen.bigSep_W0, Gen.bigSep_W0]
  show bodyPre m c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_stg2_0) (Memref.isWhole_whole _) (Memref.whole cc0_stg3_0) (Memref.isWhole_whole _)
      (Memref.whole cc0_stg4_0) (Memref.isWhole_whole _) (Memref.whole cc0_stg5_0) (Memref.isWhole_whole _)
      (Memref.whole cc0_stg6_0) (Memref.isWhole_whole _) (Memref.whole cc0_stg7_0) (Memref.isWhole_whole _)
      (Memref.whole cc0_scratch0) (Memref.isWhole_whole _) (Memref.whole cc0_scratch1) (Memref.isWhole_whole _)
      (Memref.whole cc0_scratch2) (Memref.isWhole_whole _) (Memref.whole cc0_scratch3) (Memref.isWhole_whole _)
      (Memref.whole cc0_scratch4) (Memref.isWhole_whole _) cc0_scratch5 cc0_scratch6) (fun _ => bodyPost m c)
  refine (device_body m c).trans (Entails.of_eq (congrArg (fun p => WP c p (fun _ => bodyPost m c)) ?_))
  exact ((printed_eq _ _ _ _ _ _ _ _ _ _ _ _ _ _ _ _ _ _ _ _ _ _ _ _ _ _ _ _).trans
    (congrArg (fun R => body R _ _ _ _ _ _ _ _ _ _ _ _ _ _ _) printed_closed)).symm

end Body

/-! ## The run -/

theorem ownSemFacts : Pipeline.OwnSemFacts cfg0.spec osem := by decide +kernel

theorem share_eq (c : Dev nD) (w : Fin cfg0.W) : (dats m 0 c).share w = fullShare := by unfold Dat.share; split <;> rfl

theorem whole_any (c : Dev nD) (b : Ref sig .tc) (f : Buf (Elt F) ((c : Thread nD τ).loc b)) :
    (owns (c : Thread nD τ) (Memref.whole b) fullShare f : sProp 𝕄) = (((c : Thread nD τ).loc b) ↦{fullShare} f) := by
  unfold owns; simp only [Memref.view_whole, View.read_whole, View.set_whole]
  have h1 : iprop(∃ g : Buf (Elt F) ((c : Thread nD τ).loc b), ⌜g = f⌝ ∗ (((c : Thread nD τ).loc b) ↦{fullShare} g))
      ⊢ (((c : Thread nD τ).loc b) ↦{fullShare} f : sProp 𝕄) := by
    iintro ⟨%g, %h, H⟩
    subst h; iexact H
  have h2 : (((c : Thread nD τ).loc b) ↦{fullShare} f : sProp 𝕄)
      ⊢ iprop(∃ g : Buf (Elt F) ((c : Thread nD τ).loc b), ⌜g = f⌝ ∗ (((c : Thread nD τ).loc b) ↦{fullShare} g)) := by
    iintro H
    iexists f; isplitr; · ipureintro; rfl
    iexact H
  exact Entails.antisymm h1 h2

/-- The kernel's own buffers are the scoped ones of the call. -/
theorem scratch_eq (c : Dev nD) :
    (Pipeline.scopedRest (Ix := ℕ) (Name := ℕ) (U := UU) (Lvl := ℕ) (Val := Elt F) cfg0.spec c : sProp 𝕄) = scratch (F := F) c := by
  rw [show cfg0.spec = spec0 from rfl, Gen.scopedRest0_eq]
  unfold scratch anyOwn
  simp only [← whole_any]
  rfl

theorem start_intro (c : Dev nD) :
    iprop(Pipeline.unscopedRestP Pipeline.Prefetch.none cfg0.spec c (fun b => m ((c : Thread nD τ).loc b)) ∗ levAts Lx lv
        ∗ Pipeline.launchCred O₀ c ∗ prngReg c (ρ c) ∗ G' (inp m) c)
      ⊢ |={Set.univ}=> iprop(start (inp m) c ∗ emp) := by
  iintro ⟨-, Hlev, Hcr, -, HG⟩
  ihave Hc := (creds (F := F) c) $$ Hcr
  icases Hc with ⟨HB, HR⟩
  imodintro
  unfold start G'
  isplitl
  · isplitl [HG]; · iexact HG
    isplitl [HB]; · iexact HB
    isplitl [HR]; · iexact HR
    iexact Hlev
  · iempintro

theorem phi0_intro (c : Dev nD) :
    iprop(start (inp m) c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scratch_eq]
  unfold Φ₀
  iintro ⟨Hs, -, Hr⟩
  isplitl [Hs] <;> iassumption

theorem phi1_exit (c : Dev nD) :
    (dats m 0 c).Φ (Fin.last cfg0.N) ⊢ iprop(unscopedSems0 c ∗ Pipeline.ownSems0 osem c ∗ Pipeline.scopedRest cfg0.spec c) := by
  rw [show (dats m 0 c).Φ (Fin.last cfg0.N) = Φ₁ (F := F) c from rfl, scratch_eq]
  unfold Φ₁
  iintro H; iexact H

/-- The waits of the call's own transfers lie below all that is owed. -/
theorem mayWait_stage (c : Dev nD) (q : DmaSem sig) (hq : decode (SemLoc.dma q) = none) (O : CellTallies nD τ sig ℕ) (hO : O = O₀ c ∨ O = 0) :
    (levAts Lx lv : sProp 𝕄) ⊢ MayWait (c : Thread nD τ) (.dma q) 0 O := by
  rcases hO with rfl | rfl
  · have hp (g : GSem nD τ sig) (u : ℕ) (hg : 0 < O₀ c g u) : u ∈ Lx g ∧ 0 < lv g u := by
      unfold O₀ at hg
      rw [Pi.add_apply, Finsupp.add_apply, Pi.add_apply, Finsupp.add_apply, tallyAt_apply, tallyAt_apply] at hg
      by_cases h1 : g = barCell (pA c) ∧ u = 0
      · obtain ⟨rfl, rfl⟩ := h1
        exact ⟨by rw [Lx_tc]; decide, by rw [lv_bar]; decide⟩
      by_cases h2 : g = barCell (pB c) ∧ u = 0
      · obtain ⟨rfl, rfl⟩ := h2
        exact ⟨by rw [Lx_tc]; decide, by rw [lv_bar]; decide⟩
      rw [if_neg h1, if_neg h2] at hg
      obtain ⟨t, ht, rfl, rfl⟩ := dueSum_pos (by omega : 0 < dueSum c D0 g u)
      refine ⟨?_, ?_⟩
      · rw [Lx_tc]; exact Finset.mem_range.mpr (above_D0 t ht).1
      · rw [lv_recv]; omega
    exact MayOwe.of_cut (L := Lx) (lev := lv) 0 (fun p hp => by rw [Finset.mem_singleton.mp hp, Lx_tc]; exact Finset.mem_range.mpr (by decide : 0 < 3))
      (fun g u hg => (hp g u hg).1)
      (fun p hp => by rw [Finset.mem_singleton.mp hp]; unfold lv; rw [hq])
      (fun g u hg => (hp g u hg).2)
  · rw [MayWait_zero]; iintro -; iempintro

theorem waits (c : Dev nD) : (levAts Lx lv : sProp 𝕄) ⊢ Pipeline.cellsWaits cfgs (dats m) 0 0 c :=
  Pipeline.cellsWaits_intro cfgs (dats m) 0 0 c fun w s t =>
    mayWait_stage c _ (by fin_cases w <;> fin_cases s <;> decide) _ (by
      rcases t with ⟨_ | _, ht⟩
      · exact Or.inl rfl
      · exact Or.inr rfl)

/-- What an array holds after the run. -/
def finalA (c : Dev nD) (w : Fin cfg0.W) : Buf (Elt F) ((cfg0.win w).arr.view.loc (c : Thread nD τ)) := (dats m 0 c).arrAt w cfg0.N

/-- Every window's array holds what the proof data says. -/
def QC : PUnit × MemSt nD τ sig (Elt F) → Prop := fun r =>
  ∀ c : Dev nD, ∀ w : Fin cfg0.W, r.2.mem ((cfg0.win w).arr.view.loc (c : Thread nD τ)) = finalA m c w

/-- Every fair run of the four devices ends, with the arrays as computed and every counter at zero. -/
theorem run_main : θ_run defs (onTc (τ := τ) (main (F := F))) (s₀ m ρ) (fun r => QC m r ∧ r.2.sem = fun _ => 0) :=
  Pipeline.θ_run_region_owing_glob_pf (fun p => (cfgs p).toPCfg) (fun p => (cfgs p).toPCfg_adm) (dats m) 0 Gen.cellOf_inj (0 : Fin 1)
    Gen.winFacts0.to₀ ownSemFacts (Pipeline.PreFacts.none _) EP defs₀ 𝒱₀ m ρ main
    (hmain := fun _ => rfl)
    (hbody := body_obligation m) (hne := fun w => by fin_cases w <;> exact Nat.succ_pos _) (harr := Gen.arr_whole0) (hstage := Gen.stage_whole0) (hshare := share_eq m)
    (hdistinct := Gen.winFacts0.arr_inj)
    (O₀ := O₀) (howed₀ := fun _ => rfl) (howedN := fun _ => rfl)
    (L := Lx) (lv := lv) (hL := Lx_of_ne) (hwaits := waits m)
    (G := G (inp m)) (G' := G' (inp m)) (u₀ := u₀)
    (hu₀ := by
      unfold u₀
      iintro Hu
      ihave H := (ownU_pair _ _) $$ Hu
      icases H with ⟨HP, HX⟩
      imod (fund (inp m)) $$ HX with HG
      imodintro
      isplitl [HP] <;> iassumption)
    (hglob := glob (inp m))
    (hA := fun _ _ => rfl) (hpf := fun _ k => k.elim0)
    (X := start (inp m)) (Y := fun c => unscopedSems0 c) (Z := fun _ => iprop(emp))
    (hX := start_intro m ρ) (hin := phi0_intro m) (hout := phi1_exit m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- An argument's array is unchanged. -/
theorem finalA_in (c : Dev nD) (w : Fin cfg0.W) (h : (cfg0.win w).isOut = false) :
    finalA m c w = m ((cfg0.win w).arr.view.loc (c : Thread nD τ)) :=
  (dats (F := F) m 0 c).arrAt_in w h _

/-- The result's array holds the last layer's rows. -/
theorem finalA_out (c : Dev nD) : finalA m c (7 : Fin 8) = (inp m).flat 3 c := by
  unfold finalA
  rw [show cfg0.N = (t₀ : Fin cfg0.N).val + 1 from rfl, (dats m 0 c).arrAt_succ (7 : Fin 8) t₀,
    show (cfg0.win (7 : Fin 8)).flush t₀ = true from by decide, if_pos rfl]
  exact (blk7 (F := F) _).symm.trans (View.read_write_univ _ _)

end Cert.KernelIdeal.Tp

end
-- ==== Proof.Same.lean ====
module

public import proofs.«01_k».proof.Defs
public import proofs.«01_k».proof.Proof.Launch
public import proofs.«01_k».proof.Proof.Gen.Kernel

@[expose] public section

set_option maxRecDepth 100000

/-!
# The two texts of the kernel are one program

No operation is rewritten between the two texts, so what one runs the other runs, and both return
their arguments with every counter at zero.
-/

noncomputable section

namespace Cert.Same

open Idealize.ShloMosaic Idealize.SL.Sem
open Idealize.ShloMosaic.TcCoe

attribute [local instance] Cert.Kernel.Gen.facts Cert.KernelIdeal.Gen.facts Cert.Kernel.Gen.facts₀ Cert.KernelIdeal.Gen.facts₀

variable {F : FTy → Type} [FloatOps F]

/-- The body called is the same. -/
theorem body_same (k l a) : Cert.Kernel.defs₀ (F := F) k l a = Cert.KernelIdeal.defs₀ (F := F) k l a := by
  cases k with
  | tc =>
    obtain ⟨l, hl⟩ := l
    cases l with
    | zero => obtain ⟨t, s⟩ := a; rfl
    | succ l => exact absurd hl (by omega)
  | scScalar _ => rfl
  | scVector _ _ => rfl

theorem bodies_same : Cert.Kernel.defs₀ (F := F) = Cert.KernelIdeal.defs₀ (F := F) := by
  funext k l a; exact body_same k l a

/-- The procedures are the same. -/
theorem defs_same : Cert.Kernel.defs (F := F) = Cert.KernelIdeal.defs (F := F) :=
  congrArg (fun d => Pipeline.defs (Cert.KernelIdeal.pcfgs (F := F)) d) (bodies_same (F := F))

/-- The main program is the same. -/
theorem main_same (c) : Cert.Kernel.main (F := F) c = Cert.KernelIdeal.main (F := F) c := rfl

open Cert.KernelIdeal Cert.KernelIdeal.Tp in
/-- The run, as the claims state it: the result, the arguments unchanged, the counters at zero. -/
theorem run (m : (ℓ : Loc nD τ sig) → Buf (Elt F) ℓ) (g : Dev nD → PrngReg) :
    θ_run (defs (F := F)) (onTc (τ := τ) (main (F := F))) ⟨m, fun _ => 0, g⟩ (fun r => (∀ c : Dev nD,
      r.2.mem ((c.tc : Thread nD τ).loc main_v1) = (inp m).flat 3 c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun _ h => ⟨fun c =>
    ⟨(h.1 c (7 : Fin 8)).trans (finalA_out m c),
     (h.1 c (0 : Fin 8)).trans (finalA_in m c (0 : Fin 8) rfl), (h.1 c (1 : Fin 8)).trans (finalA_in m c (1 : Fin 8) rfl),
     (h.1 c (3 : Fin 8)).trans (finalA_in m c (3 : Fin 8) rfl), (h.1 c (5 : Fin 8)).trans (finalA_in m c (5 : Fin 8) rfl),
     (h.1 c (2 : Fin 8)).trans (finalA_in m c (2 : Fin 8) rfl), (h.1 c (4 : Fin 8)).trans (finalA_in m c (4 : Fin 8) rfl),
     (h.1 c (6 : Fin 8)).trans (finalA_in m c (6 : Fin 8) rfl)⟩, h.2⟩) (run_main (F := F) m g)

open Cert.KernelIdeal Cert.KernelIdeal.Tp in
/-- Of that run, the arguments and the counters. -/
theorem run_args (m : (ℓ : Loc nD τ sig) → Buf (Elt F) ℓ) (g : Dev nD → PrngReg) :
    θ_run (defs (F := F)) (onTc (τ := τ) (main (F := F))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun _ h => ⟨fun c => (h.1 c).2, h.2⟩) (run m g)

/-- The frame of the kernel read exactly. -/
theorem frame_ideal : Cert.quiescent_KernelIdeal (hKernelIdeal := Cert.KernelIdeal.Gen.facts) := fun m g _ =>
  run_args (F := Ideal) m g

/-- The same run, of the text as printed. -/
theorem run_bits (m : (ℓ : Loc Cert.Kernel.nD Cert.Kernel.τ Cert.Kernel.sig) → Buf (Elt Bits) ℓ) (g : Dev Cert.Kernel.nD → PrngReg) :
    θ_run (Cert.Kernel.defs (F := Bits)) (onTc (τ := Cert.Kernel.τ) (Cert.Kernel.main (F := Bits))) ⟨m, fun _ => 0, g⟩ (fun r =>
      (∀ c : Dev Cert.Kernel.nD,
        r.2.mem ((c.tc : Thread Cert.Kernel.nD Cert.Kernel.τ).loc Cert.Kernel.main_arg0) = m ((c.tc : Thread Cert.Kernel.nD Cert.Kernel.τ).loc Cert.Kernel.main_arg0)
        ∧ r.2.mem ((c.tc : Thread Cert.Kernel.nD Cert.Kernel.τ).loc Cert.Kernel.main_arg1) = m ((c.tc : Thread Cert.Kernel.nD Cert.Kernel.τ).loc Cert.Kernel.main_arg1)
        ∧ r.2.mem ((c.tc : Thread Cert.Kernel.nD Cert.Kernel.τ).loc Cert.Kernel.main_arg2) = m ((c.tc : Thread Cert.Kernel.nD Cert.Kernel.τ).loc Cert.Kernel.main_arg2)
        ∧ r.2.mem ((c.tc : Thread Cert.Kernel.nD Cert.Kernel.τ).loc Cert.Kernel.main_arg3) = m ((c.tc : Thread Cert.Kernel.nD Cert.Kernel.τ).loc Cert.Kernel.main_arg3)
        ∧ r.2.mem ((c.tc : Thread Cert.Kernel.nD Cert.Kernel.τ).loc Cert.Kernel.main_arg4) = m ((c.tc : Thread Cert.Kernel.nD Cert.Kernel.τ).loc Cert.Kernel.main_arg4)
        ∧ r.2.mem ((c.tc : Thread Cert.Kernel.nD Cert.Kernel.τ).loc Cert.Kernel.main_arg5) = m ((c.tc : Thread Cert.Kernel.nD Cert.Kernel.τ).loc Cert.Kernel.main_arg5)
        ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0) := by
  have h := run_args (F := Bits) m g
  rw [defs_same]
  exact h

/-- The frame of the kernel as printed. -/
theorem frame_bits : Cert.quiescent_Kernel (hKernel := Cert.Kernel.Gen.facts) := fun m g _ => run_bits m g

end Cert.Same

end
-- ==== Proof.Value.lean ====
module

public import proofs.«01_k».proof.Defs
public import proofs.«01_k».proof.Proof.Split
public import proofs.«01_k».proof.Proof.Gen.ReferenceIdeal
public import Idealize.ShloMosaic.Lib.MatmulPlain
public import Idealize.ShloMosaic.Lib.StackMember
public import Idealize.ShloMosaic.Lib.ValueLayout
public import Idealize.ShloMosaic.Lib.Layout
public import proofs.«01_k».proof.Proof.Launch

@[expose] public section

set_option maxRecDepth 16384

/-!
# The values

What a device holds after each layer is its column block of the layer's whole product, over the
extended reals: the tiles of the partial products, summed over the four devices, are tiles of the
whole contraction.
-/

noncomputable section

namespace Cert.KernelIdeal.Tp

open Idealize.ShloMosaic
open Cert.KernelIdeal Facts₀ Facts
open scoped BigOperators

/-! ## The operations at an index -/

/-- The two ways of writing an index by its coordinates agree. -/
theorem vix2 {a b : ℕ} (i : Fin a) (j : Fin b) : ValueIdx.ix2 i j = ix2 i j := by
  funext d; match d with | ⟨0, _⟩ => rfl | ⟨1, _⟩ => rfl

/-- An entry of a tile of a partial product. -/
theorem dot_at (x : T256 Ideal) (w : S256x128.Idx → EReal) (r n : Fin 128) :
    (dotVal x w : T128 Ideal) (ix2 r n) = ∑ j : Fin 256, x (ix2 r j) * w (ix2 j n) := by
  unfold dotVal
  rw [shapeCast_self, shapeCast_self]
  refine (Ideal.matmul_plain_apply (M := 128) (K := 256) (N := 128) none x w (constant S128x128 .f32 0x00000000#32) r n).trans ?_
  show Ideal.ofBits .f32 0x00000000#32 + _ = _
  rw [Ideal.ofBits_zero_f32, zero_add]
  simp only [vix2]

/-- An entry of a row block of the second product. -/
theorem row_at (h : S128x512.Idx → EReal) (u : S512x256.Idx → EReal) (r : Fin 128) (j : Fin 256) :
    (rowVal (F := Ideal) h u : T256 Ideal) (ix2 r j) = ∑ k : Fin 512, h (ix2 r k) * u (ix2 k j) := by
  unfold rowVal
  rw [shapeCast_self, shapeCast_self]
  refine (Ideal.matmul_plain_apply (M := 128) (K := 512) (N := 256) none h u (constant S128x256 .f32 0x00000000#32) r j).trans ?_
  show Ideal.ofBits .f32 0x00000000#32 + _ = _
  rw [Ideal.ofBits_zero_f32, zero_add]
  simp only [vix2]

theorem unsq_at (X : T128 Ideal) (r n : Fin 128) :
    shapeCast S128x128 (unsq X) shapeCasts_S1x128x128_S128x128 (ix2 r n) = X (ix2 r n) :=
  (congrArg _ (vix2 r n).symm).trans (ValueIdx.shapeCast_1ab_ab_apply (a := 128) (b := 128) (unsq X) _ r n)

theorem add_at (a b : T128 Ideal) (r n : Fin 128) : (addVal a (unsq b) : T128 Ideal) (ix2 r n) = (a (ix2 r n) + b (ix2 r n) : EReal) := by
  unfold addVal
  rw [shapeCast_self]
  show (a (ix2 r n) + shapeCast S128x128 (unsq b) shapeCasts_S1x128x128_S128x128 (ix2 r n) : EReal) = _
  rw [unsq_at]

/-- The zero that both programs cut off at. -/
abbrev cutoff : EReal := Ideal.ofBits .f32 0x00000000#32

theorem relu_at (a b : T128 Ideal) (r n : Fin 128) :
    (reluVal a (unsq b) : T128 Ideal) (ix2 r n) = max (a (ix2 r n) + b (ix2 r n) : EReal) cutoff := by
  unfold reluVal
  rw [shapeCast_self]
  show max (a (ix2 r n) + shapeCast S128x128 (unsq b) shapeCasts_S1x128x128_S128x128 (ix2 r n) : EReal) cutoff = _
  rw [unsq_at]

/-! ## Whole arrays -/

/-- A row of the whole arrays, by row block. -/
abbrev rowI (b : Fin 4) (r : Fin 128) : Fin 512 := ⟨128 * b.val + r.val, by omega⟩
/-- A column of the whole activations, by device. -/
abbrev colI (c : Dev nD) (j : Fin 256) : Fin 1024 := ⟨c.val * 256 + j.val, by have : c.val < 4 := c.isLt; omega⟩

/-- The activations, the first and the second weight, the hidden layer, whole. -/
abbrev Act := (⟨2, ![512, 1024]⟩ : Shape).Idx → EReal
@[inherit_doc Act] abbrev Wt := (⟨2, ![1024, 512]⟩ : Shape).Idx → EReal
@[inherit_doc Act] abbrev Hid := (⟨2, ![512, 512]⟩ : Shape).Idx → EReal

/-- The hidden layer, whole. -/
def hidden (G : Act) (W : Wt) : Hid := fun i =>
  max (∑ j : Fin 1024, G (ix2 (i 0) j) * W (ix2 j (i 1))) cutoff
/-- The layer, whole. -/
def layerOut (G : Act) (W : Wt) (U : Act) : Act := fun i => ∑ k : Fin 512, hidden G W (ix2 (i 0) k) * U (ix2 k (i 1))

/-- One device's part of an entry of the first product. -/
def part (G : Act) (W : Wt) (R : Fin 512) (C : Fin 512) (d : Dev nD) : EReal :=
  ∑ j : Fin 256, G (ix2 R (colI d j)) * W (ix2 (colI d j) C)

/-- A contraction is the sum of the devices' parts. -/
theorem sum_parts (g : Fin 1024 → EReal) : ∑ j, g j = ∑ d : Dev nD, ∑ j : Fin 256, g (colI d j) := by
  rw [← Equiv.sum_comp (finProdFinEquiv (m := 4) (n := 256)) g, Fintype.sum_prod_type]
  refine Finset.sum_congr rfl fun d _ => Finset.sum_congr rfl fun j _ => congrArg g (Fin.ext ?_)
  exact (Nat.add_comm j.val (256 * d.val)).trans (congrArg (· + j.val) (Nat.mul_comm 256 d.val))

/-- The four devices, from any of them: the pair of the first exchange, then the other pair. -/
theorem sum_pairs (P : Dev nD → EReal) (f : Bool) (c : Dev nD) :
    (P c + P (p1 f c)) + (P (p2 f c) + P (p1 f (p2 f c))) = ∑ d : Dev nD, P d := by
  have h4 : ∑ d : Dev nD, P d = P 0 + P 1 + P 2 + P 3 := Fin.sum_univ_four P
  rw [h4]
  have h : ∀ c : Dev nD, ∀ f, [c, p1 f c, p2 f c, p1 f (p2 f c)].Perm [(0 : Dev nD), 1, 2, 3] := by decide
  have hs := ((h c f).map P).sum_eq
  simp only [List.map_cons, List.map_nil, List.sum_cons, List.sum_nil, add_zero] at hs
  rw [add_assoc, hs, add_assoc, add_assoc]

/-! ## One layer -/

/-- The blocks of every device are parts of one whole array. -/
def Of (X : Blocks Ideal) (G : Act) : Prop :=
  ∀ (c : Dev nD) (k f : Bool) (r : Fin 128) (j : Fin 256), X c k f (ix2 r j) = G (ix2 (rowI (blk c k f) r) (colI c j))

section Layer

variable {w : Dev nD → S256x512.Idx → Elt Ideal .f32} {u : Dev nD → S512x256.Idx → Elt Ideal .f32} {X : Blocks Ideal}
  {G : Act} {W : Wt} {U : Act}
  (hX : Of X G) (hw : ∀ (c : Dev nD) (j : Fin 256) (n : Fin 512), w c (ix2 j n) = W (ix2 (colI c j) n))
  (hu : ∀ (c : Dev nD) (k : Fin 512) (j : Fin 256), u c (ix2 k j) = U (ix2 k (colI c j)))

/-- A column of the hidden layer, by column block. -/
abbrev hcol (q : Fin 4) (n : Fin 128) : Fin 512 := ⟨128 * q.val + n.val, by omega⟩

include hX hw in
/-- A tile of a device's partial product is the device's part. -/
theorem prod_at (c : Dev nD) (k f : Bool) (q : Fin 4) (r n : Fin 128) :
    prodT w X c k f q (ix2 r n) = part G W (rowI (blk c k f) r) (hcol q n) c := by
  unfold prodT part
  rw [dot_at]
  refine Finset.sum_congr rfl fun j _ => ?_
  have he : (colR q).emb (ix2 j n) = (ix2 j (hcol q n) : S256x512.Idx) := by
    funext a; apply Fin.ext
    match a with
    | 0 => simp [Rect.emb_apply, ix2]
    | 1 => simp [Rect.emb_apply, ix2]
  rw [hX, he, hw]

include hX hw in
/-- The sum over a pair. -/
theorem sumA_at (c : Dev nD) (f : Bool) (q : Fin 4) (r n : Fin 128) :
    sumA w X c f q (ix2 r n) = (part G W (rowI (blk c true f) r) (hcol q n) c + part G W (rowI (blk c true f) r) (hcol q n) (p1 f c) : EReal) := by
  unfold sumA sumS
  rw [add_at, prod_at hX hw, prod_at hX hw, show blk (p1 f c) false f = blk c true f from by revert c f; decide]

include hX hw in
/-- The tile of the hidden layer that a device computes. -/
theorem hidK_at (c : Dev nD) (f : Bool) (q : Fin 4) (r n : Fin 128) :
    hidK w X c f q (ix2 r n) = hidden G W (ix2 (rowI (blk c true f) r) (hcol q n)) := by
  unfold hidK
  rw [relu_at, sumA_at hX hw, sumA_at hX hw, show blk (p2 f c) true f = blk c true f from by revert c f; decide,
    sum_pairs (part G W (rowI (blk c true f) r) (hcol q n))]
  unfold hidden
  rw [sum_parts]
  rfl

include hX hw in
/-- The tile of the hidden layer of a kept or a received row block. -/
theorem hidT_at (c : Dev nD) (k f : Bool) (q : Fin 4) (r n : Fin 128) :
    hidT w X c k f q (ix2 r n) = hidden G W (ix2 (rowI (blk c k f) r) (hcol q n)) := by
  unfold hidT
  cases k with
  | true => exact hidK_at hX hw c f q r n
  | false =>
    refine (hidK_at hX hw (p1 f c) f q r n).trans ?_
    rw [show blk (p1 f c) true f = blk c false f from by revert c f; decide]

include hX hw in
/-- A row block of the hidden layer. -/
theorem hidRow_at (c : Dev nD) (k f : Bool) (r : Fin 128) (n : Fin 512) :
    hidRow w X c k f (ix2 r n) = hidden G W (ix2 (rowI (blk c k f) r) n) := by
  unfold hidRow
  refine (hidT_at hX hw c k f _ _ _).trans ?_
  refine congrArg (fun n => hidden G W (ix2 (rowI (blk c k f) r) n)) (Fin.ext ?_)
  show 128 * (n.val / 128) + n.val % 128 = n.val
  omega

include hX hw hu in
/-- After a layer the blocks are parts of the whole layer. -/
theorem out_of : Of (outRow w u X) (layerOut G W U) := fun c k f r j => by
  unfold outRow
  rw [row_at]
  unfold layerOut
  refine Finset.sum_congr rfl fun m _ => ?_
  rw [hidRow_at hX hw, hu]
  rfl

end Layer

/-! ## The reference's layer -/

/-- The reference's layer as it is printed. -/
def refLayer (G : Act) (W : Wt) (U : Act) : Act :=
  Host.dotGeneral (F := Ideal) (φ₁ := .f32) (φ₂ := .f32) (DotDims.plain 512 512 1024) none
    (maximumf (F := Ideal) (φ := .f32) (Host.dotGeneral (F := Ideal) (φ₁ := .f32) (φ₂ := .f32) (DotDims.plain 512 1024 512) none G W)
      (broadcastInDim ⟨2, ![512, 512]⟩ ![] (by decide) (constant (F := Ideal) ⟨0, ![]⟩ .f32 0x00000000#32))) U

/-- The reference's layer, entry by entry. -/
theorem refLayer_eq (G : Act) (W : Wt) (U : Act) : refLayer G W U = layerOut G W U := by
  funext i
  obtain ⟨a, b, rfl⟩ : ∃ (a : Fin 512) (b : Fin 1024), i = ValueIdx.ix2 a b := ⟨i 0, i 1, ValueIdx.eq_ix2 i⟩
  unfold refLayer layerOut
  refine (StackMember.dotGeneral_plain_apply (m := 512) (k := 512) (n := 1024) none _ U a b).trans ?_
  refine Finset.sum_congr rfl fun k _ => ?_
  rw [vix2 k b]
  refine congrArg₂ _ ?_ rfl
  show max (Host.dotGeneral (F := Ideal) (φ₁ := .f32) (φ₂ := .f32) (DotDims.plain 512 1024 512) none G W (ValueIdx.ix2 a k) : EReal) cutoff = _
  rw [StackMember.dotGeneral_plain_apply (m := 512) (k := 1024) (n := 512) none G W a k]
  simp only [vix2]
  rfl

/-! ## The blocks of the whole arrays -/

theorem block_rows (W : Wt) (c : Dev nD) (j : Fin 256) (n : Fin 512) :
    Layout.block ⟨2, ![256, 512]⟩ ⟨2, ![1024, 512]⟩ 0 4 c W (by decide) (ix2 j n) = W (ix2 (colI c j) n) := by
  show W _ = _
  refine congrArg W ?_
  funext d
  match d with | ⟨0, _⟩ => rfl | ⟨1, _⟩ => rfl

theorem block_cols (U : Act) (c : Dev nD) (k : Fin 512) (j : Fin 256) :
    Layout.block ⟨2, ![512, 256]⟩ ⟨2, ![512, 1024]⟩ 1 4 c U (by decide) (ix2 k j) = U (ix2 k (colI c j)) := by
  show U _ = _
  refine congrArg U ?_
  funext d
  match d with | ⟨0, _⟩ => rfl | ⟨1, _⟩ => rfl

/-- The blocks a device starts with. -/
theorem start_of (A : Inp Ideal) (G : Act) (hx : ∀ c : Dev nD, A.x c = Layout.block ⟨2, ![512, 256]⟩ ⟨2, ![512, 1024]⟩ 1 4 c G (by decide)) :
    Of (A.X 0) G := fun c k f r j => by
  show A.x c ((rowR (blk c k f)).emb (ix2 r j)) = _
  have he : (rowR (blk c k f)).emb (ix2 r j) = (ix2 (rowI (blk c k f) r) j : S512x256.Idx) := by
    funext a; apply Fin.ext
    match a with
    | 0 => simp [Rect.emb_apply, ix2]
    | 1 => simp [Rect.emb_apply, ix2]
  rw [he, hx, block_cols]

/-- Blocks that are parts of a whole array make up a device's column block of it. -/
theorem flat_of (A : Inp Ideal) (l : ℕ) (G : Act) (h : Of (A.X l) G) (c : Dev nD) :
    A.flat l c = Layout.block ⟨2, ![512, 256]⟩ ⟨2, ![512, 1024]⟩ 1 4 c G (by decide) := by
  funext i
  obtain ⟨a, b, rfl⟩ : ∃ (a : Fin 512) (b : Fin 256), i = ix2 a b := ⟨i 0, i 1, eq_ix2 i⟩
  rw [block_cols]
  unfold Inp.flat
  refine (h _ _ _ _ _).trans (congrArg G ?_)
  rw [blk_of]
  refine congrArg (fun a => ix2 a (colI c b)) (Fin.ext ?_)
  show 128 * (a.val / 128) + a.val % 128 = a.val
  omega

/-- What a device ends with is its column block of the three layers of the whole arrays. -/
theorem three_layers (A : Inp Ideal) (G : Act) (W : ℕ → Wt) (U : ℕ → Act)
    (hx : ∀ c : Dev nD, A.x c = Layout.block ⟨2, ![512, 256]⟩ ⟨2, ![512, 1024]⟩ 1 4 c G (by decide))
    (hw : ∀ l < 3, ∀ c : Dev nD, A.wi l c = Layout.block ⟨2, ![256, 512]⟩ ⟨2, ![1024, 512]⟩ 0 4 c (W l) (by decide))
    (hu : ∀ l < 3, ∀ c : Dev nD, A.wo l c = Layout.block ⟨2, ![512, 256]⟩ ⟨2, ![512, 1024]⟩ 1 4 c (U l) (by decide)) (c : Dev nD) :
    A.flat 3 c = Layout.block ⟨2, ![512, 256]⟩ ⟨2, ![512, 1024]⟩ 1 4 c
      (refLayer (refLayer (refLayer G (W 0) (U 0)) (W 1) (U 1)) (W 2) (U 2)) (by decide) := by
  have step : ∀ l, l < 3 → ∀ H : Act, Of (A.X l) H → Of (A.X (l + 1)) (refLayer H (W l) (U l)) := fun l hl H h => by
    rw [refLayer_eq]
    exact out_of h (fun c j n => by rw [hw l hl, block_rows]) (fun c k j => by rw [hu l hl, block_cols])
  exact flat_of A 3 _ (step 2 (by decide) _ (step 1 (by decide) _ (step 0 (by decide) _ (start_of A G hx)))) c

end Cert.KernelIdeal.Tp

end
-- ==== Proof.lean ====
module

public import proofs.«01_k».proof.Defs
public import proofs.«01_k».proof.Proof.Same
public import proofs.«01_k».proof.Proof.Value
public import proofs.«01_k».proof.Proof.Gen.ReferenceIdeal.Run
public import Idealize.ShloMosaic.Lib.Quiescent

@[expose] public section

noncomputable section

namespace Cert.Proof

open Idealize.ShloMosaic Idealize.SL.Sem

/-- The frame of the reference. -/
theorem frame_reference : Cert.quiescent_ReferenceIdeal (hReferenceIdeal := Cert.ReferenceIdeal.Gen.facts) := fun m g _ =>
  (θ_run Cert.ReferenceIdeal.defs _ _).mono (fun r h => ⟨fun c => (h c).2, sem_eq_zero_of_no_sems (by decide) r.2⟩)
    (Cert.ReferenceIdeal.Value.run m g)

/-- Over the reals, each device's result is its column block of the reference's. -/
theorem value : Cert.algebraic_KernelIdeal_ReferenceIdeal (hKernelIdeal := Cert.KernelIdeal.Gen.facts) (hReferenceIdeal := Cert.ReferenceIdeal.Gen.facts) :=
  fun m g m' g' _ hm =>
    let A (b : Ref Cert.ReferenceIdeal.sig .tc) := m' (((0 : Dev Cert.ReferenceIdeal.nD).tc : Thread Cert.ReferenceIdeal.nD Cert.ReferenceIdeal.τ).loc b)
    ⟨Cert.KernelIdeal.Tp.refLayer (Cert.KernelIdeal.Tp.refLayer (Cert.KernelIdeal.Tp.refLayer
        (A Cert.ReferenceIdeal.main_arg0) (A Cert.ReferenceIdeal.main_arg1) (A Cert.ReferenceIdeal.main_arg4))
        (A Cert.ReferenceIdeal.main_arg2) (A Cert.ReferenceIdeal.main_arg5)) (A Cert.ReferenceIdeal.main_arg3) (A Cert.ReferenceIdeal.main_arg6),
      (θ_run Cert.KernelIdeal.defs _ _).mono (fun r h c => ⟨(h.1 c).1.trans
        (Cert.KernelIdeal.Tp.three_layers (Cert.KernelIdeal.Tp.inp m) (A Cert.ReferenceIdeal.main_arg0)
          (fun l => match l with | 0 => A Cert.ReferenceIdeal.main_arg1 | 1 => A Cert.ReferenceIdeal.main_arg2 | _ => A Cert.ReferenceIdeal.main_arg3)
          (fun l => match l with | 0 => A Cert.ReferenceIdeal.main_arg4 | 1 => A Cert.ReferenceIdeal.main_arg5 | _ => A Cert.ReferenceIdeal.main_arg6)
          (fun c => (hm c).1)
          (fun l hl c => match l, hl with
            | 0, _ => (hm c).2.1 | 1, _ => (hm c).2.2.1 | 2, _ => (hm c).2.2.2.1)
          (fun l hl c => match l, hl with
            | 0, _ => (hm c).2.2.2.2.1 | 1, _ => (hm c).2.2.2.2.2.1 | 2, _ => (hm c).2.2.2.2.2.2) c), (h.1 c).2⟩)
        (Cert.Same.run (F := Ideal) m g),
      (θ_run Cert.ReferenceIdeal.defs _ _).mono (fun r h => h 0) (Cert.ReferenceIdeal.Value.run m' g')⟩

/-- Every claim. -/
theorem claim : Cert.Claim := ⟨Cert.Kernel.Gen.facts, Cert.KernelIdeal.Gen.facts, Cert.ReferenceIdeal.Gen.facts,
  Cert.Same.frame_bits, Cert.Same.frame_ideal, frame_reference, trivial, value⟩

end Cert.Proof

end
